-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_are_finite [hPre_queries_and_keys_are_finite : Cert.Pre_queries_and_keys_are_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_are_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_are_finite [hPre_queries_and_keys_are_finite : Cert.Pre_queries_and_keys_are_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_scores_are_finite [hPre_scores_are_finite : Cert.Pre_scores_are_finite.Facts] (m : (ℓ : Loc Cert.FoxIdeal.nD Cert.FoxIdeal.τ Cert.FoxIdeal.sig) → Buf (Elt Ideal) ℓ) : Prop :=
  ∀ c : Dev Cert.FoxIdeal.nD,
    (Cert.Pre_scores_are_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_scores_are_finite [hPre_scores_are_finite : Cert.Pre_scores_are_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_scores_are_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Cum (m : (ℓ : Loc Cert.Cum.nD Cert.Cum.τ Cert.Cum.sig) → Buf (Elt Bits) ℓ) : Prop :=
  True

def Pre_CumIdeal (m : (ℓ : Loc Cert.CumIdeal.nD Cert.CumIdeal.τ Cert.CumIdeal.sig) → Buf (Elt Ideal) ℓ) : Prop :=
  True

def Pre_CumReferenceIdeal (m : (ℓ : Loc Cert.CumReferenceIdeal.nD Cert.CumReferenceIdeal.τ Cert.CumReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_queries_and_keys_are_finite [hKernelIdeal : Cert.KernelIdeal.Facts] [hPre_queries_and_keys_are_finite : Cert.Pre_queries_and_keys_are_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_are_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_queries_and_keys_are_finite [hReferenceIdeal : Cert.ReferenceIdeal.Facts] [hPre_queries_and_keys_are_finite : Cert.Pre_queries_and_keys_are_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_are_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_scores_are_finite [hFoxIdeal : Cert.FoxIdeal.Facts] [hPre_scores_are_finite : Cert.Pre_scores_are_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_scores_are_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1))
      ∧ r.2.sem = fun _ => 0)

def quiescent_FoxReferenceIdeal_pre_scores_are_finite [hFoxReferenceIdeal : Cert.FoxReferenceIdeal.Facts] [hPre_scores_are_finite : Cert.Pre_scores_are_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_scores_are_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_Cum [hCum : Cert.Cum.Facts] : Prop :=
  ∀ (m : (ℓ : Loc Cert.Cum.nD Cert.Cum.τ Cert.Cum.sig) → Buf (Elt Bits) ℓ) (g : Dev Cert.Cum.nD → PrngReg), Pre_Cum m →
    θ_run (Cert.Cum.defs (F := Bits)) (onTc (τ := Cert.Cum.τ) (Cert.Cum.main (F := Bits))) ⟨m, fun _ => 0, g⟩ (fun r => (∀ c : Dev Cert.Cum.nD,
      r.2.mem ((c.tc : Thread Cert.Cum.nD Cert.Cum.τ).loc Cert.Cum.main_arg0) = m ((c.tc : Thread Cert.Cum.nD Cert.Cum.τ).loc Cert.Cum.main_arg0)
      ∧ r.2.mem ((c.tc : Thread Cert.Cum.nD Cert.Cum.τ).loc Cert.Cum.main_arg1) = m ((c.tc : Thread Cert.Cum.nD Cert.Cum.τ).loc Cert.Cum.main_arg1))
      ∧ r.2.sem = fun _ => 0)

def quiescent_CumIdeal [hCumIdeal : Cert.CumIdeal.Facts] : Prop :=
  ∀ (m : (ℓ : Loc Cert.CumIdeal.nD Cert.CumIdeal.τ Cert.CumIdeal.sig) → Buf (Elt Ideal) ℓ) (g : Dev Cert.CumIdeal.nD → PrngReg), Pre_CumIdeal m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0)
      ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ r.2.sem = fun _ => 0)

def quiescent_CumReferenceIdeal [hCumReferenceIdeal : Cert.CumReferenceIdeal.Facts] : Prop :=
  ∀ (m : (ℓ : Loc Cert.CumReferenceIdeal.nD Cert.CumReferenceIdeal.τ Cert.CumReferenceIdeal.sig) → Buf (Elt Ideal) ℓ) (g : Dev Cert.CumReferenceIdeal.nD → PrngReg), Pre_CumReferenceIdeal m →
    θ_run (Cert.CumReferenceIdeal.defs (F := Ideal)) (onTc (τ := Cert.CumReferenceIdeal.τ) (Cert.CumReferenceIdeal.main (F := Ideal))) ⟨m, fun _ => 0, g⟩ (fun r => (∀ c : Dev Cert.CumReferenceIdeal.nD,
      r.2.mem ((c.tc : Thread Cert.CumReferenceIdeal.nD Cert.CumReferenceIdeal.τ).loc Cert.CumReferenceIdeal.main_arg0) = m ((c.tc : Thread Cert.CumReferenceIdeal.nD Cert.CumReferenceIdeal.τ).loc Cert.CumReferenceIdeal.main_arg0)
      ∧ r.2.mem ((c.tc : Thread Cert.CumReferenceIdeal.nD Cert.CumReferenceIdeal.τ).loc Cert.CumReferenceIdeal.main_arg1) = m ((c.tc : Thread Cert.CumReferenceIdeal.nD Cert.CumReferenceIdeal.τ).loc Cert.CumReferenceIdeal.main_arg1))
      ∧ r.2.sem = fun _ => 0)

def preserves_Kernel_KernelIdeal : Prop :=
  True

def algebraic_KernelIdeal_ReferenceIdeal_pre_queries_and_keys_are_finite [hKernelIdeal : Cert.KernelIdeal.Facts] [hReferenceIdeal : Cert.ReferenceIdeal.Facts] [hPre_queries_and_keys_are_finite : Cert.Pre_queries_and_keys_are_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_are_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v17) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v30) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v20) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v14) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def preserves_Q_QIdeal : Prop :=
  True

def algebraic_QIdeal_QReferenceIdeal [hQIdeal : Cert.QIdeal.Facts] [hQReferenceIdeal : Cert.QReferenceIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QIdeal m →
    (∀ c : Dev Cert.QIdeal.nD,
      m' ((c.tc : Thread Cert.QReferenceIdeal.nD Cert.QReferenceIdeal.τ).loc Cert.QReferenceIdeal.main_arg0) = m ((c.tc : Thread Cert.QIdeal.nD Cert.QIdeal.τ).loc Cert.QIdeal.main_arg0)
      ∧ m' ((c.tc : Thread Cert.QReferenceIdeal.nD Cert.QReferenceIdeal.τ).loc Cert.QReferenceIdeal.main_arg1) = m ((c.tc : Thread Cert.QIdeal.nD Cert.QIdeal.τ).loc Cert.QIdeal.main_arg1)
      ∧ m' ((c.tc : Thread Cert.QReferenceIdeal.nD Cert.QReferenceIdeal.τ).loc Cert.QReferenceIdeal.main_arg2) = m ((c.tc : Thread Cert.QIdeal.nD Cert.QIdeal.τ).loc Cert.QIdeal.main_arg2)) →
    ∃ (v0 : (c : Dev Cert.QIdeal.nD) → Buf (Elt Ideal) ((c.tc : Thread Cert.QIdeal.nD Cert.QIdeal.τ).loc Cert.QIdeal.main_v2)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v2) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v16) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Fox_FoxIdeal : Prop :=
  IdealRules.named_const.Statement Cert.FoxIdeal.κ "mask" .f32 0xF149F2CA#32 ⊥

def algebraic_FoxIdeal_FoxReferenceIdeal_pre_scores_are_finite [hFoxIdeal : Cert.FoxIdeal.Facts] [hFoxReferenceIdeal : Cert.FoxReferenceIdeal.Facts] [hPre_scores_are_finite : Cert.Pre_scores_are_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_scores_are_finite m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v3) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v37) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v14) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_Cum_CumIdeal : Prop :=
  True

def algebraic_CumIdeal_CumReferenceIdeal [hCumIdeal : Cert.CumIdeal.Facts] [hCumReferenceIdeal : Cert.CumReferenceIdeal.Facts] : Prop :=
  ∀ (m : (ℓ : Loc Cert.CumIdeal.nD Cert.CumIdeal.τ Cert.CumIdeal.sig) → Buf (Elt Ideal) ℓ) (g : Dev Cert.CumIdeal.nD → PrngReg)
    (m' : (ℓ : Loc Cert.CumReferenceIdeal.nD Cert.CumReferenceIdeal.τ Cert.CumReferenceIdeal.sig) → Buf (Elt Ideal) ℓ) (g' : Dev Cert.CumReferenceIdeal.nD → PrngReg), Pre_CumIdeal m →
    (∀ c : Dev Cert.CumIdeal.nD,
      m' ((c.tc : Thread Cert.CumReferenceIdeal.nD Cert.CumReferenceIdeal.τ).loc Cert.CumReferenceIdeal.main_arg0) = m ((c.tc : Thread Cert.CumIdeal.nD Cert.CumIdeal.τ).loc Cert.CumIdeal.main_arg0)
      ∧ m' ((c.tc : Thread Cert.CumReferenceIdeal.nD Cert.CumReferenceIdeal.τ).loc Cert.CumReferenceIdeal.main_arg1) = m ((c.tc : Thread Cert.CumIdeal.nD Cert.CumIdeal.τ).loc Cert.CumIdeal.main_arg1)) →
    ∃ (v0 : (c : Dev Cert.CumIdeal.nD) → Buf (Elt Ideal) ((c.tc : Thread Cert.CumIdeal.nD Cert.CumIdeal.τ).loc Cert.CumIdeal.main_v3)),
      θ_run (Cert.CumIdeal.defs (F := Ideal)) (onTc (τ := Cert.CumIdeal.τ) (Cert.CumIdeal.main (F := Ideal))) ⟨m, fun _ => 0, g⟩ (fun r => ∀ c : Dev Cert.CumIdeal.nD,
          r.2.mem ((c.tc : Thread Cert.CumIdeal.nD Cert.CumIdeal.τ).loc Cert.CumIdeal.main_v3) = v0 c
          ∧ r.2.mem ((c.tc : Thread Cert.CumIdeal.nD Cert.CumIdeal.τ).loc Cert.CumIdeal.main_arg0) = m ((c.tc : Thread Cert.CumIdeal.nD Cert.CumIdeal.τ).loc Cert.CumIdeal.main_arg0)
          ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ θ_run (Cert.CumReferenceIdeal.defs (F := Ideal)) (onTc (τ := Cert.CumReferenceIdeal.τ) (Cert.CumReferenceIdeal.main (F := Ideal))) ⟨m', fun _ => 0, g'⟩ (fun r => ∀ c : Dev Cert.CumReferenceIdeal.nD,
          r.2.mem ((c.tc : Thread Cert.CumReferenceIdeal.nD Cert.CumReferenceIdeal.τ).loc Cert.CumReferenceIdeal.main_v6) = v0 c
          ∧ r.2.mem ((c.tc : Thread Cert.CumReferenceIdeal.nD Cert.CumReferenceIdeal.τ).loc Cert.CumReferenceIdeal.main_arg0) = m' ((c.tc : Thread Cert.CumReferenceIdeal.nD Cert.CumReferenceIdeal.τ).loc Cert.CumReferenceIdeal.main_arg0)
          ∧ r.2.mem ((c.tc : Thread Cert.CumReferenceIdeal.nD Cert.CumReferenceIdeal.τ).loc Cert.CumReferenceIdeal.main_arg1) = m' ((c.tc : Thread Cert.CumReferenceIdeal.nD Cert.CumReferenceIdeal.τ).loc Cert.CumReferenceIdeal.main_arg1))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hLast : Cert.Last.Facts) (hLastIdeal : Cert.LastIdeal.Facts) (hLastReferenceIdeal : Cert.LastReferenceIdeal.Facts) (hQkv : Cert.Qkv.Facts) (hQkvIdeal : Cert.QkvIdeal.Facts) (hQkvReferenceIdeal : Cert.QkvReferenceIdeal.Facts) (hKv : Cert.Kv.Facts) (hKvIdeal : Cert.KvIdeal.Facts) (hKvReferenceIdeal : Cert.KvReferenceIdeal.Facts) (hQ : Cert.Q.Facts) (hQIdeal : Cert.QIdeal.Facts) (hQReferenceIdeal : Cert.QReferenceIdeal.Facts) (hOut : Cert.Out.Facts) (hOutIdeal : Cert.OutIdeal.Facts) (hOutReferenceIdeal : Cert.OutReferenceIdeal.Facts) (hFox : Cert.Fox.Facts) (hFoxIdeal : Cert.FoxIdeal.Facts) (hFoxReferenceIdeal : Cert.FoxReferenceIdeal.Facts) (hGate : Cert.Gate.Facts) (hGateIdeal : Cert.GateIdeal.Facts) (hGateReferenceIdeal : Cert.GateReferenceIdeal.Facts) (hCum : Cert.Cum.Facts) (hCumIdeal : Cert.CumIdeal.Facts) (hCumReferenceIdeal : Cert.CumReferenceIdeal.Facts) (hPre_queries_and_keys_are_finite : Cert.Pre_queries_and_keys_are_finite.Facts) (hPre_scores_are_finite : Cert.Pre_scores_are_finite.Facts),
    quiescent_Kernel (hKernel := hKernel)
    ∧ quiescent_KernelIdeal (hKernelIdeal := hKernelIdeal)
    ∧ quiescent_KernelIdeal_pre_queries_and_keys_are_finite (hKernelIdeal := hKernelIdeal) (hPre_queries_and_keys_are_finite := hPre_queries_and_keys_are_finite)
    ∧ quiescent_ReferenceIdeal (hReferenceIdeal := hReferenceIdeal)
    ∧ quiescent_ReferenceIdeal_pre_queries_and_keys_are_finite (hReferenceIdeal := hReferenceIdeal) (hPre_queries_and_keys_are_finite := hPre_queries_and_keys_are_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Last (hLast := hLast)
    ∧ quiescent_LastIdeal (hLastIdeal := hLastIdeal)
    ∧ quiescent_LastReferenceIdeal (hLastReferenceIdeal := hLastReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Kv (hKv := hKv)
    ∧ quiescent_KvIdeal (hKvIdeal := hKvIdeal)
    ∧ quiescent_KvReferenceIdeal (hKvReferenceIdeal := hKvReferenceIdeal)
    ∧ quiescent_Q (hQ := hQ)
    ∧ quiescent_QIdeal (hQIdeal := hQIdeal)
    ∧ quiescent_QReferenceIdeal (hQReferenceIdeal := hQReferenceIdeal)
    ∧ quiescent_Out (hOut := hOut)
    ∧ quiescent_OutIdeal (hOutIdeal := hOutIdeal)
    ∧ quiescent_OutReferenceIdeal (hOutReferenceIdeal := hOutReferenceIdeal)
    ∧ quiescent_Fox (hFox := hFox)
    ∧ quiescent_FoxIdeal (hFoxIdeal := hFoxIdeal)
    ∧ quiescent_FoxIdeal_pre_scores_are_finite (hFoxIdeal := hFoxIdeal) (hPre_scores_are_finite := hPre_scores_are_finite)
    ∧ quiescent_FoxReferenceIdeal (hFoxReferenceIdeal := hFoxReferenceIdeal)
    ∧ quiescent_FoxReferenceIdeal_pre_scores_are_finite (hFoxReferenceIdeal := hFoxReferenceIdeal) (hPre_scores_are_finite := hPre_scores_are_finite)
    ∧ quiescent_Gate (hGate := hGate)
    ∧ quiescent_GateIdeal (hGateIdeal := hGateIdeal)
    ∧ quiescent_GateReferenceIdeal (hGateReferenceIdeal := hGateReferenceIdeal)
    ∧ quiescent_Cum (hCum := hCum)
    ∧ quiescent_CumIdeal (hCumIdeal := hCumIdeal)
    ∧ quiescent_CumReferenceIdeal (hCumReferenceIdeal := hCumReferenceIdeal)
    ∧ preserves_Kernel_KernelIdeal
    ∧ algebraic_KernelIdeal_ReferenceIdeal_pre_queries_and_keys_are_finite (hKernelIdeal := hKernelIdeal) (hReferenceIdeal := hReferenceIdeal) (hPre_queries_and_keys_are_finite := hPre_queries_and_keys_are_finite)
    ∧ preserves_Mlp_MlpIdeal
    ∧ algebraic_MlpIdeal_MlpReferenceIdeal (hMlpIdeal := hMlpIdeal) (hMlpReferenceIdeal := hMlpReferenceIdeal)
    ∧ preserves_Last_LastIdeal
    ∧ algebraic_LastIdeal_LastReferenceIdeal (hLastIdeal := hLastIdeal) (hLastReferenceIdeal := hLastReferenceIdeal)
    ∧ preserves_Qkv_QkvIdeal
    ∧ algebraic_QkvIdeal_QkvReferenceIdeal (hQkvIdeal := hQkvIdeal) (hQkvReferenceIdeal := hQkvReferenceIdeal)
    ∧ preserves_Kv_KvIdeal
    ∧ algebraic_KvIdeal_KvReferenceIdeal (hKvIdeal := hKvIdeal) (hKvReferenceIdeal := hKvReferenceIdeal)
    ∧ preserves_Q_QIdeal
    ∧ algebraic_QIdeal_QReferenceIdeal (hQIdeal := hQIdeal) (hQReferenceIdeal := hQReferenceIdeal)
    ∧ preserves_Out_OutIdeal
    ∧ algebraic_OutIdeal_OutReferenceIdeal (hOutIdeal := hOutIdeal) (hOutReferenceIdeal := hOutReferenceIdeal)
    ∧ preserves_Fox_FoxIdeal
    ∧ algebraic_FoxIdeal_FoxReferenceIdeal_pre_scores_are_finite (hFoxIdeal := hFoxIdeal) (hFoxReferenceIdeal := hFoxReferenceIdeal) (hPre_scores_are_finite := hPre_scores_are_finite)
    ∧ preserves_Gate_GateIdeal
    ∧ algebraic_GateIdeal_GateReferenceIdeal (hGateIdeal := hGateIdeal) (hGateReferenceIdeal := hGateReferenceIdeal)
    ∧ preserves_Cum_CumIdeal
    ∧ algebraic_CumIdeal_CumReferenceIdeal (hCumIdeal := hCumIdeal) (hCumReferenceIdeal := hCumReferenceIdeal)
-- ==== Pre_queries_and_keys_are_finite.lean ====
abbrev S8256x2048 : Shape := ⟨2, ![8256, 2048]⟩
abbrev S8256x4096 : Shape := ⟨2, ![8256, 4096]⟩
abbrev S_ : Shape := ⟨0, ![]⟩

class Facts : Prop where
  bitsLt_bf16_f32 : FTy.bits .bf16 < FTy.bits .f32
  bcast_S_S8256x2048 : S_.BroadcastsInDim S8256x2048 (![] : Fin 0 → Fin S8256x2048.rank)
  reducesTo_S8256x2048_S_d0_1 : S8256x2048.ReducesTo [0, 1] S_
  h_S_ : 0 < S_.numel
  slices_S8256x4096_S8256x2048_0_0 : S8256x4096.Slices ![0, 0] S8256x2048

variable [Facts]

def fn {F : FTy → Type} [FloatOps F] (main_arg0 : FVec F S8256x2048 .bf16) (main_arg1 : FVec F S8256x4096 .bf16) : IVec S_ 1 :=
  let main_v0 : FVec F S8256x2048 .f32 := (extf .f32 · bitsLt_bf16_f32) main_arg0
  let main_v1 : FVec F S8256x2048 .f32 := Host.absf main_v0
  let main_cst : FVec F S_ .f32 := constant S_ .f32 0x7F800000#32
  let main_v2 : FVec F S8256x2048 .f32 := broadcastInDim S8256x2048 ![] bcast_S_S8256x2048 main_cst
  let main_v3 : IVec S8256x2048 1 := cmpf .olt main_v1 main_v2
  let main_c : IVec S_ 1 := constantI S_ 1 1#1
  let main_v4 : IVec S_ 1 := (fun x v => Host.reduce IntOp.andi x v reducesTo_S8256x2048_S_d0_1 h_S_) main_v3 main_c
  let main_v5 : FVec F S8256x2048 .bf16 := (extractStridedSlice S8256x2048 ![0, 0] · slices_S8256x4096_S8256x2048_0_0) main_arg1
  let main_v6 : FVec F S8256x2048 .f32 := (extf .f32 · bitsLt_bf16_f32) main_v5
  let main_v7 : FVec F S8256x2048 .f32 := Host.absf main_v6
  let main_cst_0 : FVec F S_ .f32 := constant S_ .f32 0x7F800000#32
  let main_v8 : FVec F S8256x2048 .f32 := broadcastInDim S8256x2048 ![] bcast_S_S8256x2048 main_cst_0
  let main_v9 : IVec S8256x2048 1 := cmpf .olt main_v7 main_v8
  let main_c_1 : IVec S_ 1 := constantI S_ 1 1#1
  let main_v10 : IVec S_ 1 := (fun x v => Host.reduce IntOp.andi x v reducesTo_S8256x2048_S_d0_1 h_S_) main_v9 main_c_1
  let main_v11 : IVec S_ 1 := andi main_v4 main_v10
  main_v11
-- ==== Pre_scores_are_finite.lean ====
abbrev S8256x6144 : Shape := ⟨2, ![8256, 6144]⟩
abbrev S4x16x2064 : Shape := ⟨3, ![4, 16, 2064]⟩
abbrev S8256x4096 : Shape := ⟨2, ![8256, 4096]⟩
abbrev S_ : Shape := ⟨0, ![]⟩

class Facts : Prop where
  slices_S8256x6144_S8256x4096_0_0 : S8256x6144.Slices ![0, 0] S8256x4096
  bitsLt_bf16_f32 : FTy.bits .bf16 < FTy.bits .f32
  bcast_S_S8256x4096 : S_.BroadcastsInDim S8256x4096 (![] : Fin 0 → Fin S8256x4096.rank)
  reducesTo_S8256x4096_S_d0_1 : S8256x4096.ReducesTo [0, 1] S_
  h_S_ : 0 < S_.numel
  bcast_S_S4x16x2064 : S_.BroadcastsInDim S4x16x2064 (![] : Fin 0 → Fin S4x16x2064.rank)
  reducesTo_S4x16x2064_S_d0_1_2 : S4x16x2064.ReducesTo [0, 1, 2] S_

variable [Facts]

def fn {F : FTy → Type} [FloatOps F] (main_arg0 : FVec F S8256x6144 .bf16) (main_arg1 : FVec F S4x16x2064 .f32) : IVec S_ 1 :=
  let main_v0 : FVec F S8256x4096 .bf16 := (extractStridedSlice S8256x4096 ![0, 0] · slices_S8256x6144_S8256x4096_0_0) main_arg0
  let main_v1 : FVec F S8256x4096 .f32 := (extf .f32 · bitsLt_bf16_f32) main_v0
  let main_v2 : FVec F S8256x4096 .f32 := Host.absf main_v1
  let main_cst : FVec F S_ .f32 := constant S_ .f32 0x7F800000#32
  let main_v3 : FVec F S8256x4096 .f32 := broadcastInDim S8256x4096 ![] bcast_S_S8256x4096 main_cst
  let main_v4 : IVec S8256x4096 1 := cmpf .olt main_v2 main_v3
  let main_c : IVec S_ 1 := constantI S_ 1 1#1
  let main_v5 : IVec S_ 1 := (fun x v => Host.reduce IntOp.andi x v reducesTo_S8256x4096_S_d0_1 h_S_) main_v4 main_c
  let main_v6 : FVec F S4x16x2064 .f32 := Host.absf main_arg1
  let main_cst_0 : FVec F S_ .f32 := constant S_ .f32 0x7F800000#32
  let main_v7 : FVec F S4x16x2064 .f32 := broadcastInDim S4x16x2064 ![] bcast_S_S4x16x2064 main_cst_0
  let main_v8 : IVec S4x16x2064 1 := cmpf .olt main_v6 main_v7
  let main_c_1 : IVec S_ 1 := constantI S_ 1 1#1
  let main_v9 : IVec S_ 1 := (fun x v => Host.reduce IntOp.andi x v reducesTo_S4x16x2064_S_d0_1_2 h_S_) main_v8 main_c_1
  let main_v10 : IVec S_ 1 := andi main_v5 main_v9
  main_v10
-- ==== Kernel.lean ====
abbrev S8256x2048 : Shape := ⟨2, ![8256, 2048]⟩
abbrev S8256x4096 : Shape := ⟨2, ![8256, 4096]⟩
abbrev S2064x128 : Shape := ⟨2, ![2064, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S16x128 : Shape := ⟨2, ![16, 128]⟩
abbrev S16x16 : Shape := ⟨2, ![16, 16]⟩
abbrev S16 : Shape := ⟨1, ![16]⟩
abbrev S16x1 : Shape := ⟨2, ![16, 1]⟩
abbrev S16x256 : Shape := ⟨2, ![16, 256]⟩

abbrev nBuf : Space → Nat
  | .hbm => 3
  | .vmem => 8
  | .smem => 0
  | _ => 0

abbrev bufTy : (tb : Table) → Fin (tcTables nBuf tb) → BufTy
  | .hbm, ⟨0, _⟩ => ⟨S8256x2048, .bf16⟩
  | .hbm, ⟨1, _⟩ => ⟨S8256x4096, .bf16⟩
  | .hbm, ⟨2, _⟩ => ⟨S8256x2048, .bf16⟩
  | .local _ .vmem, ⟨0, _⟩ => ⟨S2064x128, .bf16⟩
  | .local _ .vmem, ⟨1, _⟩ => ⟨S2064x128, .bf16⟩
  | .local _ .vmem, ⟨2, _⟩ => ⟨S2064x128, .bf16⟩
  | .local _ .vmem, ⟨3, _⟩ => ⟨S2064x128, .bf16⟩
  | .local _ .vmem, ⟨4, _⟩ => ⟨S2064x128, .bf16⟩
  | .local _ .vmem, ⟨5, _⟩ => ⟨S2064x128, .bf16⟩
  | .local _ .vmem, ⟨6, _⟩ => ⟨S2064x128, .bf16⟩
  | .local _ .vmem, ⟨7, _⟩ => ⟨S2064x128, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 : BitVec 32 :=
  let c0_i32_40 : BitVec 32 := 0#32
  let c0_i32_39 : BitVec 32 := 0#32
  let v88 : BitVec 32 := Scalar.subi c0_i32_40 c0_i32_39
  let c256_i32 : BitVec 32 := 256#32
  let v89 : BitVec 32 := Scalar.muli v88 c256_i32
  v89
def k0_off1 : Fin 2 → Nat :=
  let c0_i32_40 : BitVec 32 := 0#32
  let c0_i32_39 : BitVec 32 := 0#32
  let v88 : BitVec 32 := Scalar.subi c0_i32_40 c0_i32_39
  let c256_i32 : BitVec 32 := 256#32
  let v89 : BitVec 32 := Scalar.muli v88 c256_i32
  let v90 : BitVec 32 := v89
  let v91 : Index := Scalar.indexCast v90
  let c0_41 : Index := 0#32
  ![v91.toNat, 0]
@[reducible] def k0_t1_loop : Scf.Loop 32 :=
  let c0_i32_72 : BitVec 32 := 0#32
  let c2_i32 : BitVec 32 := 2#32
  let v169 : BitVec 32 := Scalar.addi c0_i32_72 c2_i32
  let c1_i32_73 : BitVec 32 := 1#32
  ⟨c0_i32_72, v169, c1_i32_73⟩
def k0_mult2 (k0_t1 : Fin k0_t1_loop.trips) : BitVec 32 :=
  let c1_i32_211 : BitVec 32 := 1#32
  let c0_i32_72 : BitVec 32 := 0#32
  let c1_i32_73 : BitVec 32 := 1#32
  let arg6 : BitVec 32 := Scf.iv c0_i32_72 c1_i32_73 k0_t1
  let v438 : BitVec 32 := Scalar.subi c1_i32_211 arg6
  let c256_i32_212 : BitVec 32 := 256#32
  let v439 : BitVec 32 := Scalar.muli v438 c256_i32_212
  v439
def k0_off2 (k0_t1 : Fin k0_t1_loop.trips) : Fin 2 → Nat :=
  let c1_i32_211 : BitVec 32 := 1#32
  let c0_i32_72 : BitVec 32 := 0#32
  let c1_i32_73 : BitVec 32 := 1#32
  let arg6 : BitVec 32 := Scf.iv c0_i32_72 c1_i32_73 k0_t1
  let v438 : BitVec 32 := Scalar.subi c1_i32_211 arg6
  let c256_i32_212 : BitVec 32 := 256#32
  let v439 : BitVec 32 := Scalar.muli v438 c256_i32_212
  let v440 : BitVec 32 := v439
  let v441 : Index := Scalar.indexCast v440
  let c0_213 : Index := 0#32
  ![v441.toNat, 0]
@[reducible] def k0_t2_loop : Scf.Loop 32 :=
  let c0_i32_94 : BitVec 32 := 0#32
  let c3_i32 : BitVec 32 := 3#32
  let v212 : BitVec 32 := Scalar.addi c0_i32_94 c3_i32
  let c1_i32_95 : BitVec 32 := 1#32
  ⟨c0_i32_94, v212, c1_i32_95⟩
def k0_mult3 (k0_t2 : Fin k0_t2_loop.trips) : BitVec 32 :=
  let c2_i32_211 : BitVec 32 := 2#32
  let c0_i32_94 : BitVec 32 := 0#32
  let c1_i32_95 : BitVec 32 := 1#32
  let arg6 : BitVec 32 := Scf.iv c0_i32_94 c1_i32_95 k0_t2
  let v438 : BitVec 32 := Scalar.subi c2_i32_211 arg6
  let c256_i32_212 : BitVec 32 := 256#32
  let v439 : BitVec 32 := Scalar.muli v438 c256_i32_212
  v439
def k0_off3 (k0_t2 : Fin k0_t2_loop.trips) : Fin 2 → Nat :=
  let c2_i32_211 : BitVec 32 := 2#32
  let c0_i32_94 : BitVec 32 := 0#32
  let c1_i32_95 : BitVec 32 := 1#32
  let arg6 : BitVec 32 := Scf.iv c0_i32_94 c1_i32_95 k0_t2
  let v438 : BitVec 32 := Scalar.subi c2_i32_211 arg6
  let c256_i32_212 : BitVec 32 := 256#32
  let v439 : BitVec 32 := Scalar.muli v438 c256_i32_212
  let v440 : BitVec 32 := v439
  let v441 : Index := Scalar.indexCast v440
  let c0_213 : Index := 0#32
  ![v441.toNat, 0]
@[reducible] def k0_t3_loop : Scf.Loop 32 :=
  let c0_i32_116 : BitVec 32 := 0#32
  let c4_i32 : BitVec 32 := 4#32
  let v255 : BitVec 32 := Scalar.addi c0_i32_116 c4_i32
  let c1_i32_117 : BitVec 32 := 1#32
  ⟨c0_i32_116, v255, c1_i32_117⟩
def k0_mult4 (k0_t3 : Fin k0_t3_loop.trips) : BitVec 32 :=
  let c3_i32_211 : BitVec 32 := 3#32
  let c0_i32_116 : BitVec 32 := 0#32
  let c1_i32_117 : BitVec 32 := 1#32
  let arg6 : BitVec 32 := Scf.iv c0_i32_116 c1_i32_117 k0_t3
  let v438 : BitVec 32 := Scalar.subi c3_i32_211 arg6
  let c256_i32_212 : BitVec 32 := 256#32
  let v439 : BitVec 32 := Scalar.muli v438 c256_i32_212
  v439
def k0_off4 (k0_t3 : Fin k0_t3_loop.trips) : Fin 2 → Nat :=
  let c3_i32_211 : BitVec 32 := 3#32
  let c0_i32_116 : BitVec 32 := 0#32
  let c1_i32_117 : BitVec 32 := 1#32
  let arg6 : BitVec 32 := Scf.iv c0_i32_116 c1_i32_117 k0_t3
  let v438 : BitVec 32 := Scalar.subi c3_i32_211 arg6
  let c256_i32_212 : BitVec 32 := 256#32
  let v439 : BitVec 32 := Scalar.muli v438 c256_i32_212
  let v440 : BitVec 32 := v439
  let v441 : Index := Scalar.indexCast v440
  let c0_213 : Index := 0#32
  ![v441.toNat, 0]
@[reducible] def k0_t4_loop : Scf.Loop 32 :=
  let c0_i32_138 : BitVec 32 := 0#32
  let c5_i32 : BitVec 32 := 5#32
  let v298 : BitVec 32 := Scalar.addi c0_i32_138 c5_i32
  let c1_i32_139 : BitVec 32 := 1#32
  ⟨c0_i32_138, v298, c1_i32_139⟩
def k0_mult5 (k0_t4 : Fin k0_t4_loop.trips) : BitVec 32 :=
  let c4_i32_211 : BitVec 32 := 4#32
  let c0_i32_138 : BitVec 32 := 0#32
  let c1_i32_139 : BitVec 32 := 1#32
  let arg6 : BitVec 32 := Scf.iv c0_i32_138 c1_i32_139 k0_t4
  let v438 : BitVec 32 := Scalar.subi c4_i32_211 arg6
  let c256_i32_212 : BitVec 32 := 256#32
  let v439 : BitVec 32 := Scalar.muli v438 c256_i32_212
  v439
def k0_off5 (k0_t4 : Fin k0_t4_loop.trips) : Fin 2 → Nat :=
  let c4_i32_211 : BitVec 32 := 4#32
  let c0_i32_138 : BitVec 32 := 0#32
  let c1_i32_139 : BitVec 32 := 1#32
  let arg6 : BitVec 32 := Scf.iv c0_i32_138 c1_i32_139 k0_t4
  let v438 : BitVec 32 := Scalar.subi c4_i32_211 arg6
  let c256_i32_212 : BitVec 32 := 256#32
  let v439 : BitVec 32 := Scalar.muli v438 c256_i32_212
  let v440 : BitVec 32 := v439
  let v441 : Index := Scalar.indexCast v440
  let c0_213 : Index := 0#32
  ![v441.toNat, 0]
@[reducible] def k0_t5_loop : Scf.Loop 32 :=
  let c0_i32_160 : BitVec 32 := 0#32
  let c6_i32 : BitVec 32 := 6#32
  let v341 : BitVec 32 := Scalar.addi c0_i32_160 c6_i32
  let c1_i32_161 : BitVec 32 := 1#32
  ⟨c0_i32_160, v341, c1_i32_161⟩
def k0_mult6 (k0_t5 : Fin k0_t5_loop.trips) : BitVec 32 :=
  let c5_i32_211 : BitVec 32 := 5#32
  let c0_i32_160 : BitVec 32 := 0#32
  let c1_i32_161 : BitVec 32 := 1#32
  let arg6 : BitVec 32 := Scf.iv c0_i32_160 c1_i32_161 k0_t5
  let v438 : BitVec 32 := Scalar.subi c5_i32_211 arg6
  let c256_i32_212 : BitVec 32 := 256#32
  let v439 : BitVec 32 := Scalar.muli v438 c256_i32_212
  v439
def k0_off6 (k0_t5 : Fin k0_t5_loop.trips) : Fin 2 → Nat :=
  let c5_i32_211 : BitVec 32 := 5#32
  let c0_i32_160 : BitVec 32 := 0#32
  let c1_i32_161 : BitVec 32 := 1#32
  let arg6 : BitVec 32 := Scf.iv c0_i32_160 c1_i32_161 k0_t5
  let v438 : BitVec 32 := Scalar.subi c5_i32_211 arg6
  let c256_i32_212 : BitVec 32 := 256#32
  let v439 : BitVec 32 := Scalar.muli v438 c256_i32_212
  let v440 : BitVec 32 := v439
  let v441 : Index := Scalar.indexCast v440
  let c0_213 : Index := 0#32
  ![v441.toNat, 0]
@[reducible] def k0_t6_loop : Scf.Loop 32 :=
  let c0_i32_182 : BitVec 32 := 0#32
  let c7_i32 : BitVec 32 := 7#32
  let v384 : BitVec 32 := Scalar.addi c0_i32_182 c7_i32
  let c1_i32_183 : BitVec 32 := 1#32
  ⟨c0_i32_182, v384, c1_i32_183⟩
def k0_mult7 (k0_t6 : Fin k0_t6_loop.trips) : BitVec 32 :=
  let c6_i32_211 : BitVec 32 := 6#32
  let c0_i32_182 : BitVec 32 := 0#32
  let c1_i32_183 : BitVec 32 := 1#32
  let arg6 : BitVec 32 := Scf.iv c0_i32_182 c1_i32_183 k0_t6
  let v438 : BitVec 32 := Scalar.subi c6_i32_211 arg6
  let c256_i32_212 : BitVec 32 := 256#32
  let v439 : BitVec 32 := Scalar.muli v438 c256_i32_212
  v439
def k0_off7 (k0_t6 : Fin k0_t6_loop.trips) : Fin 2 → Nat :=
  let c6_i32_211 : BitVec 32 := 6#32
  let c0_i32_182 : BitVec 32 := 0#32
  let c1_i32_183 : BitVec 32 := 1#32
  let arg6 : BitVec 32 := Scf.iv c0_i32_182 c1_i32_183 k0_t6
  let v438 : BitVec 32 := Scalar.subi c6_i32_211 arg6
  let c256_i32_212 : BitVec 32 := 256#32
  let v439 : BitVec 32 := Scalar.muli v438 c256_i32_212
  let v440 : BitVec 32 := v439
  let v441 : Index := Scalar.indexCast v440
  let c0_213 : Index := 0#32
  ![v441.toNat, 0]
@[reducible] def k0_t7_loop : Scf.Loop 32 :=
  let c0_i32_206 : BitVec 32 := 0#32
  let c8_i32 : BitVec 32 := 8#32
  let v434 : BitVec 32 := Scalar.addi c0_i32_206 c8_i32
  let c1_i32_207 : BitVec 32 := 1#32
  ⟨c0_i32_206, v434, c1_i32_207⟩
def k0_mult8 (k0_t7 : Fin k0_t7_loop.trips) : BitVec 32 :=
  let c7_i32_211 : BitVec 32 := 7#32
  let c0_i32_206 : BitVec 32 := 0#32
  let c1_i32_207 : BitVec 32 := 1#32
  let arg6 : BitVec 32 := Scf.iv c0_i32_206 c1_i32_207 k0_t7
  let v438 : BitVec 32 := Scalar.subi c7_i32_211 arg6
  let c256_i32_212 : BitVec 32 := 256#32
  let v439 : BitVec 32 := Scalar.muli v438 c256_i32_212
  v439
def k0_off8 (k0_t7 : Fin k0_t7_loop.trips) : Fin 2 → Nat :=
  let c7_i32_211 : BitVec 32 := 7#32
  let c0_i32_206 : BitVec 32 := 0#32
  let c1_i32_207 : BitVec 32 := 1#32
  let arg6 : BitVec 32 := Scf.iv c0_i32_206 c1_i32_207 k0_t7
  let v438 : BitVec 32 := Scalar.subi c7_i32_211 arg6
  let c256_i32_212 : BitVec 32 := 256#32
  let v439 : BitVec 32 := Scalar.muli v438 c256_i32_212
  let v440 : BitVec 32 := v439
  let v441 : Index := Scalar.indexCast v440
  let c0_213 : Index := 0#32
  ![v441.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2064x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8256x2048 : Shape := ⟨2, ![8256, 2048]⟩
abbrev S8256x4096 : Shape := ⟨2, ![8256, 4096]⟩
abbrev S4x2064x16x128 : Shape := ⟨4, ![4, 2064, 16, 128]⟩
abbrev S4x16x2064x2064 : Shape := ⟨4, ![4, 16, 2064, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S_ : Shape := ⟨0, ![]⟩
abbrev S4x16x128x2064 : Shape := ⟨4, ![4, 16, 128, 2064]⟩

abbrev nBuf : Space → Nat
  | .hbm => 70
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S8256x4096, .bf16⟩
  | .hbm, ⟨2, _⟩ => ⟨S8256x2048, .f32⟩
  | .hbm, ⟨3, _⟩ => ⟨S4x2064x16x128, .f32⟩
  | .hbm, ⟨4, _⟩ => ⟨S8256x2048, .bf16⟩
  | .hbm, ⟨5, _⟩ => ⟨S8256x2048, .f32⟩
  | .hbm, ⟨6, _⟩ => ⟨S4x2064x16x128, .f32⟩
  | .hbm, ⟨7, _⟩ => ⟨S8256x2048, .bf16⟩
  | .hbm, ⟨8, _⟩ => ⟨S8256x2048, .f32⟩
  | .hbm, ⟨9, _⟩ => ⟨S4x2064x16x128, .f32⟩
  | .hbm, ⟨10, _⟩ => ⟨S4x16x2064x2064, .f32⟩
  | .hbm, ⟨11, _⟩ => ⟨S2064, .i32⟩
  | .hbm, ⟨12, _⟩ => ⟨S1x2064, .i32⟩
  | .hbm, ⟨13, _⟩ => ⟨S2064x1, .i32⟩
  | .hbm, ⟨14, _⟩ => ⟨S2064x2064, .i32⟩
  | .hbm, ⟨15, _⟩ => ⟨S2064x2064, .i32⟩
  | .hbm, ⟨16, _⟩ => ⟨S2064x2064, .i1⟩
  | .hbm, ⟨17, _⟩ => ⟨S4x16x2064x2064, .f32⟩
  | .hbm, ⟨18, _⟩ => ⟨S_, .f32⟩
  | .hbm, ⟨19, _⟩ => ⟨S4x16x2064x2064, .f32⟩
  | .hbm, ⟨20, _⟩ => ⟨S4x16x2064x2064, .f32⟩
  | .hbm, ⟨21, _⟩ => ⟨S4x16x2064x2064, .f32⟩
  | .hbm, ⟨22, _⟩ => ⟨S4x16x2064x2064, .f32⟩
  | .hbm, ⟨23, _⟩ => ⟨S4x16x2064x2064, .i1⟩
  | .hbm, ⟨24, _⟩ => ⟨S4x16x2064x2064, .f32⟩
  | .hbm, ⟨25, _⟩ => ⟨S4x16x2064x2064, .f32⟩
  | .hbm, ⟨26, _⟩ => ⟨S4x16x2064x2064, .f32⟩
  | .hbm, ⟨27, _⟩ => ⟨S4x16x2064x2064, .f32⟩
  | .hbm, ⟨28, _⟩ => ⟨S4x16x2064x2064, .f32⟩
  | .hbm, ⟨29, _⟩ => ⟨S4x16x2064x2064, .f32⟩
  | .hbm, ⟨30, _⟩ => ⟨S4x16x2064x2064, .f32⟩
  | .hbm, ⟨31, _⟩ => ⟨S4x16x2064x2064, .f32⟩
  | .hbm, ⟨32, _⟩ => ⟨S4x16x2064x2064, .f32⟩
  | .hbm, ⟨33, _⟩ => ⟨S4x16x2064x2064, .f32⟩
  | .hbm, ⟨34, _⟩ => ⟨S4x16x2064x2064, .f32⟩
  | .hbm, ⟨35, _⟩ => ⟨S_, .f32⟩
  | .hbm, ⟨36, _⟩ => ⟨S4x16x2064x2064, .f32⟩
  | .hbm, ⟨37, _⟩ => ⟨S4x16x2064x2064, .f32⟩
  | .hbm, ⟨38, _⟩ => ⟨S4x16x2064x2064, .f32⟩
  | .hbm, ⟨39, _⟩ => ⟨S4x16x2064x2064, .f32⟩
  | .hbm, ⟨40, _⟩ => ⟨S4x16x2064x2064, .i1⟩
  | .hbm, ⟨41, _⟩ => ⟨S4x16x2064x2064, .f32⟩
  | .hbm, ⟨42, _⟩ => ⟨S4x16x2064x2064, .f32⟩
  | .hbm, ⟨43, _⟩ => ⟨S4x16x2064x2064, .f32⟩
  | .hbm, ⟨44, _⟩ => ⟨S4x16x2064x2064, .f32⟩
  | .hbm, ⟨45, _⟩ => ⟨S4x16x2064x2064, .f32⟩
  | .hbm, ⟨46, _⟩ => ⟨S4x16x2064x2064, .f32⟩
  | .hbm, ⟨47, _⟩ => ⟨S4x16x2064x2064, .f32⟩
  | .hbm, ⟨48, _⟩ => ⟨S4x16x2064x2064, .f32⟩
  | .hbm, ⟨49, _⟩ => ⟨S4x16x2064x2064, .f32⟩
  | .hbm, ⟨50, _⟩ => ⟨S_, .f32⟩
  | .hbm, ⟨51, _⟩ => ⟨S_, .f32⟩
  | .hbm, ⟨52, _⟩ => ⟨S4x16x2064x2064, .i1⟩
  | .hbm, ⟨53, _⟩ => ⟨S4x16x2064x2064, .f32⟩
  | .hbm, ⟨54, _⟩ => ⟨S4x16x2064x2064, .f32⟩
  | .hbm, ⟨55, _⟩ => ⟨S_, .f32⟩
  | .hbm, ⟨56, _⟩ => ⟨S_, .f32⟩
  | .hbm, ⟨57, _⟩ => ⟨S4x16x2064x2064, .f32⟩
  | .hbm, ⟨58, _⟩ => ⟨S4x16x2064x2064, .f32⟩
  | .hbm, ⟨59, _⟩ => ⟨S4x16x2064x2064, .f32⟩
  | .hbm, ⟨60, _⟩ => ⟨S4x16x2064x2064, .f32⟩
  | .hbm, ⟨61, _⟩ => ⟨S_, .f32⟩
  | .hbm, ⟨62, _⟩ => ⟨S_, .f32⟩
  | .hbm, ⟨63, _⟩ => ⟨S4x16x2064x2064, .i1⟩
  | .hbm, ⟨64, _⟩ => ⟨S4x16x2064x2064, .f32⟩
  | .hbm, ⟨65, _⟩ => ⟨S4x16x2064x2064, .f32⟩
  | .hbm, ⟨66, _⟩ => ⟨S4x16x128x2064, .f32⟩
  | .hbm, ⟨67, _⟩ => ⟨S4x2064x16x128, .f32⟩
  | .hbm, ⟨68, _⟩ => ⟨S8256x2048, .f32⟩
  | .hbm, ⟨69, _⟩ => ⟨S8256x2048, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v17 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v18 : Ref sig .tc := ⟨.hbm, 54, rfl⟩
abbrev main_call3_cst : Ref sig .tc := ⟨.hbm, 55, rfl⟩
abbrev main_call3_v0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_0 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩

abbrev nD : Nat := 1
abbrev τ : Topo := Topo.v7x

variable {F : FTy → Type} [FloatOps F]
-- ==== Mlp.lean ====
abbrev S8256x2048 : Shape := ⟨2, ![8256, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S688x2048 : Shape := ⟨2, ![688, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S688x512 : Shape := ⟨2, ![688, 512]⟩

abbrev nBuf : Space → Nat
  | .hbm => 10
  | .vmem => 11
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S688x2048, .f32⟩
  | .local _ .vmem, ⟨9, _⟩ => ⟨S688x2048, .f32⟩
  | .local _ .vmem, ⟨10, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c43_i32 : BitVec 32 := 43#32
  let v20 : BitVec 32 := Scalar.addi c0_i32_14 c43_i32
  let c1_i32 : BitVec 32 := 1#32
  ⟨c0_i32_14, v20, c1_i32⟩
def k0_mult1 (k0_t1 : Fin k0_t1_loop.trips) : BitVec 32 :=
  let c0_i32_14 : BitVec 32 := 0#32
  let c1_i32 : BitVec 32 := 1#32
  let arg9 : BitVec 32 := Scf.iv c0_i32_14 c1_i32 k0_t1
  let c16_i32 : BitVec 32 := 16#32
  let v23 : BitVec 32 := Scalar.muli arg9 c16_i32
  v23
def k0_off1 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let c16_i32 : BitVec 32 := 16#32
  let v23 : BitVec 32 := Scalar.muli arg9 c16_i32
  let v24 : BitVec 32 := v23
  let v25 : Index := Scalar.indexCast v24
  let c0_20 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S8256x2048 : Shape := ⟨2, ![8256, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x8192 : Shape := ⟨2, ![8256, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8256x2048, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x2048, .f32⟩
  | .hbm, ⟨17, _⟩ => ⟨S8256x2048, .f32⟩
  | .hbm, ⟨18, _⟩ => ⟨S1x2048, .f32⟩
  | .hbm, ⟨19, _⟩ => ⟨S8256x2048, .f32⟩
  | .hbm, ⟨20, _⟩ => ⟨S8256x2048, .f32⟩
  | .hbm, ⟨21, _⟩ => ⟨S8256x8192, .f32⟩
  | .hbm, ⟨22, _⟩ => ⟨S_, .f32⟩
  | .hbm, ⟨23, _⟩ => ⟨S8256x8192, .f32⟩
  | .hbm, ⟨24, _⟩ => ⟨S8256x8192, .f32⟩
  | .hbm, ⟨25, _⟩ => ⟨S8256x8192, .f32⟩
  | .hbm, ⟨26, _⟩ => ⟨S8256x2048, .f32⟩
  | .hbm, ⟨27, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Last.lean ====
abbrev S8256x2048 : Shape := ⟨2, ![8256, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S688x2048 : Shape := ⟨2, ![688, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S688x512 : Shape := ⟨2, ![688, 512]⟩

abbrev nBuf : Space → Nat
  | .hbm => 10
  | .vmem => 11
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S688x2048, .f32⟩
  | .local _ .vmem, ⟨9, _⟩ => ⟨S688x2048, .f32⟩
  | .local _ .vmem, ⟨10, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c43_i32 : BitVec 32 := 43#32
  let v23 : BitVec 32 := Scalar.addi c0_i32_15 c43_i32
  let c1_i32 : BitVec 32 := 1#32
  ⟨c0_i32_15, v23, c1_i32⟩
def k0_mult1 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c16_i32 : BitVec 32 := 16#32
  let v26 : BitVec 32 := Scalar.muli arg9 c16_i32
  v26
def k0_off1 (k0_t1 : Fin k0_t1_loop.trips) : Fin 2 → Nat :=
  let c0_i32_15 : BitVec 32 := 0#32
  let c1_i32 : BitVec 32 := 1#32
  let arg9 : BitVec 32 := Scf.iv c0_i32_15 c1_i32 k0_t1
  let c16_i32 : BitVec 32 := 16#32
  let v26 : BitVec 32 := Scalar.muli arg9 c16_i32
  let v27 : BitVec 32 := v26
  let v28 : Index := Scalar.indexCast v27
  let c0_21 : Index := 0#32
  ![v28.toNat, 0]
def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_12 : BitVec 32 := 0#32
  let v20 : BitVec 1 := Scalar.cmpi .ne v19 c0_i32_12
  v20

@[reducible] def k0_t2_loop : Scf.Loop 32 :=
  let c0_i32_15 : BitVec 32 := 0#32
  let c43_i32 : BitVec 32 := 43#32
  let v23 : BitVec 32 := Scalar.addi c0_i32_15 c43_i32
  let c1_i32 : BitVec 32 := 1#32
  ⟨c0_i32_15, v23, c1_i32⟩
def k0_mult2 (k0_t2 : Fin k0_t2_loop.trips) : BitVec 32 :=
  let c0_i32_15 : BitVec 32 := 0#32
  let c1_i32 : BitVec 32 := 1#32
  let arg9 : BitVec 32 := Scf.iv c0_i32_15 c1_i32 k0_t2
  let c16_i32 : BitVec 32 := 16#32
  let v24 : BitVec 32 := Scalar.muli arg9 c16_i32
  v24
def k0_off2 (k0_t2 : Fin k0_t2_loop.trips) : Fin 2 → Nat :=
  let c0_i32_15 : BitVec 32 := 0#32
  let c1_i32 : BitVec 32 := 1#32
  let arg9 : BitVec 32 := Scf.iv c0_i32_15 c1_i32 k0_t2
  let c16_i32 : BitVec 32 := 16#32
  let v24 : BitVec 32 := Scalar.muli arg9 c16_i32
  let v25 : BitVec 32 := v24
  let v26 : Index := Scalar.indexCast v25
  let c0_17 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== LastReferenceIdeal.lean ====
abbrev S8256x2048 : Shape := ⟨2, ![8256, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x8192 : Shape := ⟨2, ![8256, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S8256x2048, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x2048, .f32⟩
  | .hbm, ⟨17, _⟩ => ⟨S8256x2048, .f32⟩
  | .hbm, ⟨18, _⟩ => ⟨S1x2048, .f32⟩
  | .hbm, ⟨19, _⟩ => ⟨S8256x2048, .f32⟩
  | .hbm, ⟨20, _⟩ => ⟨S8256x2048, .f32⟩
  | .hbm, ⟨21, _⟩ => ⟨S8256x8192, .f32⟩
  | .hbm, ⟨22, _⟩ => ⟨S_, .f32⟩
  | .hbm, ⟨23, _⟩ => ⟨S8256x8192, .f32⟩
  | .hbm, ⟨24, _⟩ => ⟨S8256x8192, .f32⟩
  | .hbm, ⟨25, _⟩ => ⟨S8256x8192, .f32⟩
  | .hbm, ⟨26, _⟩ => ⟨S8256x2048, .f32⟩
  | .hbm, ⟨27, _⟩ => ⟨S8256x2048, .f32⟩
  | .hbm, ⟨28, _⟩ => ⟨S8256x2048, .f32⟩
  | .hbm, ⟨29, _⟩ => ⟨S_, .f32⟩
  | .hbm, ⟨30, _⟩ => ⟨S8256, .f32⟩
  | .hbm, ⟨31, _⟩ => ⟨S8256x1, .f32⟩
  | .hbm, ⟨32, _⟩ => ⟨S_, .f32⟩
  | .hbm, ⟨33, _⟩ => ⟨S8256x1, .f32⟩
  | .hbm, ⟨34, _⟩ => ⟨S8256x1, .f32⟩
  | .hbm, ⟨35, _⟩ => ⟨S_, .f32⟩
  | .hbm, ⟨36, _⟩ => ⟨S8256x1, .f32⟩
  | .hbm, ⟨37, _⟩ => ⟨S8256x1, .f32⟩
  | .hbm, ⟨38, _⟩ => ⟨S8256x1, .f32⟩
  | .hbm, ⟨39, _⟩ => ⟨S8256x2048, .f32⟩
  | .hbm, ⟨40, _⟩ => ⟨S8256x2048, .f32⟩
  | .hbm, ⟨41, _⟩ => ⟨S1x2048, .f32⟩
  | .hbm, ⟨42, _⟩ => ⟨S8256x2048, .f32⟩
  | .hbm, ⟨43, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Qkv.lean ====
abbrev S8256x2048 : Shape := ⟨2, ![8256, 2048]⟩
abbrev S2048 : Shape := ⟨1, ![2048]⟩
abbrev S2048x6144 : Shape := ⟨2, ![2048, 6144]⟩
abbrev S1x2048 : Shape := ⟨2, ![1, 2048]⟩
abbrev S8256x6144 : Shape := ⟨2, ![8256, 6144]⟩
abbrev S688x2048 : Shape := ⟨2, ![688, 2048]⟩
abbrev S2048x1024 : Shape := ⟨2, ![2048, 1024]⟩
abbrev S688x1024 : Shape := ⟨2, ![688, 1024]⟩
abbrev S16x2048 : Shape := ⟨2, ![16, 2048]⟩
abbrev S16 : Shape := ⟨1, ![16]⟩
abbrev S16x1 : Shape := ⟨2, ![16, 1]⟩

abbrev nBuf : Space → Nat
  | .hbm => 6
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x6144, .f32⟩
  | .hbm, ⟨3, _⟩ => ⟨S2048x6144, .bf16⟩
  | .hbm, ⟨4, _⟩ => ⟨S1x2048, .f32⟩
  | .hbm, ⟨5, _⟩ => ⟨S8256x6144, .bf16⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S688x1024, .bf16⟩
  | .local _ .vmem, ⟨6, _⟩ => ⟨S688x1024, .bf16⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c43_i32 : BitVec 32 := 43#32
  let v15 : BitVec 32 := Scalar.addi c0_i32_10 c43_i32
  let c1_i32 : BitVec 32 := 1#32
  ⟨c0_i32_10, v15, c1_i32⟩
def k0_mult1 (k0_t1 : Fin k0_t1_loop.trips) : BitVec 32 :=
  let c0_i32_10 : BitVec 32 := 0#32
  let c1_i32 : BitVec 32 := 1#32
  let arg7 : BitVec 32 := Scf.iv c0_i32_10 c1_i32 k0_t1
  let c16_i32 : BitVec 32 := 16#32
  let v16 : BitVec 32 := Scalar.muli arg7 c16_i32
  v16
def k0_off1 (k0_t1 : Fin k0_t1_loop.trips) : Fin 2 → Nat :=
  let c0_i32_10 : BitVec 32 := 0#32
  let c1_i32 : BitVec 32 := 1#32
  let arg7 : BitVec 32 := Scf.iv c0_i32_10 c1_i32 k0_t1
  let c16_i32 : BitVec 32 := 16#32
  let v16 : BitVec 32 := Scalar.muli arg7 c16_i32
  let v17 : BitVec 32 := v16
  let v18 : Index := Scalar.indexCast v17
  let c0_12 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvReferenceIdeal.lean ====
abbrev S8256x2048 : Shape := ⟨2, ![8256, 2048]⟩
abbrev S2048 : Shape := ⟨1, ![2048]⟩
abbrev S2048x6144 : Shape := ⟨2, ![2048, 6144]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x6144 : Shape := ⟨2, ![8256, 6144]⟩

abbrev nBuf : Space → Nat
  | .hbm => 28
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x6144, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S8256x6144, .f32⟩
  | .hbm, ⟨20, _⟩ => ⟨S8256x2048, .f32⟩
  | .hbm, ⟨21, _⟩ => ⟨S8256x2048, .f32⟩
  | .hbm, ⟨22, _⟩ => ⟨S8256x2048, .f32⟩
  | .hbm, ⟨23, _⟩ => ⟨S_, .f32⟩
  | .hbm, ⟨24, _⟩ => ⟨S8256x2048, .f32⟩
  | .hbm, ⟨25, _⟩ => ⟨S8256x2048, .f32⟩
  | .hbm, ⟨26, _⟩ => ⟨S8256x6144, .f32⟩
  | .hbm, ⟨27, _⟩ => ⟨S8256x6144, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kv.lean ====
abbrev S8256x2048 : Shape := ⟨2, ![8256, 2048]⟩
abbrev S2048 : Shape := ⟨1, ![2048]⟩
abbrev S2048x4096 : Shape := ⟨2, ![2048, 4096]⟩
abbrev S1x2048 : Shape := ⟨2, ![1, 2048]⟩
abbrev S8256x4096 : Shape := ⟨2, ![8256, 4096]⟩
abbrev S688x2048 : Shape := ⟨2, ![688, 2048]⟩
abbrev S2048x1024 : Shape := ⟨2, ![2048, 1024]⟩
abbrev S688x1024 : Shape := ⟨2, ![688, 1024]⟩
abbrev S16x2048 : Shape := ⟨2, ![16, 2048]⟩
abbrev S16 : Shape := ⟨1, ![16]⟩
abbrev S16x1 : Shape := ⟨2, ![16, 1]⟩

abbrev nBuf : Space → Nat
  | .hbm => 6
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x4096, .f32⟩
  | .hbm, ⟨3, _⟩ => ⟨S2048x4096, .bf16⟩
  | .hbm, ⟨4, _⟩ => ⟨S1x2048, .f32⟩
  | .hbm, ⟨5, _⟩ => ⟨S8256x4096, .bf16⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S688x1024, .bf16⟩
  | .local _ .vmem, ⟨6, _⟩ => ⟨S688x1024, .bf16⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c43_i32 : BitVec 32 := 43#32
  let v11 : BitVec 32 := Scalar.addi c0_i32_8 c43_i32
  let c1_i32 : BitVec 32 := 1#32
  ⟨c0_i32_8, v11, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c16_i32 : BitVec 32 := 16#32
  let v12 : BitVec 32 := Scalar.muli arg7 c16_i32
  v12
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c16_i32 : BitVec 32 := 16#32
  let v12 : BitVec 32 := Scalar.muli arg7 c16_i32
  let v13 : BitVec 32 := v12
  let v14 : Index := Scalar.indexCast v13
  let c0_10 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvReferenceIdeal.lean ====
abbrev S8256x2048 : Shape := ⟨2, ![8256, 2048]⟩
abbrev S2048 : Shape := ⟨1, ![2048]⟩
abbrev S2048x4096 : Shape := ⟨2, ![2048, 4096]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x4096 : Shape := ⟨2, ![8256, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x4096, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S8256x4096, .f32⟩
  | .hbm, ⟨20, _⟩ => ⟨S8256x4096, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Q.lean ====
abbrev S8256x2048 : Shape := ⟨2, ![8256, 2048]⟩
abbrev S2048 : Shape := ⟨1, ![2048]⟩
abbrev S2048x2048 : Shape := ⟨2, ![2048, 2048]⟩
abbrev S1x2048 : Shape := ⟨2, ![1, 2048]⟩
abbrev S688x2048 : Shape := ⟨2, ![688, 2048]⟩
abbrev S2048x1024 : Shape := ⟨2, ![2048, 1024]⟩
abbrev S688x1024 : Shape := ⟨2, ![688, 1024]⟩
abbrev S16x2048 : Shape := ⟨2, ![16, 2048]⟩
abbrev S16 : Shape := ⟨1, ![16]⟩
abbrev S16x1 : Shape := ⟨2, ![16, 1]⟩

abbrev nBuf : Space → Nat
  | .hbm => 6
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S8256x2048, .bf16⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S688x1024, .bf16⟩
  | .local _ .vmem, ⟨6, _⟩ => ⟨S688x1024, .bf16⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c43_i32 : BitVec 32 := 43#32
  let v15 : BitVec 32 := Scalar.addi c0_i32_10 c43_i32
  let c1_i32 : BitVec 32 := 1#32
  ⟨c0_i32_10, v15, c1_i32⟩
def k0_mult1 (k0_t1 : Fin k0_t1_loop.trips) : BitVec 32 :=
  let c0_i32_10 : BitVec 32 := 0#32
  let c1_i32 : BitVec 32 := 1#32
  let arg7 : BitVec 32 := Scf.iv c0_i32_10 c1_i32 k0_t1
  let c16_i32 : BitVec 32 := 16#32
  let v16 : BitVec 32 := Scalar.muli arg7 c16_i32
  v16
def k0_off1 (k0_t1 : Fin k0_t1_loop.trips) : Fin 2 → Nat :=
  let c0_i32_10 : BitVec 32 := 0#32
  let c1_i32 : BitVec 32 := 1#32
  let arg7 : BitVec 32 := Scf.iv c0_i32_10 c1_i32 k0_t1
  let c16_i32 : BitVec 32 := 16#32
  let v16 : BitVec 32 := Scalar.muli arg7 c16_i32
  let v17 : BitVec 32 := v16
  let v18 : Index := Scalar.indexCast v17
  let c0_12 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QReferenceIdeal.lean ====
abbrev S8256x2048 : Shape := ⟨2, ![8256, 2048]⟩
abbrev S2048 : Shape := ⟨1, ![2048]⟩
abbrev S2048x2048 : Shape := ⟨2, ![2048, 2048]⟩
abbrev S_ : Shape := ⟨0, ![]⟩
abbrev S8256 : Shape := ⟨1, ![8256]⟩
abbrev S8256x1 : Shape := ⟨2, ![8256, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x2048, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S8256x2048, .f32⟩
  | .hbm, ⟨20, _⟩ => ⟨S_, .f32⟩
  | .hbm, ⟨21, _⟩ => ⟨S8256x2048, .f32⟩
  | .hbm, ⟨22, _⟩ => ⟨S8256x2048, .f32⟩
  | .hbm, ⟨23, _⟩ => ⟨S8256x2048, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Out.lean ====
abbrev S8256x2048 : Shape := ⟨2, ![8256, 2048]⟩
abbrev S2048x2048 : Shape := ⟨2, ![2048, 2048]⟩
abbrev S688x2048 : Shape := ⟨2, ![688, 2048]⟩
abbrev S2048x1024 : Shape := ⟨2, ![2048, 1024]⟩
abbrev S688x1024 : Shape := ⟨2, ![688, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8256x2048, .bf16⟩
  | .hbm, ⟨1, _⟩ => ⟨S2048x2048, .f32⟩
  | .hbm, ⟨2, _⟩ => ⟨S8256x2048, .f32⟩
  | .hbm, ⟨3, _⟩ => ⟨S2048x2048, .bf16⟩
  | .hbm, ⟨4, _⟩ => ⟨S8256x2048, .f32⟩
  | .local _ .vmem, ⟨0, _⟩ => ⟨S688x2048, .bf16⟩
  | .local _ .vmem, ⟨1, _⟩ => ⟨S688x2048, .bf16⟩
  | .local _ .vmem, ⟨2, _⟩ => ⟨S2048x1024, .bf16⟩
  | .local _ .vmem, ⟨3, _⟩ => ⟨S2048x1024, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S8256x2048 : Shape := ⟨2, ![8256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S2048x2048, .f32⟩
  | .hbm, ⟨2, _⟩ => ⟨S8256x2048, .f32⟩
  | .hbm, ⟨3, _⟩ => ⟨S8256x2048, .f32⟩
  | .hbm, ⟨4, _⟩ => ⟨S8256x2048, .f32⟩
  | .hbm, ⟨5, _⟩ => ⟨S8256x2048, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Fox.lean ====
abbrev S8256x6144 : Shape := ⟨2, ![8256, 6144]⟩
abbrev S4x16x2064 : Shape := ⟨3, ![4, 16, 2064]⟩
abbrev S4x16x2064x1 : Shape := ⟨4, ![4, 16, 2064, 1]⟩
abbrev S_ : Shape := ⟨0, ![]⟩
abbrev S4x16x2304 : Shape := ⟨3, ![4, 16, 2304]⟩
abbrev S4x16x9x256 : Shape := ⟨4, ![4, 16, 9, 256]⟩
abbrev S8256x2048 : Shape := ⟨2, ![8256, 2048]⟩
abbrev S2064x128 : Shape := ⟨2, ![2064, 128]⟩
abbrev S1x1x2064x1 : Shape := ⟨4, ![1, 1, 2064, 1]⟩
abbrev S1x1x9x256 : Shape := ⟨4, ![1, 1, 9, 256]⟩
abbrev S256x128 : Shape := ⟨2, ![256, 128]⟩
abbrev S1x1x256x1 : Shape := ⟨4, ![1, 1, 256, 1]⟩
abbrev S256x1 : Shape := ⟨2, ![256, 1]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩
abbrev S16x128 : Shape := ⟨2, ![16, 128]⟩
abbrev S1x1x16x1 : Shape := ⟨4, ![1, 1, 16, 1]⟩
abbrev S16x1 : Shape := ⟨2, ![16, 1]⟩
abbrev S16x256 : Shape := ⟨2, ![16, 256]⟩
abbrev S16 : Shape := ⟨1, ![16]⟩
abbrev S16x16 : Shape := ⟨2, ![16, 16]⟩
abbrev S1x1x1x16 : Shape := ⟨4, ![1, 1, 1, 16]⟩
abbrev S1x16 : Shape := ⟨2, ![1, 16]⟩

abbrev nBuf : Space → Nat
  | .hbm => 8
  | .vmem => 12
  | .smem => 0
  | _ => 0

abbrev bufTy : (tb : Table) → Fin (tcTables nBuf tb) → BufTy
  | .hbm, ⟨0, _⟩ => ⟨S8256x6144, .bf16⟩
  | .hbm, ⟨1, _⟩ => ⟨S4x16x2064, .f32⟩
  | .hbm, ⟨2, _⟩ => ⟨S4x16x2064x1, .f32⟩
  | .hbm, ⟨3, _⟩ => ⟨S_, .i32⟩
  | .hbm, ⟨4, _⟩ => ⟨S_, .f32⟩
  | .hbm, ⟨5, _⟩ => ⟨S4x16x2304, .f32⟩
  | .hbm, ⟨6, _⟩ => ⟨S4x16x9x256, .f32⟩
  | .hbm, ⟨7, _⟩ => ⟨S8256x2048, .bf16⟩
  | .local _ .vmem, ⟨0, _⟩ => ⟨S2064x128, .bf16⟩
  | .local _ .vmem, ⟨1, _⟩ => ⟨S2064x128, .bf16⟩
  | .local _ .vmem, ⟨2, _⟩ => ⟨S2064x128, .bf16⟩
  | .local _ .vmem, ⟨3, _⟩ => ⟨S2064x128, .bf16⟩
  | .local _ .vmem, ⟨4, _⟩ => ⟨S2064x128, .bf16⟩
  | .local _ .vmem, ⟨5, _⟩ => ⟨S2064x128, .bf16⟩
  | .local _ .vmem, ⟨6, _⟩ => ⟨S1x1x2064x1, .f32⟩
  | .local _ .vmem, ⟨7, _⟩ => ⟨S1x1x2064x1, .f32⟩
  | .local _ .vmem, ⟨8, _⟩ => ⟨S1x1x9x256, .f32⟩
  | .local _ .vmem, ⟨9, _⟩ => ⟨S1x1x9x256, .f32⟩
  | .local _ .vmem, ⟨10, _⟩ => ⟨S2064x128, .bf16⟩
  | .local _ .vmem, ⟨11, _⟩ => ⟨S2064x128, .bf16⟩
  | _, _ => ⟨S8256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_mult1 : BitVec 32 :=
  let c0_i32_32 : BitVec 32 := 0#32
  let c256_i32 : BitVec 32 := 256#32
  let v48 : BitVec 32 := Scalar.muli c0_i32_32 c256_i32
  v48
def k0_off1 : Fin 2 → Nat :=
  let c0_i32_32 : BitVec 32 := 0#32
  let c256_i32 : BitVec 32 := 256#32
  let v48 : BitVec 32 := Scalar.muli c0_i32_32 c256_i32
  let v49 : BitVec 32 := v48
  let v50 : Index := Scalar.indexCast v49
  let c0_33 : Index := 0#32
  ![v50.toNat, 0]
@[reducible] def k0_t1_loop : Scf.Loop 32 :=
  let c0_i32_64 : BitVec 32 := 0#32
  let c2_i32 : BitVec 32 := 2#32
  let v120 : BitVec 32 := Scalar.addi c0_i32_64 c2_i32
  let c1_i32_65 : BitVec 32 := 1#32
  ⟨c0_i32_64, v120, c1_i32_65⟩
def k0_mult2 (k0_t1 : Fin k0_t1_loop.trips) : BitVec 32 :=
  let c0_i32_64 : BitVec 32 := 0#32
  let c1_i32_65 : BitVec 32 := 1#32
  let arg8 : BitVec 32 := Scf.iv c0_i32_64 c1_i32_65 k0_t1
  let c256_i32_231 : BitVec 32 := 256#32
  let v415 : BitVec 32 := Scalar.muli arg8 c256_i32_231
  v415
def k0_off2 (k0_t1 : Fin k0_t1_loop.trips) : Fin 2 → Nat :=
  let c0_i32_64 : BitVec 32 := 0#32
  let c1_i32_65 : BitVec 32 := 1#32
  let arg8 : BitVec 32 := Scf.iv c0_i32_64 c1_i32_65 k0_t1
  let c256_i32_231 : BitVec 32 := 256#32
  let v415 : BitVec 32 := Scalar.muli arg8 c256_i32_231
  let v416 : BitVec 32 := v415
  let v417 : Index := Scalar.indexCast v416
  let c0_232 : Index := 0#32
  ![v417.toNat, 0]
def k0_off3 (k0_t1 : Fin k0_t1_loop.trips) : Fin 4 → Nat :=
  let c0_234 : Index := 0#32
  let c0_235 : Index := 0#32
  let c0_i32_64 : BitVec 32 := 0#32
  let c1_i32_65 : BitVec 32 := 1#32
  let arg8 : BitVec 32 := Scf.iv c0_i32_64 c1_i32_65 k0_t1
  let v420 : Index := Scalar.indexCast arg8
  let c0_236 : Index := 0#32
  ![0, 0, v420.toNat, 0]
@[reducible] def k0_t2_loop : Scf.Loop 32 :=
  let c0_i32_89 : BitVec 32 := 0#32
  let c3_i32 : BitVec 32 := 3#32
  let v163 : BitVec 32 := Scalar.addi c0_i32_89 c3_i32
  let c1_i32_90 : BitVec 32 := 1#32
  ⟨c0_i32_89, v163, c1_i32_90⟩
def k0_mult3 (k0_t2 : Fin k0_t2_loop.trips) : BitVec 32 :=
  let c0_i32_89 : BitVec 32 := 0#32
  let c1_i32_90 : BitVec 32 := 1#32
  let arg8 : BitVec 32 := Scf.iv c0_i32_89 c1_i32_90 k0_t2
  let c256_i32_231 : BitVec 32 := 256#32
  let v415 : BitVec 32 := Scalar.muli arg8 c256_i32_231
  v415
def k0_off4 (k0_t2 : Fin k0_t2_loop.trips) : Fin 2 → Nat :=
  let c0_i32_89 : BitVec 32 := 0#32
  let c1_i32_90 : BitVec 32 := 1#32
  let arg8 : BitVec 32 := Scf.iv c0_i32_89 c1_i32_90 k0_t2
  let c256_i32_231 : BitVec 32 := 256#32
  let v415 : BitVec 32 := Scalar.muli arg8 c256_i32_231
  let v416 : BitVec 32 := v415
  let v417 : Index := Scalar.indexCast v416
  let c0_232 : Index := 0#32
  ![v417.toNat, 0]
def k0_off5 (k0_t2 : Fin k0_t2_loop.trips) : Fin 4 → Nat :=
  let c0_234 : Index := 0#32
  let c0_235 : Index := 0#32
  let c0_i32_89 : BitVec 32 := 0#32
  let c1_i32_90 : BitVec 32 := 1#32
  let arg8 : BitVec 32 := Scf.iv c0_i32_89 c1_i32_90 k0_t2
  let v420 : Index := Scalar.indexCast arg8
  let c0_236 : Index := 0#32
  ![0, 0, v420.toNat, 0]
@[reducible] def k0_t3_loop : Scf.Loop 32 :=
  let c0_i32_114 : BitVec 32 := 0#32
  let c4_i32 : BitVec 32 := 4#32
  let v206 : BitVec 32 := Scalar.addi c0_i32_114 c4_i32
  let c1_i32_115 : BitVec 32 := 1#32
  ⟨c0_i32_114, v206, c1_i32_115⟩
def k0_mult4 (k0_t3 : Fin k0_t3_loop.trips) : BitVec 32 :=
  let c0_i32_114 : BitVec 32 := 0#32
  let c1_i32_115 : BitVec 32 := 1#32
  let arg8 : BitVec 32 := Scf.iv c0_i32_114 c1_i32_115 k0_t3
  let c256_i32_231 : BitVec 32 := 256#32
  let v415 : BitVec 32 := Scalar.muli arg8 c256_i32_231
  v415
def k0_off6 (k0_t3 : Fin k0_t3_loop.trips) : Fin 2 → Nat :=
  let c0_i32_114 : BitVec 32 := 0#32
  let c1_i32_115 : BitVec 32 := 1#32
  let arg8 : BitVec 32 := Scf.iv c0_i32_114 c1_i32_115 k0_t3
  let c256_i32_231 : BitVec 32 := 256#32
  let v415 : BitVec 32 := Scalar.muli arg8 c256_i32_231
  let v416 : BitVec 32 := v415
  let v417 : Index := Scalar.indexCast v416
  let c0_232 : Index := 0#32
  ![v417.toNat, 0]
def k0_off7 (k0_t3 : Fin k0_t3_loop.trips) : Fin 4 → Nat :=
  let c0_234 : Index := 0#32
  let c0_235 : Index := 0#32
  let c0_i32_114 : BitVec 32 := 0#32
  let c1_i32_115 : BitVec 32 := 1#32
  let arg8 : BitVec 32 := Scf.iv c0_i32_114 c1_i32_115 k0_t3
  let v420 : Index := Scalar.indexCast arg8
  let c0_236 : Index := 0#32
  ![0, 0, v420.toNat, 0]
@[reducible] def k0_t4_loop : Scf.Loop 32 :=
  let c0_i32_139 : BitVec 32 := 0#32
  let c5_i32 : BitVec 32 := 5#32
  let v249 : BitVec 32 := Scalar.addi c0_i32_139 c5_i32
  let c1_i32_140 : BitVec 32 := 1#32
  ⟨c0_i32_139, v249, c1_i32_140⟩
def k0_mult5 (k0_t4 : Fin k0_t4_loop.trips) : BitVec 32 :=
  let c0_i32_139 : BitVec 32 := 0#32
  let c1_i32_140 : BitVec 32 := 1#32
  let arg8 : BitVec 32 := Scf.iv c0_i32_139 c1_i32_140 k0_t4
  let c256_i32_231 : BitVec 32 := 256#32
  let v415 : BitVec 32 := Scalar.muli arg8 c256_i32_231
  v415
def k0_off8 (k0_t4 : Fin k0_t4_loop.trips) : Fin 2 → Nat :=
  let c0_i32_139 : BitVec 32 := 0#32
  let c1_i32_140 : BitVec 32 := 1#32
  let arg8 : BitVec 32 := Scf.iv c0_i32_139 c1_i32_140 k0_t4
  let c256_i32_231 : BitVec 32 := 256#32
  let v415 : BitVec 32 := Scalar.muli arg8 c256_i32_231
  let v416 : BitVec 32 := v415
  let v417 : Index := Scalar.indexCast v416
  let c0_232 : Index := 0#32
  ![v417.toNat, 0]
def k0_off9 (k0_t4 : Fin k0_t4_loop.trips) : Fin 4 → Nat :=
  let c0_234 : Index := 0#32
  let c0_235 : Index := 0#32
  let c0_i32_139 : BitVec 32 := 0#32
  let c1_i32_140 : BitVec 32 := 1#32
  let arg8 : BitVec 32 := Scf.iv c0_i32_139 c1_i32_140 k0_t4
  let v420 : Index := Scalar.indexCast arg8
  let c0_236 : Index := 0#32
  ![0, 0, v420.toNat, 0]
@[reducible] def k0_t5_loop : Scf.Loop 32 :=
  let c0_i32_164 : BitVec 32 := 0#32
  let c6_i32 : BitVec 32 := 6#32
  let v292 : BitVec 32 := Scalar.addi c0_i32_164 c6_i32
  let c1_i32_165 : BitVec 32 := 1#32
  ⟨c0_i32_164, v292, c1_i32_165⟩
def k0_mult6 (k0_t5 : Fin k0_t5_loop.trips) : BitVec 32 :=
  let c0_i32_164 : BitVec 32 := 0#32
  let c1_i32_165 : BitVec 32 := 1#32
  let arg8 : BitVec 32 := Scf.iv c0_i32_164 c1_i32_165 k0_t5
  let c256_i32_231 : BitVec 32 := 256#32
  let v415 : BitVec 32 := Scalar.muli arg8 c256_i32_231
  v415
def k0_off10 (k0_t5 : Fin k0_t5_loop.trips) : Fin 2 → Nat :=
  let c0_i32_164 : BitVec 32 := 0#32
  let c1_i32_165 : BitVec 32 := 1#32
  let arg8 : BitVec 32 := Scf.iv c0_i32_164 c1_i32_165 k0_t5
  let c256_i32_231 : BitVec 32 := 256#32
  let v415 : BitVec 32 := Scalar.muli arg8 c256_i32_231
  let v416 : BitVec 32 := v415
  let v417 : Index := Scalar.indexCast v416
  let c0_232 : Index := 0#32
  ![v417.toNat, 0]
def k0_off11 (k0_t5 : Fin k0_t5_loop.trips) : Fin 4 → Nat :=
  let c0_234 : Index := 0#32
  let c0_235 : Index := 0#32
  let c0_i32_164 : BitVec 32 := 0#32
  let c1_i32_165 : BitVec 32 := 1#32
  let arg8 : BitVec 32 := Scf.iv c0_i32_164 c1_i32_165 k0_t5
  let v420 : Index := Scalar.indexCast arg8
  let c0_236 : Index := 0#32
  ![0, 0, v420.toNat, 0]
@[reducible] def k0_t6_loop : Scf.Loop 32 :=
  let c0_i32_189 : BitVec 32 := 0#32
  let c7_i32 : BitVec 32 := 7#32
  let v335 : BitVec 32 := Scalar.addi c0_i32_189 c7_i32
  let c1_i32_190 : BitVec 32 := 1#32
  ⟨c0_i32_189, v335, c1_i32_190⟩
def k0_mult7 (k0_t6 : Fin k0_t6_loop.trips) : BitVec 32 :=
  let c0_i32_189 : BitVec 32 := 0#32
  let c1_i32_190 : BitVec 32 := 1#32
  let arg8 : BitVec 32 := Scf.iv c0_i32_189 c1_i32_190 k0_t6
  let c256_i32_231 : BitVec 32 := 256#32
  let v415 : BitVec 32 := Scalar.muli arg8 c256_i32_231
  v415
def k0_off12 (k0_t6 : Fin k0_t6_loop.trips) : Fin 2 → Nat :=
  let c0_i32_189 : BitVec 32 := 0#32
  let c1_i32_190 : BitVec 32 := 1#32
  let arg8 : BitVec 32 := Scf.iv c0_i32_189 c1_i32_190 k0_t6
  let c256_i32_231 : BitVec 32 := 256#32
  let v415 : BitVec 32 := Scalar.muli arg8 c256_i32_231
  let v416 : BitVec 32 := v415
  let v417 : Index := Scalar.indexCast v416
  let c0_232 : Index := 0#32
  ![v417.toNat, 0]
def k0_off13 (k0_t6 : Fin k0_t6_loop.trips) : Fin 4 → Nat :=
  let c0_234 : Index := 0#32
  let c0_235 : Index := 0#32
  let c0_i32_189 : BitVec 32 := 0#32
  let c1_i32_190 : BitVec 32 := 1#32
  let arg8 : BitVec 32 := Scf.iv c0_i32_189 c1_i32_190 k0_t6
  let v420 : Index := Scalar.indexCast arg8
  let c0_236 : Index := 0#32
  ![0, 0, v420.toNat, 0]
@[reducible] def k0_t7_loop : Scf.Loop 32 :=
  let c0_i32_214 : BitVec 32 := 0#32
  let c8_i32 : BitVec 32 := 8#32
  let v378 : BitVec 32 := Scalar.addi c0_i32_214 c8_i32
  let c1_i32_215 : BitVec 32 := 1#32
  ⟨c0_i32_214, v378, c1_i32_215⟩
def k0_mult8 (k0_t7 : Fin k0_t7_loop.trips) : BitVec 32 :=
  let c0_i32_214 : BitVec 32 := 0#32
  let c1_i32_215 : BitVec 32 := 1#32
  let arg8 : BitVec 32 := Scf.iv c0_i32_214 c1_i32_215 k0_t7
  let c256_i32_231 : BitVec 32 := 256#32
  let v415 : BitVec 32 := Scalar.muli arg8 c256_i32_231
  v415
def k0_off14 (k0_t7 : Fin k0_t7_loop.trips) : Fin 2 → Nat :=
  let c0_i32_214 : BitVec 32 := 0#32
  let c1_i32_215 : BitVec 32 := 1#32
  let arg8 : BitVec 32 := Scf.iv c0_i32_214 c1_i32_215 k0_t7
  let c256_i32_231 : BitVec 32 := 256#32
  let v415 : BitVec 32 := Scalar.muli arg8 c256_i32_231
  let v416 : BitVec 32 := v415
  let v417 : Index := Scalar.indexCast v416
  let c0_232 : Index := 0#32
  ![v417.toNat, 0]
def k0_off15 (k0_t7 : Fin k0_t7_loop.trips) : Fin 4 → Nat :=
  let c0_234 : Index := 0#32
  let c0_235 : Index := 0#32
  let c0_i32_214 : BitVec 32 := 0#32
  let c1_i32_215 : BitVec 32 := 1#32
  let arg8 : BitVec 32 := Scf.iv c0_i32_214 c1_i32_215 k0_t7
  let v420 : Index := Scalar.indexCast arg8
  let c0_236 : Index := 0#32
  ![0, 0, v420.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2064x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x9x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2064x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxIdeal.lean ====
variable {F : FTy → Type} [FloatOps F] [Named F]
def κ : String → Option EReal := fun
  | "mask" => some ⊥
  | _ => none
-- ==== FoxReferenceIdeal.lean ====
abbrev S8256x6144 : Shape := ⟨2, ![8256, 6144]⟩
abbrev S4x16x2064 : Shape := ⟨3, ![4, 16, 2064]⟩
abbrev S8256x2048 : Shape := ⟨2, ![8256, 2048]⟩
abbrev S4x2064x16x128 : Shape := ⟨4, ![4, 2064, 16, 128]⟩
abbrev S4x16x2064x2064 : Shape := ⟨4, ![4, 16, 2064, 2064]⟩
abbrev S4x16x2064x1 : Shape := ⟨4, ![4, 16, 2064, 1]⟩
abbrev S4x16x1x2064 : Shape := ⟨4, ![4, 16, 1, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S_ : Shape := ⟨0, ![]⟩
abbrev S4x16x128x2064 : Shape := ⟨4, ![4, 16, 128, 2064]⟩

abbrev nBuf : Space → Nat
  | .hbm => 47
  | .vmem => 0
  | .smem => 0
  | _ => 0

abbrev bufTy : (tb : Table) → Fin (tcTables nBuf tb) → BufTy
  | .hbm, ⟨0, _⟩ => ⟨S8256x6144, .bf16⟩
  | .hbm, ⟨1, _⟩ => ⟨S4x16x2064, .f32⟩
  | .hbm, ⟨2, _⟩ => ⟨S8256x2048, .bf16⟩
  | .hbm, ⟨3, _⟩ => ⟨S8256x2048, .bf16⟩
  | .hbm, ⟨4, _⟩ => ⟨S8256x2048, .bf16⟩
  | .hbm, ⟨5, _⟩ => ⟨S8256x2048, .f32⟩
  | .hbm, ⟨6, _⟩ => ⟨S4x2064x16x128, .f32⟩
  | .hbm, ⟨7, _⟩ => ⟨S8256x2048, .f32⟩
  | .hbm, ⟨8, _⟩ => ⟨S4x2064x16x128, .f32⟩
  | .hbm, ⟨9, _⟩ => ⟨S8256x2048, .f32⟩
  | .hbm, ⟨10, _⟩ => ⟨S4x2064x16x128, .f32⟩
  | .hbm, ⟨11, _⟩ => ⟨S4x16x2064x2064, .f32⟩
  | .hbm, ⟨12, _⟩ => ⟨S4x16x2064x1, .f32⟩
  | .hbm, ⟨13, _⟩ => ⟨S4x16x2064x2064, .f32⟩
  | .hbm, ⟨14, _⟩ => ⟨S4x16x2064x2064, .f32⟩
  | .hbm, ⟨15, _⟩ => ⟨S4x16x1x2064, .f32⟩
  | .hbm, ⟨16, _⟩ => ⟨S4x16x2064x2064, .f32⟩
  | .hbm, ⟨17, _⟩ => ⟨S4x16x2064x2064, .f32⟩
  | .hbm, ⟨18, _⟩ => ⟨S2064, .i32⟩
  | .hbm, ⟨19, _⟩ => ⟨S1x2064, .i32⟩
  | .hbm, ⟨20, _⟩ => ⟨S2064x1, .i32⟩
  | .hbm, ⟨21, _⟩ => ⟨S2064x2064, .i32⟩
  | .hbm, ⟨22, _⟩ => ⟨S2064x2064, .i32⟩
  | .hbm, ⟨23, _⟩ => ⟨S2064x2064, .i1⟩
  | .hbm, ⟨24, _⟩ => ⟨S_, .f32⟩
  | .hbm, ⟨25, _⟩ => ⟨S_, .f32⟩
  | .hbm, ⟨26, _⟩ => ⟨S4x16x2064x2064, .i1⟩
  | .hbm, ⟨27, _⟩ => ⟨S4x16x2064x2064, .f32⟩
  | .hbm, ⟨28, _⟩ => ⟨S4x16x2064x2064, .f32⟩
  | .hbm, ⟨29, _⟩ => ⟨S_, .f32⟩
  | .hbm, ⟨30, _⟩ => ⟨S4x16x2064, .f32⟩
  | .hbm, ⟨31, _⟩ => ⟨S_, .f32⟩
  | .hbm, ⟨32, _⟩ => ⟨S4x16x2064, .f32⟩
  | .hbm, ⟨33, _⟩ => ⟨S4x16x2064, .f32⟩
  | .hbm, ⟨34, _⟩ => ⟨S4x16x2064x1, .f32⟩
  | .hbm, ⟨35, _⟩ => ⟨S4x16x2064x2064, .f32⟩
  | .hbm, ⟨36, _⟩ => ⟨S4x16x2064x2064, .f32⟩
  | .hbm, ⟨37, _⟩ => ⟨S4x16x2064x2064, .f32⟩
  | .hbm, ⟨38, _⟩ => ⟨S_, .f32⟩
  | .hbm, ⟨39, _⟩ => ⟨S4x16x2064, .f32⟩
  | .hbm, ⟨40, _⟩ => ⟨S4x16x2064x1, .f32⟩
  | .hbm, ⟨41, _⟩ => ⟨S4x16x2064x2064, .f32⟩
  | .hbm, ⟨42, _⟩ => ⟨S4x16x2064x2064, .f32⟩
  | .hbm, ⟨43, _⟩ => ⟨S4x16x128x2064, .f32⟩
  | .hbm, ⟨44, _⟩ => ⟨S4x2064x16x128, .f32⟩
  | .hbm, ⟨45, _⟩ => ⟨S8256x2048, .f32⟩
  | .hbm, ⟨46, _⟩ => ⟨S8256x2048, .bf16⟩
  | _, _ => ⟨S8256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Gate.lean ====
abbrev S8256x2048 : Shape := ⟨2, ![8256, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8256x128 : Shape := ⟨2, ![8256, 128]⟩
abbrev S688x2048 : Shape := ⟨2, ![688, 2048]⟩
abbrev S688x128 : Shape := ⟨2, ![688, 128]⟩
abbrev S16x2048 : Shape := ⟨2, ![16, 2048]⟩
abbrev S16 : Shape := ⟨1, ![16]⟩
abbrev S16x1 : Shape := ⟨2, ![16, 1]⟩

abbrev nBuf : Space → Nat
  | .hbm => 9
  | .vmem => 7
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S1x2048, .f32⟩
  | .hbm, ⟨8, _⟩ => ⟨S8256x128, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x128, .bf16⟩
  | .local _ .vmem, ⟨4, _⟩ => ⟨S688x128, .f32⟩
  | .local _ .vmem, ⟨5, _⟩ => ⟨S688x128, .f32⟩
  | .local _ .vmem, ⟨6, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![12, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c43_i32 : BitVec 32 := 43#32
  let v10 : BitVec 32 := Scalar.addi c0_i32_8 c43_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c16_i32 : BitVec 32 := 16#32
  let v11 : BitVec 32 := Scalar.muli arg7 c16_i32
  v11
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c16_i32 : BitVec 32 := 16#32
  let v11 : BitVec 32 := Scalar.muli arg7 c16_i32
  let v12 : BitVec 32 := v11
  let v13 : Index := Scalar.indexCast v12
  let c0_10 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S688x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateReferenceIdeal.lean ====
abbrev S8256x2048 : Shape := ⟨2, ![8256, 2048]⟩
abbrev S2048 : Shape := ⟨1, ![2048]⟩
abbrev S2048x16 : Shape := ⟨2, ![2048, 16]⟩
abbrev S_ : Shape := ⟨0, ![]⟩
abbrev S8256 : Shape := ⟨1, ![8256]⟩
abbrev S8256x1 : Shape := ⟨2, ![8256, 1]⟩
abbrev S1x2048 : Shape := ⟨2, ![1, 2048]⟩
abbrev S8256x16 : Shape := ⟨2, ![8256, 16]⟩
abbrev S8256x128 : Shape := ⟨2, ![8256, 128]⟩

abbrev nBuf : Space → Nat
  | .hbm => 23
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S2048x16, .f32⟩
  | .hbm, ⟨3, _⟩ => ⟨S8256x2048, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x2048, .f32⟩
  | .hbm, ⟨15, _⟩ => ⟨S8256x2048, .f32⟩
  | .hbm, ⟨16, _⟩ => ⟨S1x2048, .f32⟩
  | .hbm, ⟨17, _⟩ => ⟨S8256x2048, .f32⟩
  | .hbm, ⟨18, _⟩ => ⟨S8256x2048, .f32⟩
  | .hbm, ⟨19, _⟩ => ⟨S8256x16, .f32⟩
  | .hbm, ⟨20, _⟩ => ⟨S_, .i32⟩
  | .hbm, ⟨21, _⟩ => ⟨S_, .f32⟩
  | .hbm, ⟨22, _⟩ => ⟨S8256x128, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Cum.lean ====
abbrev S8256x128 : Shape := ⟨2, ![8256, 128]⟩
abbrev S16 : Shape := ⟨1, ![16]⟩
abbrev S_ : Shape := ⟨0, ![]⟩
abbrev S128 : Shape := ⟨1, ![128]⟩
abbrev S1x128 : Shape := ⟨2, ![1, 128]⟩
abbrev S4x2064x128 : Shape := ⟨3, ![4, 2064, 128]⟩
abbrev S1x2064x128 : Shape := ⟨3, ![1, 2064, 128]⟩
abbrev S1x256x128 : Shape := ⟨3, ![1, 256, 128]⟩
abbrev S256x128 : Shape := ⟨2, ![256, 128]⟩
abbrev S256x256 : Shape := ⟨2, ![256, 256]⟩
abbrev S1x16x128 : Shape := ⟨3, ![1, 16, 128]⟩
abbrev S16x128 : Shape := ⟨2, ![16, 128]⟩
abbrev S16x16 : Shape := ⟨2, ![16, 16]⟩

abbrev nBuf : Space → Nat
  | .hbm => 8
  | .vmem => 5
  | .smem => 0
  | _ => 0

abbrev bufTy : (tb : Table) → Fin (tcTables nBuf tb) → BufTy
  | .hbm, ⟨0, _⟩ => ⟨S8256x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S4x2064x128, .f32⟩
  | .hbm, ⟨7, _⟩ => ⟨S4x2064x128, .f32⟩
  | .local _ .vmem, ⟨0, _⟩ => ⟨S1x2064x128, .f32⟩
  | .local _ .vmem, ⟨1, _⟩ => ⟨S1x2064x128, .f32⟩
  | .local _ .vmem, ⟨2, _⟩ => ⟨S1x128, .f32⟩
  | .local _ .vmem, ⟨3, _⟩ => ⟨S1x2064x128, .f32⟩
  | .local _ .vmem, ⟨4, _⟩ => ⟨S1x2064x128, .f32⟩
  | _, _ => ⟨S8256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2064x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumReferenceIdeal.lean ====
abbrev S8256x128 : Shape := ⟨2, ![8256, 128]⟩
abbrev S16 : Shape := ⟨1, ![16]⟩
abbrev S_ : Shape := ⟨0, ![]⟩
abbrev S128 : Shape := ⟨1, ![128]⟩
abbrev S4x2064x128 : Shape := ⟨3, ![4, 2064, 128]⟩
abbrev S1x1x128 : Shape := ⟨3, ![1, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S8256x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S4x2064x128, .f32⟩
  | .hbm, ⟨6, _⟩ => ⟨S1x1x128, .f32⟩
  | .hbm, ⟨7, _⟩ => ⟨S4x2064x128, .f32⟩
  | .hbm, ⟨8, _⟩ => ⟨S4x2064x128, .f32⟩
  | .hbm, ⟨9, _⟩ => ⟨S4x2064x128, .f32⟩
  | .hbm, ⟨10, _⟩ => ⟨S_, .f32⟩
  | .hbm, ⟨11, _⟩ => ⟨S4x2064x128, .f32⟩
  | .hbm, ⟨12, _⟩ => ⟨S4x2064x128, .f32⟩
  | .hbm, ⟨13, _⟩ => ⟨S4x2064x128, .f32⟩
  | .hbm, ⟨14, _⟩ => ⟨S4x2064x128, .f32⟩
  | .hbm, ⟨15, _⟩ => ⟨S4x2064x128, .i1⟩
  | .hbm, ⟨16, _⟩ => ⟨S4x2064x128, .f32⟩
  | .hbm, ⟨17, _⟩ => ⟨S4x2064x128, .f32⟩
  | .hbm, ⟨18, _⟩ => ⟨S4x2064x128, .f32⟩
  | .hbm, ⟨19, _⟩ => ⟨S4x2064x128, .f32⟩
  | .hbm, ⟨20, _⟩ => ⟨S4x2064x128, .f32⟩
  | .hbm, ⟨21, _⟩ => ⟨S4x2064x128, .f32⟩
  | .hbm, ⟨22, _⟩ => ⟨S4x2064x128, .f32⟩
  | .hbm, ⟨23, _⟩ => ⟨S4x2064x128, .f32⟩
  | .hbm, ⟨24, _⟩ => ⟨S4x2064x128, .f32⟩
  | .hbm, ⟨25, _⟩ => ⟨S_, .f32⟩
  | .hbm, ⟨26, _⟩ => ⟨S_, .f32⟩
  | .hbm, ⟨27, _⟩ => ⟨S4x2064x128, .f32⟩
  | _, _ => ⟨S8256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_call2_call0_cst : Ref sig .tc := ⟨.hbm, 25, rfl⟩
abbrev main_call2_call0_v0 : Ref sig .tc := ⟨.hbm, 26, rfl⟩
abbrev main_v6 : Ref sig .tc := ⟨.hbm, 27, rfl⟩

abbrev nD : Nat := 1
abbrev τ : Topo := Topo.v7x

variable {F : FTy → Type} [FloatOps F]
-- ==== Proof.Sb.Math.lean ====
/- Stick-breaking attention of one query row, over the extended reals. A row at position `t` weights the value at an
   earlier position `s` by `exp (log σ(z s) + ∑_{s < u < t} log (1 - σ(z u)))`. The kernel collects the sum block by
   block, from the row's own block backwards; this module states what is collected after the keys from `a` on, and that
   one more block extends it. -/
module

public import Idealize.ShloMosaic.PureOps.Ideal.Laws

@[expose] public section

namespace Cert.Proof.Sb

open Idealize.ShloMosaic

/-- `log σ(-z)` in the form that does not overflow: `min (-z) 0 - log (1 + exp (-|z|))`. -/
noncomputable def logKeep (z : EReal) : EReal := min (0 - z) 0 - Ideal.log (1 + Ideal.exp (0 - max z (-z)))

/-- `log σ(z)`, likewise. -/
noncomputable def logTake (z : EReal) : EReal := min z 0 - Ideal.log (1 + Ideal.exp (0 - max z (-z)))

/-- What the softplus of a finite number is made of is a finite number. -/
theorem log_exp_real (r : ℝ) :
    Ideal.log (1 + Ideal.exp (0 - max (r : EReal) (-r))) = ((Real.log (1 + Real.exp (-max r (-r))) : ℝ) : EReal) := by
  have h : (0 : EReal) - max (r : EReal) (-r) = ((-max r (-r) : ℝ) : EReal) := by
    rw [zero_sub, ← EReal.coe_neg, ← EReal.coe_strictMono.monotone.map_max, ← EReal.coe_neg]
  rw [h]
  have h1 : (1 : EReal) + Ideal.exp ((-max r (-r) : ℝ) : EReal) = ((1 + Real.exp (-max r (-r)) : ℝ) : EReal) := by
    rw [show Ideal.exp ((-max r (-r) : ℝ) : EReal) = ((Real.exp (-max r (-r)) : ℝ) : EReal) from rfl, EReal.coe_add, EReal.coe_one]
  rw [h1]
  exact if_neg (by have := Real.exp_pos (-max r (-r)); linarith)

theorem logKeep_real (r : ℝ) : logKeep r = ((min (-r) 0 - Real.log (1 + Real.exp (-max r (-r))) : ℝ) : EReal) := by
  unfold logKeep
  rw [log_exp_real, zero_sub, ← EReal.coe_neg, EReal.coe_sub, EReal.coe_strictMono.monotone.map_min, EReal.coe_zero]

/-- A real number among the extended reals. -/
def IsReal (z : EReal) : Prop := ∃ r : ℝ, z = r

theorem IsReal.logKeep {z : EReal} (h : IsReal z) : IsReal (logKeep z) := by
  obtain ⟨r, rfl⟩ := h; exact ⟨_, logKeep_real r⟩

theorem IsReal.sub_self {z : EReal} (h : IsReal z) : z - z = 0 := by
  obtain ⟨r, rfl⟩ := h; rw [← EReal.coe_sub, _root_.sub_self, EReal.coe_zero]

theorem IsReal.zero : IsReal 0 := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sum {ι : Type*} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

/-- The log of the weight left over by the keys of `[a, t)`. -/
noncomputable def kept (z : ℕ → EReal) (a t : ℕ) : EReal := ∑ u ∈ Finset.Ico a t, logKeep (z u)

/-- What the keys of `[a, t)` give to the row at `t`. -/
noncomputable def taken (z v : ℕ → EReal) (a t : ℕ) : EReal :=
  ∑ s ∈ Finset.Ico a t, Ideal.exp (logTake (z s) + kept z (s + 1) t) * v s

/-- The terms of a block selected by a condition on the position inside it, when these are an interval. -/
theorem sum_block (n o a b : ℕ) (p : ℕ → Prop) [DecidablePred p] (hp : ∀ x, x < n → (p x ↔ a ≤ x ∧ x < b)) (hb : b ≤ n)
    (f : ℕ → EReal) : ∑ x : Fin n, (if p x then f (o + x) else 0) = ∑ u ∈ Finset.Ico (o + a) (o + b), f u := by
  rw [Fin.sum_univ_eq_sum_range (fun x => if p x then f (o + x) else 0) n, ← Finset.sum_filter]
  have h : (Finset.range n).filter p = Finset.Ico a b := by
    ext x; simp only [Finset.mem_filter, Finset.mem_range, Finset.mem_Ico]
    exact ⟨fun ⟨h1, h2⟩ => (hp x h1).1 h2, fun h => ⟨h.2.trans_le hb, (hp x (h.2.trans_le hb)).2 h⟩⟩
  rw [h, Finset.sum_Ico_add f a b o, add_comm a o, add_comm b o]

/-- All the terms of a block. -/
theorem sum_whole (n o : ℕ) (f : ℕ → EReal) : ∑ x : Fin n, f (o + x) = ∑ u ∈ Finset.Ico o (o + n), f u := by
  have h := sum_block n o 0 n (fun _ => True) (fun x hx => by simp [hx]) le_rfl f
  simpa using h

variable (z v : ℕ → EReal)

/-- A row's own block: the keys before the row's position. -/
theorem kept_diag (n o i : ℕ) (hi : i < n) :
    ∑ x : Fin n, (if (x : ℕ) < i then logKeep (z (o + x)) else 0) = kept z o (o + i) :=
  sum_block n o 0 i (fun x => x < i) (fun x _ => by omega) hi.le fun u => logKeep (z u)

/-- The sum the triangular product forms in the row's own block: the keys between position `x` and the row. -/
theorem kept_diag_after (n o i x : ℕ) (hi : i < n) (hx : x < i) :
    ∑ w : Fin n, (if x < (w : ℕ) then (if (w : ℕ) < i then logKeep (z (o + w)) else 0) else 0) = kept z (o + x + 1) (o + i) := by
  have h := sum_block n o (x + 1) i (fun w => x < w ∧ w < i) (fun w _ => by omega) hi.le fun u => logKeep (z u)
  rw [kept, add_assoc, ← h]
  exact Finset.sum_congr rfl fun w _ => by by_cases h1 : x < (w : ℕ) <;> by_cases h2 : (w : ℕ) < i <;> simp [h1, h2]

theorem taken_diag (n o i : ℕ) (hi : i < n) :
    ∑ x : Fin n, (if (x : ℕ) < i then Ideal.exp (logTake (z (o + x)) + kept z (o + x + 1) (o + i)) else 0) * v (o + x)
      = taken z v o (o + i) := by
  have h := sum_block n o 0 i (fun x => x < i) (fun x _ => by omega) hi.le
    fun s => Ideal.exp (logTake (z s) + kept z (s + 1) (o + i)) * v s
  rw [add_zero] at h
  rw [taken, ← h]
  exact Finset.sum_congr rfl fun x _ => by by_cases h1 : (x : ℕ) < i <;> simp [h1]

/-- One earlier block more: the weight left over. -/
theorem kept_step (n a t : ℕ) (h : a + n ≤ t) :
    kept z (a + n) t + ∑ x : Fin n, logKeep (z (a + x)) = kept z a t := by
  rw [sum_whole n a fun u => logKeep (z u), kept, kept, add_comm]
  exact Finset.sum_Ico_consecutive _ (Nat.le_add_right a n) h

/-- The keys of an earlier block after position `x`, and all the later ones. -/
theorem kept_step_after (n a t x : ℕ) (h : a + n ≤ t) (hx : x < n) :
    (∑ w : Fin n, if x < (w : ℕ) then logKeep (z (a + w)) else 0) + kept z (a + n) t = kept z (a + x + 1) t := by
  rw [sum_block n a (x + 1) n (fun w => x < w) (fun w hw => by omega) le_rfl fun u => logKeep (z u), kept, kept, ← add_assoc]
  exact Finset.sum_Ico_consecutive _ (by omega) h

/-- One earlier block more: what its keys give. -/
theorem taken_step (n a t : ℕ) (h : a + n ≤ t) :
    taken z v (a + n) t + ∑ x : Fin n, Ideal.exp (logTake (z (a + x)) + kept z (a + x + 1) t) * v (a + x) = taken z v a t := by
  rw [sum_whole n a fun s => Ideal.exp (logTake (z s) + kept z (s + 1) t) * v s, taken, taken, add_comm]
  exact Finset.sum_Ico_consecutive _ (Nat.le_add_right a n) h

end Cert.Proof.Sb
-- ==== Proof.Sb.Block.lean ====
/- What the kernel computes of one block of query rows against one block of keys, element by element: the printed block
   terms are the block steps of `Math.lean`. -/
module

public import proofs.«01_k».proof.Proof.Gen.KernelIdeal.Value
public import proofs.«01_k».proof.Proof.Sb.Math
public import Idealize.ShloMosaic.Lib.Pipeline.ValueKit
public import Idealize.ShloMosaic.Lib.WordCmp

@[expose] public section

set_option maxRecDepth 16384

namespace Cert.Proof.Sb

open Cert.KernelIdeal Cert.KernelIdeal.Gen
open Idealize.ShloMosaic Idealize.ShloMosaic.TcCoe Idealize.ShloMosaic.Pointwise

/-- Row `t` of one head's slab, zero past its end. -/
noncomputable def row (x : Vec Ideal S2064x128 .bf16) (t : ℕ) (d : Fin 128) : EReal := if h : t < 2064 then x (ix2 ⟨t, h⟩ d) else 0

/-- The score of the query row at `t` and the key row at `s`. -/
noncomputable def score (q k : Vec Ideal S2064x128 .bf16) (t s : ℕ) : EReal := ∑ d : Fin 128, row q t d * row k s d

/-- All the scores are finite. -/
def Finite (q k : Vec Ideal S2064x128 .bf16) : Prop := ∀ t s, IsReal (score q k t s)

/-- The block `b` holds the rows from `o` on. -/
def Rows {n : ℕ} (x : Vec Ideal S2064x128 .bf16) (o : ℕ) (b : (⟨2, ![n, 128]⟩ : Shape).Idx → EReal) : Prop :=
  ∀ (i : Fin n) (d : Fin 128), b (ix2 i d) = row x (o + i) d

theorem select_lt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (w := 32) ha hb]; by_cases h : a < b <;> simp [h, Scalar.select]

theorem select_gt {α : Type} (a b : ℕ) (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat (w := 32) ha hb]; by_cases h : b < a <;> simp [h, Scalar.select]

/-- A selected finite number has no remainder either. -/
theorem if_real_sub_self {n : ℕ} {f : Fin n → EReal} (h : ∀ x, IsReal (f x)) (p : Prop) [Decidable p] (x : Fin n) :
    (if p then f x else 0) - (if p then f x else 0) = 0 := by
  by_cases hp : p
  · simp only [if_pos hp]; exact (h x).sub_self
  · simp only [if_neg hp]; exact IsReal.zero.sub_self

variable {q₀ k₀ v₀ : Vec Ideal S2064x128 .bf16} {o a : ℕ} {q k v : Vec Ideal S256x128 .bf16}

/-- One log of a weight left over in a block. -/
theorem keep_apply (hq : Rows q₀ o q) (hk : Rows k₀ a k) (i x : Fin 256) :
    k0_pay38 (F := Ideal) q k (ix2 i x) = logKeep (score q₀ k₀ (o + i) (a + x)) := by
  pointwise [k0_pay38, k0_pay37, k0_pay36]
  simp only [hq _ _, hk _ _]
  rfl

theorem takeLog_apply (hq : Rows q₀ o q) (hk : Rows k₀ a k) (i x : Fin 256) :
    min (k0_pay36 (F := Ideal) q k (ix2 i x)) 0 - k0_pay37 (F := Ideal) q k (ix2 i x) = logTake (score q₀ k₀ (o + i) (a + x)) := by
  pointwise [k0_pay37, k0_pay36]
  simp only [hq _ _, hk _ _]
  rfl

/-- An earlier block: the weight left over after it. -/
theorem run_step (hq : Rows q₀ o q) (hk : Rows k₀ a k) (ha : a + 256 ≤ o) (run : FVec Ideal S256x1 .f32)
    (hr : ∀ i : Fin 256, run (ix2 i 0) = kept (score q₀ k₀ (o + i)) (a + 256) (o + i)) (i : Fin 256) :
    k0_pay40 (F := Ideal) q run k (ix2 i 0) = kept (score q₀ k₀ (o + i)) a (o + i) := by
  pointwise [k0_pay40]
  simp only [keep_apply hq hk]
  rw [hr i]
  exact kept_step _ 256 a _ (by omega)

/-- An earlier block: what its keys give is added. -/
theorem acc_step (hf : Finite q₀ k₀) (hq : Rows q₀ o q) (hk : Rows k₀ a k) (hv : Rows v₀ a v) (ha : a + 256 ≤ o)
    (run : FVec Ideal S256x1 .f32) (acc : FVec Ideal S256x128 .f32)
    (hr : ∀ i : Fin 256, run (ix2 i 0) = kept (score q₀ k₀ (o + i)) (a + 256) (o + i))
    (hc : ∀ (i : Fin 256) (d : Fin 128), acc (ix2 i d) = taken (score q₀ k₀ (o + i)) (fun s => row v₀ s d) (a + 256) (o + i))
    (i : Fin 256) (d : Fin 128) :
    k0_pay39 (F := Ideal) k0_pay9 q run acc k v (ix2 i d) = taken (score q₀ k₀ (o + i)) (fun s => row v₀ s d) a (o + i) := by
  pointwise [k0_pay39, k0_pay9]
  simp only [keep_apply hq hk, takeLog_apply hq hk, (hf _ _).logKeep.sub_self, hv _ _]
  rw [hr i, hc i d, ← taken_step _ _ 256 a _ (by omega)]
  congr 1
  refine Finset.sum_congr rfl fun x _ => ?_
  rw [← kept_step_after _ 256 a _ x (by omega) x.isLt]
  simp (disch := omega) only [select_gt, ite_self, Finset.sum_const_zero, add_zero]

/-- The rows' own block: the logs of the weights left over, before the row. -/
theorem keep_diag (hq : Rows q₀ o q) (hk : Rows k₀ o k) (i x : Fin 256) :
    k0_pay32 (F := Ideal) q k (ix2 i x) = if (x : ℕ) < i then logKeep (score q₀ k₀ (o + i) (o + x)) else 0 := by
  pointwise [k0_pay32, k0_pay31, k0_pay30, k0_pay29]
  simp only [hq _ _, hk _ _]
  exact select_lt x i (by omega) (by omega) _ _

theorem takeLog_diag (hq : Rows q₀ o q) (hk : Rows k₀ a k) (i x : Fin 256) :
    min (k0_pay29 (F := Ideal) q k (ix2 i x)) 0 - k0_pay31 (F := Ideal) q k (ix2 i x) = logTake (score q₀ k₀ (o + i) (a + x)) := by
  pointwise [k0_pay31, k0_pay29]
  simp only [hq _ _, hk _ _]
  rfl

/-- The rows' own block: the weight left over. -/
theorem run_diag (hq : Rows q₀ o q) (hk : Rows k₀ o k) (i : Fin 256) :
    k0_pay35 (F := Ideal) (k0_pay32 q k) (ix2 i 0) = kept (score q₀ k₀ (o + i)) o (o + i) := by
  pointwise [k0_pay35]
  simp only [keep_diag hq hk]
  exact kept_diag _ 256 o i i.isLt

/-- The rows' own block: what the keys before the row give. -/
theorem acc_diag (hf : Finite q₀ k₀) (hq : Rows q₀ o q) (hk : Rows k₀ o k) (hv : Rows v₀ o v) (i : Fin 256) (d : Fin 128) :
    k0_pay34 (F := Ideal) k0_pay30 (k0_pay33 k0_pay9 q k) v (ix2 i d)
      = taken (score q₀ k₀ (o + i)) (fun s => row v₀ s d) o (o + i) := by
  pointwise [k0_pay34, k0_pay33, k0_pay9, k0_pay30]
  simp only [keep_diag hq hk, takeLog_diag hq hk, hv _ _, if_real_sub_self (fun x : Fin 256 => (hf (o + i) (o + x)).logKeep)]
  rw [← taken_diag _ _ 256 o i i.isLt]
  refine Finset.sum_congr rfl fun x _ => ?_
  simp (disch := omega) only [select_gt, select_lt, ite_self, Finset.sum_const_zero, add_zero]
  by_cases h : (x : ℕ) < i
  · simp only [if_pos h]
    rw [← kept_diag_after _ 256 o i x i.isLt h]
  · simp only [if_neg h, zero_mul]

/-! ## The last block, of sixteen rows -/

variable {q' k' v' : Vec Ideal S16x128 .bf16}

theorem keep_apply' (hq : Rows q₀ o q') (hk : Rows k₀ a k) (i : Fin 16) (x : Fin 256) :
    k0_pay5 (F := Ideal) q' k (ix2 i x) = logKeep (score q₀ k₀ (o + i) (a + x)) := by
  pointwise [k0_pay5, k0_pay4, k0_pay3]
  simp only [hq _ _, hk _ _]
  rfl

theorem takeLog_apply' (hq : Rows q₀ o q') (hk : Rows k₀ a k) (i : Fin 16) (x : Fin 256) :
    min (k0_pay3 (F := Ideal) q' k (ix2 i x)) 0 - k0_pay4 (F := Ideal) q' k (ix2 i x) = logTake (score q₀ k₀ (o + i) (a + x)) := by
  pointwise [k0_pay4, k0_pay3]
  simp only [hq _ _, hk _ _]
  rfl

theorem run_step' (hq : Rows q₀ o q') (hk : Rows k₀ a k) (ha : a + 256 ≤ o) (run : FVec Ideal S16x1 .f32)
    (hr : ∀ i : Fin 16, run (ix2 i 0) = kept (score q₀ k₀ (o + i)) (a + 256) (o + i)) (i : Fin 16) :
    k0_pay7 (F := Ideal) q' run k (ix2 i 0) = kept (score q₀ k₀ (o + i)) a (o + i) := by
  pointwise [k0_pay7]
  simp only [keep_apply' hq hk]
  rw [hr i]
  exact kept_step _ 256 a _ (by omega)

theorem acc_step' (hf : Finite q₀ k₀) (hq : Rows q₀ o q') (hk : Rows k₀ a k) (hv : Rows v₀ a v) (ha : a + 256 ≤ o)
    (run : FVec Ideal S16x1 .f32) (acc : FVec Ideal S16x128 .f32)
    (hr : ∀ i : Fin 16, run (ix2 i 0) = kept (score q₀ k₀ (o + i)) (a + 256) (o + i))
    (hc : ∀ (i : Fin 16) (d : Fin 128), acc (ix2 i d) = taken (score q₀ k₀ (o + i)) (fun s => row v₀ s d) (a + 256) (o + i))
    (i : Fin 16) (d : Fin 128) :
    k0_pay6 (F := Ideal) k0_pay9 q' run acc k v (ix2 i d) = taken (score q₀ k₀ (o + i)) (fun s => row v₀ s d) a (o + i) := by
  pointwise [k0_pay6, k0_pay9]
  simp only [keep_apply' hq hk, takeLog_apply' hq hk, (hf _ _).logKeep.sub_self, hv _ _]
  rw [hr i, hc i d, ← taken_step _ _ 256 a _ (by omega)]
  congr 1
  refine Finset.sum_congr rfl fun x _ => ?_
  rw [← kept_step_after _ 256 a _ x (by omega) x.isLt]
  simp (disch := omega) only [select_gt, ite_self, Finset.sum_const_zero, add_zero]

theorem keep_diag' (hq : Rows q₀ o q') (hk : Rows k₀ o k') (i x : Fin 16) :
    k0_pay111 (F := Ideal) q' k' (ix2 i x) = if (x : ℕ) < i then logKeep (score q₀ k₀ (o + i) (o + x)) else 0 := by
  pointwise [k0_pay111, k0_pay110, k0_pay109, k0_pay108]
  simp only [hq _ _, hk _ _]
  exact select_lt x i (by omega) (by omega) _ _

theorem takeLog_diag' (hq : Rows q₀ o q') (hk : Rows k₀ a k') (i x : Fin 16) :
    min (k0_pay108 (F := Ideal) q' k' (ix2 i x)) 0 - k0_pay110 (F := Ideal) q' k' (ix2 i x)
      = logTake (score q₀ k₀ (o + i) (a + x)) := by
  pointwise [k0_pay110, k0_pay108]
  simp only [hq _ _, hk _ _]
  rfl

theorem run_diag' (hq : Rows q₀ o q') (hk : Rows k₀ o k') (i : Fin 16) :
    k0_pay2 (F := Ideal) (k0_pay111 q' k') (ix2 i 0) = kept (score q₀ k₀ (o + i)) o (o + i) := by
  pointwise [k0_pay2]
  simp only [keep_diag' hq hk]
  exact kept_diag _ 16 o i i.isLt

theorem acc_diag' (hf : Finite q₀ k₀) (hq : Rows q₀ o q') (hk : Rows k₀ o k') (hv : Rows v₀ o v') (i : Fin 16) (d : Fin 128) :
    k0_pay1 (F := Ideal) (k0_pay112 q' k') v' (ix2 i d)
      = taken (score q₀ k₀ (o + i)) (fun s => row v₀ s d) o (o + i) := by
  pointwise [k0_pay1, k0_pay112, k0_pay109]
  simp only [keep_diag' hq hk, takeLog_diag' hq hk, hv _ _, if_real_sub_self (fun x : Fin 16 => (hf (o + i) (o + x)).logKeep)]
  rw [← taken_diag _ _ 16 o i i.isLt]
  refine Finset.sum_congr rfl fun x _ => ?_
  simp (disch := omega) only [select_gt, select_lt, ite_self, Finset.sum_const_zero, add_zero]
  by_cases h : (x : ℕ) < i
  · simp only [if_pos h]
    rw [← kept_diag_after _ 16 o i x i.isLt h]
  · simp only [if_neg h, zero_mul]

end Cert.Proof.Sb
-- ==== Proof.Sb.Slab.lean ====
/- What the kernel leaves in one head's slab of the output: at every row the sum over all its earlier keys. A block of
   query rows starts with its own keys and then takes the earlier blocks one after another, the nearest first. -/
module

public import proofs.«01_k».proof.Proof.Sb.Block

@[expose] public section

set_option maxRecDepth 16384

namespace Cert.Proof.Sb

open Cert.KernelIdeal Cert.KernelIdeal.Gen
open Idealize.ShloMosaic Idealize.ShloMosaic.TcCoe Idealize.ShloMosaic.Pointwise

/-- What the row at `t` collects at lane `d` from all the keys before it. -/
noncomputable def attend (q k v : Vec Ideal S2064x128 .bf16) (t : ℕ) (d : Fin 128) : EReal :=
  taken (score q k t) (fun s => row v s d) 0 t

/-- The rows of batch element `b` and the columns of head `h` of an array. -/
noncomputable def slab {C : ℕ} (x : (⟨2, ![8256, C]⟩ : Shape).Idx → EReal) (b h : ℕ) : Vec Ideal S2064x128 .bf16 := fun y =>
  if e : 2064 * b + (y 0).val < 8256 ∧ 128 * h + (y 1).val < C then x (ix2 ⟨2064 * b + (y 0).val, e.1⟩ ⟨128 * h + (y 1).val, e.2⟩) else 0

/-- The whole result: at row `r` and column `c`, head `c / 128` of batch element `r / 2064` at its row `r % 2064`. -/
noncomputable def attention (q : Vec Ideal S8256x2048 .bf16) (kv : Vec Ideal S8256x4096 .bf16) : Vec Ideal S8256x2048 .bf16 := fun y =>
  attend (slab q ((y 0).val / 2064) ((y 1).val / 128)) (slab kv ((y 0).val / 2064) ((y 1).val / 128))
    (slab kv ((y 0).val / 2064) (16 + (y 1).val / 128)) ((y 0).val % 2064) ⟨(y 1).val % 128, Nat.mod_lt _ (by decide)⟩

/-- No score of any head is infinite. -/
def AllFinite (q : Vec Ideal S8256x2048 .bf16) (kv : Vec Ideal S8256x4096 .bf16) : Prop := ∀ b h, Finite (slab q b h) (slab kv b h)

/-- A load of `n` rows from row `o` on. -/
theorem rows_ld {n : ℕ} (x : Vec Ideal S2064x128 .bf16) (o : ℕ) (off : Fin 2 → ℕ) (h₀ : off 0 = o) (h₁ : off 1 = 0)
    (inb : ∀ a, off a + (![n, 128] : Fin 2 → ℕ) a ≤ S2064x128.size a) :
    Rows (n := n) x o (View.ld (Val := Elt Ideal) (e' := .bf16) x (Rect.unit (s := S2064x128) off ![n, 128] inb)) := by
  subst h₀
  intro i d
  have hn : off 0 + n ≤ 2064 := inb 0
  rw [row, dif_pos (by omega)]
  refine View.ld_unit_apply_of _ _ _ _ _ _ fun a => ?_
  match a with
  | ⟨0, _⟩ => rfl
  | ⟨1, _⟩ => exact ((congrArg (· + d.val) h₁).trans (Nat.zero_add _)).symm

theorem rows_read {n : ℕ} (x : Vec Ideal S2064x128 .bf16) (o : ℕ) (off : Fin 2 → ℕ) (h₀ : off 0 = o) (h₁ : off 1 = 0)
    (b : Memref sig .tc .vmem S2064x128 .bf16) (hb : b.IsWhole) (inb : ∀ a, off a + (![n, 128] : Fin 2 → ℕ) a ≤ S2064x128.size a) :
    Rows (n := n) x o (View.readAt (Elt Ideal) b.view (Rect.unit (s := S2064x128) off ![n, 128] inb) (hb.unread x)) := by
  rw [View.readAt_eq_ld, hb.read_unread]
  exact rows_ld x o off h₀ h₁ inb

variable {q₀ k₀ v₀ : Vec Ideal S2064x128 .bf16}

/-- The carried pair when the keys from `a` on have been taken by the rows from `o` on. -/
structure Taken {n : ℕ} (q₀ k₀ v₀ : Vec Ideal S2064x128 .bf16) (o a : ℕ)
    (run : (⟨2, ![n, 1]⟩ : Shape).Idx → EReal) (acc : (⟨2, ![n, 128]⟩ : Shape).Idx → EReal) : Prop where
  run : ∀ i : Fin n, run (ix2 i 0) = kept (score q₀ k₀ (o + i)) a (o + i)
  acc : ∀ (i : Fin n) (d : Fin 128), acc (ix2 i d) = taken (score q₀ k₀ (o + i)) (fun s => row v₀ s d) a (o + i)

/-- The rows' own block starts the pair. -/
theorem taken_own {o : ℕ} {q k v : Vec Ideal S256x128 .bf16} (hf : Finite q₀ k₀) (hq : Rows q₀ o q) (hk : Rows k₀ o k) (hv : Rows v₀ o v) :
    Taken q₀ k₀ v₀ o o (k0_pay35 (F := Ideal) (k0_pay32 q k)) (k0_pay34 (F := Ideal) k0_pay30 (k0_pay33 k0_pay9 q k) v) :=
  ⟨run_diag hq hk, acc_diag hf hq hk hv⟩

/-- Taking the block of keys before those already taken. -/
theorem taken_next {o a : ℕ} {q k v : Vec Ideal S256x128 .bf16} (hf : Finite q₀ k₀) (hq : Rows q₀ o q) (hk : Rows k₀ a k) (hv : Rows v₀ a v)
    (ha : a + 256 ≤ o) {run : FVec Ideal S256x1 .f32} {acc : FVec Ideal S256x128 .f32} (h : Taken q₀ k₀ v₀ o (a + 256) run acc) :
    Taken q₀ k₀ v₀ o a (k0_pay40 (F := Ideal) q run k) (k0_pay39 (F := Ideal) k0_pay9 q run acc k v) :=
  ⟨run_step hq hk ha _ h.run, acc_step hf hq hk hv ha _ _ h.run h.acc⟩

theorem taken_next' {o a : ℕ} {q : Vec Ideal S16x128 .bf16} {k v : Vec Ideal S256x128 .bf16} (hf : Finite q₀ k₀) (hq : Rows q₀ o q) (hk : Rows k₀ a k)
    (hv : Rows v₀ a v) (ha : a + 256 ≤ o) {run : FVec Ideal S16x1 .f32} {acc : FVec Ideal S16x128 .f32} (h : Taken q₀ k₀ v₀ o (a + 256) run acc) :
    Taken q₀ k₀ v₀ o a (k0_pay7 (F := Ideal) q run k) (k0_pay6 (F := Ideal) k0_pay9 q run acc k v) :=
  ⟨run_step' hq hk ha _ h.run, acc_step' hf hq hk hv ha _ _ h.run h.acc⟩

theorem taken_own' {o : ℕ} {q k v : Vec Ideal S16x128 .bf16} (hf : Finite q₀ k₀) (hq : Rows q₀ o q) (hk : Rows k₀ o k) (hv : Rows v₀ o v) :
    Taken q₀ k₀ v₀ o o (k0_pay2 (F := Ideal) (k0_pay111 q k)) (k0_pay1 (F := Ideal) (k0_pay112 q k) v) :=
  ⟨run_diag' hq hk, acc_diag' hf hq hk hv⟩

/-- A loop over the `J` blocks before row `256 J`, the nearest first, ends with all the keys taken. -/
theorem taken_loop {J : ℕ} {q : Vec Ideal S256x128 .bf16} (hf : Finite q₀ k₀) (hq : Rows q₀ (256 * J) q)
    (arg3 : Memref sig .tc .vmem S2064x128 .bf16) (harg3 : arg3.IsWhole) (arg4 : Memref sig .tc .vmem S2064x128 .bf16) (harg4 : arg4.IsWhole)
    (st : ℕ → FVec Ideal S256x1 .f32 × FVec Ideal S256x128 .f32) (h0 : Taken q₀ k₀ v₀ (256 * J) (256 * J) (st 0).1 (st 0).2)
    (off : Fin J → Fin 2 → ℕ) (inb : ∀ n a, off n a + (![256, 128] : Fin 2 → ℕ) a ≤ S2064x128.size a)
    (h₀ : ∀ n, off n 0 = 256 * (J - 1 - n.val) ∧ off n 1 = 0)
    (hs : ∀ n : Fin J, st (n.val + 1)
      = (k0_pay40 (F := Ideal) q (st n).1 (View.readAt (Elt Ideal) arg3.view (Rect.unit (s := S2064x128) (off n) ![256, 128] (inb n)) (harg3.unread k₀)),
        k0_pay39 (F := Ideal) k0_pay9 q (st n).1 (st n).2 (View.readAt (Elt Ideal) arg3.view (Rect.unit (s := S2064x128) (off n) ![256, 128] (inb n)) (harg3.unread k₀))
          (View.readAt (Elt Ideal) arg4.view (Rect.unit (s := S2064x128) (off n) ![256, 128] (inb n)) (harg4.unread v₀)))) :
    ∀ n, n ≤ J → Taken q₀ k₀ v₀ (256 * J) (256 * (J - n)) (st n).1 (st n).2
  | 0, _ => h0
  | n + 1, hn => by
    have hk := rows_read k₀ _ _ (h₀ ⟨n, hn⟩).1 (h₀ ⟨n, hn⟩).2 arg3 harg3 (inb ⟨n, hn⟩)
    have hv := rows_read v₀ _ _ (h₀ ⟨n, hn⟩).1 (h₀ ⟨n, hn⟩).2 arg4 harg4 (inb ⟨n, hn⟩)
    have ih := taken_loop hf hq arg3 harg3 arg4 harg4 st h0 off inb h₀ hs n (by omega)
    rw [show 256 * (J - n) = 256 * (J - 1 - n) + 256 by omega] at ih
    rw [hs ⟨n, hn⟩, show J - (n + 1) = J - 1 - n by omega]
    exact taken_next hf hq hk hv (by omega) ih

theorem taken_loop' {J : ℕ} {q : Vec Ideal S16x128 .bf16} (hf : Finite q₀ k₀) (hq : Rows q₀ (256 * J) q)
    (arg3 : Memref sig .tc .vmem S2064x128 .bf16) (harg3 : arg3.IsWhole) (arg4 : Memref sig .tc .vmem S2064x128 .bf16) (harg4 : arg4.IsWhole)
    (st : ℕ → FVec Ideal S16x1 .f32 × FVec Ideal S16x128 .f32) (h0 : Taken q₀ k₀ v₀ (256 * J) (256 * J) (st 0).1 (st 0).2)
    (off : Fin J → Fin 2 → ℕ) (inb : ∀ n a, off n a + (![256, 128] : Fin 2 → ℕ) a ≤ S2064x128.size a)
    (h₀ : ∀ n, off n 0 = 256 * (J - 1 - n.val) ∧ off n 1 = 0)
    (hs : ∀ n : Fin J, st (n.val + 1)
      = (k0_pay7 (F := Ideal) q (st n).1 (View.readAt (Elt Ideal) arg3.view (Rect.unit (s := S2064x128) (off n) ![256, 128] (inb n)) (harg3.unread k₀)),
        k0_pay6 (F := Ideal) k0_pay9 q (st n).1 (st n).2 (View.readAt (Elt Ideal) arg3.view (Rect.unit (s := S2064x128) (off n) ![256, 128] (inb n)) (harg3.unread k₀))
          (View.readAt (Elt Ideal) arg4.view (Rect.unit (s := S2064x128) (off n) ![256, 128] (inb n)) (harg4.unread v₀)))) :
    ∀ n, n ≤ J → Taken q₀ k₀ v₀ (256 * J) (256 * (J - n)) (st n).1 (st n).2
  | 0, _ => h0
  | n + 1, hn => by
    have hk := rows_read k₀ _ _ (h₀ ⟨n, hn⟩).1 (h₀ ⟨n, hn⟩).2 arg3 harg3 (inb ⟨n, hn⟩)
    have hv := rows_read v₀ _ _ (h₀ ⟨n, hn⟩).1 (h₀ ⟨n, hn⟩).2 arg4 harg4 (inb ⟨n, hn⟩)
    have ih := taken_loop' hf hq arg3 harg3 arg4 harg4 st h0 off inb h₀ hs n (by omega)
    rw [show 256 * (J - n) = 256 * (J - 1 - n) + 256 by omega] at ih
    rw [hs ⟨n, hn⟩, show J - (n + 1) = J - 1 - n by omega]
    exact taken_next' hf hq hk hv (by omega) ih

/-- With all the keys taken, the rows of a block hold what they collect. -/
theorem Taken.attend {n o : ℕ} {run : (⟨2, ![n, 1]⟩ : Shape).Idx → EReal} {acc : (⟨2, ![n, 128]⟩ : Shape).Idx → EReal}
    (h : Taken q₀ k₀ v₀ o 0 run acc) (y : (⟨2, ![n, 128]⟩ : Shape).Idx) : acc y = attend q₀ k₀ v₀ (o + (y 0).val) (y 1) := by
  have e := h.acc (y 0) (y 1)
  rwa [ix2_eta] at e

/-- The block at `o` of the slab, once its rows hold what they collect. -/
theorem attend_at {n : ℕ} (q₀ k₀ v₀ : Vec Ideal S2064x128 .bf16) (o : ℕ)
    (inb : ∀ a, (![o, 0] : Fin 2 → ℕ) a + (![n, 128] : Fin 2 → ℕ) a ≤ S2064x128.size a)
    (w : (⟨2, ![n, 128]⟩ : Shape).Idx → EReal) (hw : ∀ x, w x = attend q₀ k₀ v₀ (o + (x 0).val) (x 1))
    (x : (Rect.unit (s := S2064x128) ![o, 0] ![n, 128] inb).shape.Idx) :
    w x = attend q₀ k₀ v₀ ((Rect.unit (s := S2064x128) ![o, 0] ![n, 128] inb).emb x 0).val ((Rect.unit (s := S2064x128) ![o, 0] ![n, 128] inb).emb x 1) := by
  have e₀ : ((Rect.unit (s := S2064x128) ![o, 0] ![n, 128] inb).emb x 0).val = o + (x 0).val := Rect.idx_unit_val _ _ _ _ _
  have e₁ : (Rect.unit (s := S2064x128) ![o, 0] ![n, 128] inb).emb x 1 = x 1 := Fin.ext ((Rect.idx_unit_val _ _ _ _ _).trans (Nat.zero_add _))
  rw [e₀, e₁]
  exact hw x

section

variable (c : Dev nD) (i : grid0.Coords) (arg2 : Memref sig .tc .vmem S2064x128 .bf16) (harg2 : arg2.IsWhole)
  (arg3 : Memref sig .tc .vmem S2064x128 .bf16) (harg3 : arg3.IsWhole) (arg4 : Memref sig .tc .vmem S2064x128 .bf16) (harg4 : arg4.IsWhole)
  (arg5 : Memref sig .tc .vmem S2064x128 .bf16) (harg5 : arg5.IsWhole)

theorem loop1 (hf : Finite q₀ k₀) (q : Vec Ideal S256x128 .bf16) (hq : Rows q₀ 512 q) (a b d) (init : FVec Ideal S256x1 .f32 × FVec Ideal S256x128 .f32)
    (h0 : Taken q₀ k₀ v₀ 512 512 init.1 init.2) (y : S256x128.Idx) :
    (st_k0_t1 (F := Ideal) Variants.none c none i arg2 harg2 arg3 harg3 arg4 harg4 arg5 harg5 k0_pay9 q a b d
        (harg3.unread k₀) (harg4.unread v₀) init 2).2 y = attend q₀ k₀ v₀ (512 + (y 0).val) (y 1) := by
  refine (taken_loop (J := 2) hf hq arg3 harg3 arg4 harg4 _ h0 k0_off2 k0_off2_inb (by decide +kernel) (fun n => ?_) 2 le_rfl).attend y
  refine (st_k0_t1_succ Variants.none c none i arg2 harg2 arg3 harg3 arg4 harg4 arg5 harg5 _ _ _ _ _ _ _ _ n).trans ?_
  unfold tripR_k0_t1 trip_k0_t1
  rfl

theorem loop2 (hf : Finite q₀ k₀) (q : Vec Ideal S256x128 .bf16) (hq : Rows q₀ 768 q) (a b d e f) (init : FVec Ideal S256x1 .f32 × FVec Ideal S256x128 .f32)
    (h0 : Taken q₀ k₀ v₀ 768 768 init.1 init.2) (y : S256x128.Idx) :
    (st_k0_t2 (F := Ideal) Variants.none c none i arg2 harg2 arg3 harg3 arg4 harg4 arg5 harg5 k0_pay9 q a b d e f
        (harg3.unread k₀) (harg4.unread v₀) init 3).2 y = attend q₀ k₀ v₀ (768 + (y 0).val) (y 1) := by
  refine (taken_loop (J := 3) hf hq arg3 harg3 arg4 harg4 _ h0 k0_off3 k0_off3_inb (by decide +kernel) (fun n => ?_) 3 le_rfl).attend y
  refine (st_k0_t2_succ Variants.none c none i arg2 harg2 arg3 harg3 arg4 harg4 arg5 harg5 _ _ _ _ _ _ _ _ _ _ n).trans ?_
  unfold tripR_k0_t2 trip_k0_t2
  rfl

theorem loop3 (hf : Finite q₀ k₀) (q : Vec Ideal S256x128 .bf16) (hq : Rows q₀ 1024 q) (a b d e f) (init : FVec Ideal S256x1 .f32 × FVec Ideal S256x128 .f32)
    (h0 : Taken q₀ k₀ v₀ 1024 1024 init.1 init.2) (y : S256x128.Idx) :
    (st_k0_t3 (F := Ideal) Variants.none c none i arg2 harg2 arg3 harg3 arg4 harg4 arg5 harg5 k0_pay9 q a b d e f
        (harg3.unread k₀) (harg4.unread v₀) init 4).2 y = attend q₀ k₀ v₀ (1024 + (y 0).val) (y 1) := by
  refine (taken_loop (J := 4) hf hq arg3 harg3 arg4 harg4 _ h0 k0_off4 k0_off4_inb (by decide +kernel) (fun n => ?_) 4 le_rfl).attend y
  refine (st_k0_t3_succ Variants.none c none i arg2 harg2 arg3 harg3 arg4 harg4 arg5 harg5 _ _ _ _ _ _ _ _ _ _ n).trans ?_
  unfold tripR_k0_t3 trip_k0_t3
  rfl

theorem loop4 (hf : Finite q₀ k₀) (q : Vec Ideal S256x128 .bf16) (hq : Rows q₀ 1280 q) (a b d e) (init : FVec Ideal S256x1 .f32 × FVec Ideal S256x128 .f32)
    (h0 : Taken q₀ k₀ v₀ 1280 1280 init.1 init.2) (y : S256x128.Idx) :
    (st_k0_t4 (F := Ideal) Variants.none c none i arg2 harg2 arg3 harg3 arg4 harg4 arg5 harg5 k0_pay9 q a b d e
        (harg3.unread k₀) (harg4.unread v₀) init 5).2 y = attend q₀ k₀ v₀ (1280 + (y 0).val) (y 1) := by
  refine (taken_loop (J := 5) hf hq arg3 harg3 arg4 harg4 _ h0 k0_off5 k0_off5_inb (by decide +kernel) (fun n => ?_) 5 le_rfl).attend y
  refine (st_k0_t4_succ Variants.none c none i arg2 harg2 arg3 harg3 arg4 harg4 arg5 harg5 _ _ _ _ _ _ _ _ _ n).trans ?_
  unfold tripR_k0_t4 trip_k0_t4
  rfl

theorem loop5 (hf : Finite q₀ k₀) (q : Vec Ideal S256x128 .bf16) (hq : Rows q₀ 1536 q) (a b d e) (init : FVec Ideal S256x1 .f32 × FVec Ideal S256x128 .f32)
    (h0 : Taken q₀ k₀ v₀ 1536 1536 init.1 init.2) (y : S256x128.Idx) :
    (st_k0_t5 (F := Ideal) Variants.none c none i arg2 harg2 arg3 harg3 arg4 harg4 arg5 harg5 k0_pay9 q a b d e
        (harg3.unread k₀) (harg4.unread v₀) init 6).2 y = attend q₀ k₀ v₀ (1536 + (y 0).val) (y 1) := by
  refine (taken_loop (J := 6) hf hq arg3 harg3 arg4 harg4 _ h0 k0_off6 k0_off6_inb (by decide +kernel) (fun n => ?_) 6 le_rfl).attend y
  refine (st_k0_t5_succ Variants.none c none i arg2 harg2 arg3 harg3 arg4 harg4 arg5 harg5 _ _ _ _ _ _ _ _ _ n).trans ?_
  unfold tripR_k0_t5 trip_k0_t5
  rfl

theorem loop6 (hf : Finite q₀ k₀) (q : Vec Ideal S256x128 .bf16) (hq : Rows q₀ 1792 q) (init : FVec Ideal S256x1 .f32 × FVec Ideal S256x128 .f32)
    (h0 : Taken q₀ k₀ v₀ 1792 1792 init.1 init.2) (y : S256x128.Idx) :
    (st_k0_t6 (F := Ideal) Variants.none c none i arg2 harg2 arg3 harg3 arg4 harg4 arg5 harg5 k0_pay9 q
        (harg3.unread k₀) (harg4.unread v₀) init 7).2 y = attend q₀ k₀ v₀ (1792 + (y 0).val) (y 1) := by
  refine (taken_loop (J := 7) hf hq arg3 harg3 arg4 harg4 _ h0 k0_off7 k0_off7_inb (by decide +kernel) (fun n => ?_) 7 le_rfl).attend y
  refine (st_k0_t6_succ Variants.none c none i arg2 harg2 arg3 harg3 arg4 harg4 arg5 harg5 _ _ _ _ _ n).trans ?_
  unfold tripR_k0_t6 trip_k0_t6
  rfl

theorem loop7 (hf : Finite q₀ k₀) (q : Vec Ideal S16x128 .bf16) (hq : Rows q₀ 2048 q) (init : FVec Ideal S16x1 .f32 × FVec Ideal S16x128 .f32)
    (h0 : Taken q₀ k₀ v₀ 2048 2048 init.1 init.2) (y : S16x128.Idx) :
    (st_k0_t7 (F := Ideal) Variants.none c none i arg2 harg2 arg3 harg3 arg4 harg4 arg5 harg5 k0_pay9 q
        (harg3.unread k₀) (harg4.unread v₀) init 8).2 y = attend q₀ k₀ v₀ (2048 + (y 0).val) (y 1) := by
  refine (taken_loop' (J := 8) hf hq arg3 harg3 arg4 harg4 _ h0 k0_off8 k0_off8_inb (by decide +kernel) (fun n => ?_) 8 le_rfl).attend y
  refine (st_k0_t7_succ Variants.none c none i arg2 harg2 arg3 harg3 arg4 harg4 arg5 harg5 _ _ _ _ _ n).trans ?_
  unfold tripR_k0_t7 trip_k0_t7
  rfl

theorem out_attend (hf : Finite q₀ k₀) (y : S2064x128.Idx) :
    out0_A_3 (F := Ideal) c i arg2 harg2 arg3 harg3 arg4 harg4 arg5 harg5 q₀ k₀ v₀ y = attend q₀ k₀ v₀ (y 0).val (y 1) := by
  frame_out
  refine View.canon_apply_of_pieces (Val := Elt Ideal) (e := .bf16) (G := fun y : S2064x128.Idx => attend q₀ k₀ v₀ (y 0).val (y 1)) _ (fun p hp => ?_) y (View.cover_of_tiledBy _ ![16, 128] (by sl_kernel_rfl) y)
  simp only [List.mem_cons, List.not_mem_nil, or_false] at hp
  have rq := fun (n o : ℕ) inb => rows_ld (n := n) q₀ o ![o, 0] rfl rfl inb
  have rk := fun (n o : ℕ) inb => rows_ld (n := n) k₀ o ![o, 0] rfl rfl inb
  have rv := fun (n o : ℕ) inb => rows_ld (n := n) v₀ o ![o, 0] rfl rfl inb
  rcases hp with rfl | rfl | rfl | rfl | rfl | rfl | rfl | rfl | rfl
  · refine attend_at q₀ k₀ v₀ 2048 inb_S2064x128_S16x128_2048_0 _ ?_
    exact loop7 c i arg2 harg2 arg3 harg3 arg4 harg4 arg5 harg5 hf _ (rq 16 2048 _) _ (taken_own' hf (rq 16 2048 _) (rk 16 2048 _) (rv 16 2048 _))
  · refine attend_at q₀ k₀ v₀ 1792 inb_S2064x128_S256x128_1792_0 _ ?_
    exact loop6 c i arg2 harg2 arg3 harg3 arg4 harg4 arg5 harg5 hf _ (rq 256 1792 _) _ (taken_own hf (rq 256 1792 _) (rk 256 1792 _) (rv 256 1792 _))
  · refine attend_at q₀ k₀ v₀ 1536 inb_S2064x128_S256x128_1536_0 _ ?_
    exact loop5 c i arg2 harg2 arg3 harg3 arg4 harg4 arg5 harg5 hf _ (rq 256 1536 _) _ _ _ _ _ (taken_own hf (rq 256 1536 _) (rk 256 1536 _) (rv 256 1536 _))
  · refine attend_at q₀ k₀ v₀ 1280 inb_S2064x128_S256x128_1280_0 _ ?_
    exact loop4 c i arg2 harg2 arg3 harg3 arg4 harg4 arg5 harg5 hf _ (rq 256 1280 _) _ _ _ _ _ (taken_own hf (rq 256 1280 _) (rk 256 1280 _) (rv 256 1280 _))
  · refine attend_at q₀ k₀ v₀ 1024 inb_S2064x128_S256x128_1024_0 _ ?_
    exact loop3 c i arg2 harg2 arg3 harg3 arg4 harg4 arg5 harg5 hf _ (rq 256 1024 _) _ _ _ _ _ _ (taken_own hf (rq 256 1024 _) (rk 256 1024 _) (rv 256 1024 _))
  · refine attend_at q₀ k₀ v₀ 768 inb_S2064x128_S256x128_768_0 _ ?_
    exact loop2 c i arg2 harg2 arg3 harg3 arg4 harg4 arg5 harg5 hf _ (rq 256 768 _) _ _ _ _ _ _ (taken_own hf (rq 256 768 _) (rk 256 768 _) (rv 256 768 _))
  · refine attend_at q₀ k₀ v₀ 512 inb_S2064x128_S256x128_512_0 _ ?_
    exact loop1 c i arg2 harg2 arg3 harg3 arg4 harg4 arg5 harg5 hf _ (rq 256 512 _) _ _ _ _ (taken_own hf (rq 256 512 _) (rk 256 512 _) (rv 256 512 _))
  · have t := taken_own hf (rq 256 256 inb_S2064x128_S256x128_256_0) (rk 256 256 inb_S2064x128_S256x128_256_0) (rv 256 256 inb_S2064x128_S256x128_256_0)
    have hk := rows_ld (n := 256) k₀ 0 k0_off1 (by decide +kernel) (by decide +kernel) k0_off1_inb
    have hv := rows_ld (n := 256) v₀ 0 k0_off1 (by decide +kernel) (by decide +kernel) k0_off1_inb
    have s := taken_next (a := 0) hf (rq 256 256 inb_S2064x128_S256x128_256_0) hk hv (by omega) t
    refine attend_at q₀ k₀ v₀ 256 inb_S2064x128_S256x128_256_0 _ fun x => ?_
    exact s.attend x
  · refine attend_at q₀ k₀ v₀ 0 inb_S2064x128_S256x128_0_0 _ fun x => ?_
    exact (taken_own hf (rq 256 0 inb_S2064x128_S256x128_0_0) (rk 256 0 inb_S2064x128_S256x128_0_0) (rv 256 0 inb_S2064x128_S256x128_0_0)).attend x
end

end Cert.Proof.Sb
-- ==== Proof.Sb.Array.lean ====
/- The array the launch leaves: every head's slab of the output holds the stick-breaking attention of that head's slabs. -/
module

public import proofs.«01_k».proof.Proof.Sb.Slab

@[expose] public section

set_option maxRecDepth 16384

namespace Cert.Proof.Sb

open Cert.KernelIdeal Cert.KernelIdeal.Gen
open Idealize.ShloMosaic Idealize.ShloMosaic.TcCoe Idealize.ShloMosaic.Pointwise

theorem idx : ∀ t : Fin cfg0.N, win0_0.index t = win0_3.index t ∧ win0_1.index t = win0_3.index t
    ∧ win0_2.index t = ![win0_3.index t 0, 16 + win0_3.index t 1] ∧ win0_3.index t 0 < 4 ∧ win0_3.index t 1 < 16 :=
  (by decide +kernel : ∀ t : Fin grid0.N, _)

variable (m : (ℓ : Loc nD τ sig) → Buf (Elt Ideal) ℓ) (c : Dev nD)

/-- The windows hand a point the slabs of its head. -/
theorem block0 (t : Fin cfg0.N) : iblk m c 0 t = slab (m ((c : Thread nD τ).loc main_arg0)) (win0_3.index t 0) (win0_3.index t 1) := by
  funext (y : S2064x128.Idx)
  obtain ⟨h0, h1, h2, h3, h4⟩ := idx t
  have e0 : (y 0).val < 2064 := (y 0).isLt
  have e1 : (y 1).val < 128 := (y 1).isLt
  rw [slab, dif_pos (by omega)]
  blk_simp [iblk]
  blk_ext [V, h0]

theorem block1 (t : Fin cfg0.N) : iblk m c 1 t = slab (m ((c : Thread nD τ).loc main_arg1)) (win0_3.index t 0) (win0_3.index t 1) := by
  funext (y : S2064x128.Idx)
  obtain ⟨h0, h1, h2, h3, h4⟩ := idx t
  have e0 : (y 0).val < 2064 := (y 0).isLt
  have e1 : (y 1).val < 128 := (y 1).isLt
  rw [slab, dif_pos (by omega)]
  blk_simp [iblk]
  blk_ext [V, h1]

theorem block2 (t : Fin cfg0.N) : iblk m c 2 t = slab (m ((c : Thread nD τ).loc main_arg1)) (win0_3.index t 0) (16 + win0_3.index t 1) := by
  funext (y : S2064x128.Idx)
  obtain ⟨h0, h1, h2, h3, h4⟩ := idx t
  have e0 : (y 0).val < 2064 := (y 0).isLt
  have e1 : (y 1).val < 128 := (y 1).isLt
  rw [slab, dif_pos (by omega)]
  blk_simp [iblk]
  blk_ext [V, h2]

theorem final (hf : AllFinite (m ((c : Thread nD τ).loc main_arg0)) (m ((c : Thread nD τ).loc main_arg1))) :
    (dats m 0 c).arrAt 3 (cfgs 0).N = attention (m ((c : Thread nD τ).loc main_arg0)) (m ((c : Thread nD τ).loc main_arg1)) := by
  refine (dats m 0 c).arrAt_eq_of_covers 3 _ (by decide +kernel) fun t _ (y : S2064x128.Idx) => ?_
  blk_simp
  rw [after0_3]
  have hb : Finite (iblk m c 0 t) (iblk m c 1 t) := block0 m c t ▸ block1 m c t ▸ hf (win0_3.index t 0) (win0_3.index t 1)
  refine (out_attend (v₀ := iblk m c 2 t) c (grid0.coords t) (ms0_0 t) (hs0_0 t) (ms0_1 t) (hs0_1 t) (ms0_2 t) (hs0_2 t) (ms0_3 t) (hs0_3 t) hb y).trans ?_
  obtain ⟨-, -, -, h3, h4⟩ := idx t
  have e0 : (y 0).val < 2064 := (y 0).isLt
  have e1 : (y 1).val < 128 := (y 1).isLt
  have p0 : ((win0_3.blk t).view.emb y 0).val = 2064 * win0_3.index t 0 + (y 0).val := by blk_simp; omega
  have p1 : ((win0_3.blk t).view.emb y 1).val = 128 * win0_3.index t 1 + (y 1).val := by blk_simp; omega
  rw [block0, block1, block2]
  unfold attention
  have d0 : (2064 * win0_3.index t 0 + (y 0).val) / 2064 = win0_3.index t 0 := by omega
  have d1 : (128 * win0_3.index t 1 + (y 1).val) / 128 = win0_3.index t 1 := by omega
  have r0 : (2064 * win0_3.index t 0 + (y 0).val) % 2064 = (y 0).val := by omega
  have r1 : (128 * win0_3.index t 1 + (y 1).val) % 128 = (y 1).val := by omega
  simp only [p0, p1, d0, d1, r0, r1]
  rfl

end Cert.Proof.Sb
-- ==== Proof.Sb.Reference.lean ====
/- The reference, element by element: it is the same attention where the scores are finite. -/
module

public import proofs.«01_k».proof.Proof.Gen.ReferenceIdeal.Run
public import proofs.«01_k».proof.Proof.Sb.Slab

@[expose] public section

set_option maxRecDepth 16384

namespace Cert.Proof.Sb

open Cert.ReferenceIdeal Cert.ReferenceIdeal.Gen
open Idealize.ShloMosaic Idealize.ShloMosaic.TcCoe Idealize.ShloMosaic.Pointwise

/-- The reference's arrays over batch element, head, query row and key row. -/
abbrev Pairs : Type := FVec Ideal S4x16x2064x2064 .f32

noncomputable abbrev zeros : Pairs := broadcastInDim S4x16x2064x2064 ![] bcast_S_S4x16x2064x2064 (constant S_ .f32 0x00000000#32)

abbrev earlier : IVec S4x16x2064x2064 1 :=
  broadcastInDim S4x16x2064x2064 ![2, 3] bcast_S2064x2064_S4x16x2064x2064_2_3 (cmpi .slt
    (broadcastInDim S2064x2064 ![0, 1] bcast_S1x2064_S2064x2064_0_1 (broadcastInDim S1x2064 ![1] bcast_S2064_S1x2064_1 (iotaInDim S2064 32 0)))
    (broadcastInDim S2064x2064 ![0, 1] bcast_S2064x1_S2064x2064_0_1 (broadcastInDim S2064x1 ![0] bcast_S2064_S2064x1_0 (iotaInDim S2064 32 0))))

/-- An array kept at the earlier keys, zero elsewhere. -/
noncomputable def onlyEarlier (x : Pairs) : Pairs :=
  select earlier x (broadcastInDim S4x16x2064x2064 ![] bcast_S_S4x16x2064x2064 (id (constant S_ .f32 0x00000000#32)))

noncomputable def logSigmoid (x : Pairs) : Pairs :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

noncomputable def fromHere (x : Pairs) : Pairs :=
  Host.reduceWindowAdd ![1, 1, 1, 2064] ![1, 1, 1, 1] ![0, 0, 0, 0] ![0, 0, 0, 2063] x (broadcastInDim S_ ![] bcast_S_S_ (constant S_ .f32 0x00000000#32))
    reduceWindows_S4x16x2064x2064_S4x16x2064x2064_w1s1p0_0_w1s1p0_0_w1s1p0_0_w2064s1p0_2063 h_S_

noncomputable def scores (q : FVec Ideal S8256x2048 .bf16) (kv : FVec Ideal S8256x4096 .bf16) : Pairs :=
  Host.dotGeneral dot_S4x2064x16x128_S4x2064x16x128_S4x16x2064x2064_3_3_1_1_02_02 none
    (shapeCast _ (extf .f32 q bitsLt_bf16_f32) shapeCasts_S8256x2048_S4x2064x16x128)
    (shapeCast _ (extf .f32 (extractStridedSlice S8256x2048 ![0, 0] kv slices_S8256x4096_S8256x2048_0_0) bitsLt_bf16_f32) shapeCasts_S8256x2048_S4x2064x16x128)

noncomputable def weights (z : Pairs) : Pairs :=
  onlyEarlier (Host.exp (addf (logSigmoid z) (subf (fromHere (onlyEarlier (logSigmoid (Host.negf z)))) (onlyEarlier (logSigmoid (Host.negf z))))))

noncomputable def gathered (w : Pairs) (kv : FVec Ideal S8256x4096 .bf16) : FVec Ideal S8256x2048 .bf16 :=
  truncf .bf16 (shapeCast _ (transpose S4x2064x16x128 [0, 3, 1, 2] (Host.dotGeneral dot_S4x2064x16x128_S4x16x2064x2064_S4x16x128x2064_1_3_3_2_02_01 none
    (shapeCast _ (extf .f32 (extractStridedSlice S8256x2048 ![0, 2048] kv slices_S8256x4096_S8256x2048_0_2048) bitsLt_bf16_f32) shapeCasts_S8256x2048_S4x2064x16x128) w)
    transposes_S4x16x128x2064_S4x2064x16x128_0_3_1_2) shapeCasts_S4x2064x16x128_S8256x2048) bitsLt_bf16_f32

theorem result_eq (m : (ℓ : Loc nD τ sig) → Buf (Elt Ideal) ℓ) (c : Dev nD) : Value.res_out0 m c
    = gathered (weights (scores (m ((c.tc : Thread nD τ).loc main_arg0)) (m ((c.tc : Thread nD τ).loc main_arg1)))) (m ((c.tc : Thread nD τ).loc main_arg1)) := rfl

theorem row_slab {C : ℕ} (x : (⟨2, ![8256, C]⟩ : Shape).Idx → EReal) (b h t : ℕ) (d : Fin 128) (ht : t < 2064) (hb : 2064 * b + t < 8256)
    (hd : 128 * h + d.val < C) : row (slab x b h) t d = x (ix2 ⟨2064 * b + t, hb⟩ ⟨128 * h + d.val, hd⟩) := by
  rw [row, dif_pos ht, slab, dif_pos ⟨hb, hd⟩]
  rfl

theorem scores_apply (q : FVec Ideal S8256x2048 .bf16) (kv : FVec Ideal S8256x4096 .bf16) (b : Fin 4) (h : Fin 16) (t s : Fin 2064) :
    scores q kv (ix4 b h t s) = score (slab q b h) (slab kv b h) t s := by
  pointwise [scores]
  unfold score
  refine Finset.sum_congr rfl fun d _ => ?_
  rw [row_slab q b h t d t.isLt (by omega) (by omega), row_slab kv b h s d s.isLt (by omega) (by omega)]
  simp only [Nat.mul_comm]

theorem onlyEarlier_apply (x : Pairs) (b : Fin 4) (h : Fin 16) (t s : Fin 2064) :
    onlyEarlier x (ix4 b h t s) = if s.val < t.val then x (ix4 b h t s) else 0 := by
  pointwise [onlyEarlier, id]
  exact select_lt s.val t.val (by omega) (by omega) _ _

theorem logSigmoid_apply (x : Pairs) (i : S4x16x2064x2064.Idx) (hx : IsReal (x i)) : logSigmoid x i = logTake (x i) := by
  pointwise [logSigmoid]
  obtain ⟨r, hr⟩ := hx
  rw [hr, if_neg (fun h => h rfl), logTake, log_exp_real]
  have e : Ideal.log1p (Ideal.exp (-FloatOps.absf (F := Ideal) (φ := .f32) (-(r : EReal)))) = ((Real.log (1 + Real.exp (-max r (-r))) : ℝ) : EReal) := by
    rw [← log_exp_real, zero_sub, max_comm (r : EReal)]
    show Ideal.log (1 + Ideal.exp (-max (-(r : EReal)) (- -(r : EReal)))) = _
    rw [neg_neg]
  rw [e, ← EReal.coe_neg, ← EReal.coe_zero, ← EReal.coe_strictMono.monotone.map_max, ← EReal.coe_strictMono.monotone.map_min, ← EReal.coe_add,
    ← EReal.coe_neg, ← EReal.coe_sub]
  congr 1
  rw [neg_add, ← sub_eq_add_neg]
  congr 1
  rcases le_total r 0 with h | h
  · rw [max_eq_left (by linarith), min_eq_left h, neg_neg]
  · rw [max_eq_right (by linarith), min_eq_right h, neg_zero]

/-- A left fold by addition is the sum. -/
theorem foldl_add {ι : Type} (g : ι → EReal) (l : List ι) (a : EReal) : l.foldl (fun r n => r + g n) a = a + (l.map g).sum := by
  induction l generalizing a with
  | nil => simp
  | cons n l ih => rw [List.foldl_cons, ih, List.map_cons, List.sum_cons, add_assoc]

theorem fromHere_apply (x : Pairs) (b : Fin 4) (h : Fin 16) (t s : Fin 2064) :
    fromHere x (ix4 b h t s) = ∑ w : Fin 2064, if hw : s.val + w.val < 2064 then x (ix4 b h t ⟨s.val + w.val, hw⟩) else 0 := by
  have z : (broadcastInDim S_ ![] bcast_S_S_ (constant (F := Ideal) S_ .f32 0x00000000#32)) (Shape.Idx.first h_S_) = (0 : EReal) := by
    pointwise []
  unfold fromHere Host.reduceWindowAdd
  rw [Ideal.hostReduceWindowAdd_def, z]
  unfold Ideal.hostReduceWindowAdd Host.reduceWindow
  simp only []
  rw [foldl_add (ι := Fin _) _ _ (0 : EReal), zero_add, ← List.ofFn_eq_map, List.sum_ofFn]
  let e : Fin 2064 ≃ Fin (⟨4, ![1, 1, 1, 2064]⟩ : Shape).numel :=
    (⟨fun w => ix4 0 0 0 w, fun k => k 3, fun _ => rfl, fun k => by
      funext a
      match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => rfl⟩ : Fin 2064 ≃ (⟨4, ![1, 1, 1, 2064]⟩ : Shape).Idx).trans (⟨4, ![1, 1, 1, 2064]⟩ : Shape).rowMajor
  refine (e.sum_comp _).symm.trans (Finset.sum_congr rfl fun w _ => ?_)
  have hw : (⟨4, ![1, 1, 1, 2064]⟩ : Shape).rowMajor.symm (e w) = ix4 0 0 0 w := Equiv.symm_apply_apply _ _
  simp only [hw]
  by_cases h3 : s.val + w.val < 2064
  · rw [dif_pos h3, dif_pos]
    swap
    · intro a
      match a with
      | ⟨0, _⟩ => exact ⟨Nat.zero_le _, show b.val * 1 + 0 - 0 < 4 by omega⟩
      | ⟨1, _⟩ => exact ⟨Nat.zero_le _, show h.val * 1 + 0 - 0 < 16 by omega⟩
      | ⟨2, _⟩ => exact ⟨Nat.zero_le _, show t.val * 1 + 0 - 0 < 2064 by omega⟩
      | ⟨3, _⟩ => exact ⟨Nat.zero_le _, show s.val * 1 + w.val - 0 < 2064 by omega⟩
    congr 1
    funext a
    match a with
    | ⟨0, _⟩ => exact Fin.ext (show b.val * 1 + 0 - 0 = b.val by omega)
    | ⟨1, _⟩ => exact Fin.ext (show h.val * 1 + 0 - 0 = h.val by omega)
    | ⟨2, _⟩ => exact Fin.ext (show t.val * 1 + 0 - 0 = t.val by omega)
    | ⟨3, _⟩ => exact Fin.ext (show s.val * 1 + w.val - 0 = s.val + w.val by omega)
  · rw [dif_neg h3, dif_neg]
    intro h4
    have := (h4 3).2
    exact h3 (by have e : s.val * 1 + w.val - 0 < 2064 := this; omega)

/-- What the reference leaves at one pair. -/
theorem weights_apply (z : Pairs) (b : Fin 4) (h : Fin 16) (t s : Fin 2064) (f : ℕ → EReal) (hf : ∀ u, IsReal (f u))
    (hz : ∀ u : Fin 2064, z (ix4 b h t u) = f u) :
    weights z (ix4 b h t s) = if s.val < t.val then Ideal.exp (logTake (f s) + kept f (s + 1) t) else 0 := by
  have keep : ∀ u : Fin 2064, logSigmoid (Host.negf z) (ix4 b h t u) = logKeep (f u) := fun u => by
    have e : Host.negf z (ix4 b h t u) = -f u := by rw [← hz u]; rfl
    rw [logSigmoid_apply _ _ (by rw [e]; obtain ⟨r, hr⟩ := hf u; exact ⟨-r, by rw [hr, EReal.coe_neg]⟩), e, logTake, logKeep, neg_neg, max_comm (-f u), zero_sub (f u)]
  have tail : fromHere (onlyEarlier (logSigmoid (Host.negf z))) (ix4 b h t s)
      = ∑ u ∈ Finset.Ico s.val 2064, if u < t.val then logKeep (f u) else 0 := by
    rw [fromHere_apply]
    have e := sum_block 2064 s.val 0 (2064 - s.val) (fun w => s.val + w < 2064) (fun w _ => by omega) (by omega) fun u => if u < t.val then logKeep (f u) else 0
    rw [add_zero, show s.val + (2064 - s.val) = 2064 by omega] at e
    rw [← e]
    refine Finset.sum_congr rfl fun w _ => ?_
    by_cases hw : s.val + w.val < 2064
    · rw [dif_pos hw, if_pos hw, onlyEarlier_apply, keep]
    · rw [dif_neg hw, if_neg hw]
  unfold weights
  rw [onlyEarlier_apply]
  by_cases hs : s.val < t.val
  swap
  · rw [if_neg hs, if_neg hs]
  rw [if_pos hs, if_pos hs]
  show Ideal.exp (logSigmoid z (ix4 b h t s) + (fromHere _ (ix4 b h t s) - onlyEarlier _ (ix4 b h t s))) = _
  rw [logSigmoid_apply _ _ (by rw [hz]; exact hf s), hz, tail, onlyEarlier_apply, if_pos hs, keep]
  rw [Finset.sum_eq_sum_Ico_succ_bot s.isLt, if_pos hs]
  have e : (∑ u ∈ Finset.Ico (s.val + 1) 2064, if u < t.val then logKeep (f u) else 0) = kept f (s + 1) t := by
    rw [← Finset.sum_filter, kept]
    refine Finset.sum_congr (Finset.ext fun u => ?_) fun _ _ => rfl
    simp only [Finset.mem_filter, Finset.mem_Ico]; have := t.isLt; omega
  rw [e]
  obtain ⟨x, hx⟩ := (hf s).logKeep
  obtain ⟨y, hy⟩ : IsReal (kept f (s + 1) t) := IsReal.sum _ _ fun u _ => (hf u).logKeep
  rw [hx, hy, ← EReal.coe_add, ← EReal.coe_sub, add_sub_cancel_left]

theorem reference_eq (q : FVec Ideal S8256x2048 .bf16) (kv : FVec Ideal S8256x4096 .bf16) (hf : AllFinite q kv) :
    gathered (weights (scores q kv)) kv = attention q kv := by
  funext y
  obtain ⟨y₀, y₁, rfl⟩ : ∃ i j, y = ix2 i j := ⟨y 0, y 1, (ix2_eta y).symm⟩
  pointwise [gathered]
  have h0 := y₀.isLt
  have h1 := y₁.isLt
  have w := fun s : Fin 2064 => weights_apply (scores q kv) ⟨y₀.val / 2064, by omega⟩ ⟨y₁.val / 128, by omega⟩ ⟨y₀.val % 2064, by omega⟩ s
    (score (slab q (y₀.val / 2064) (y₁.val / 128)) (slab kv (y₀.val / 2064) (y₁.val / 128)) (y₀.val % 2064)) (fun u => hf _ _ _ _)
    (fun u => scores_apply q kv _ _ _ u)
  simp only [w]
  unfold attention attend taken
  have e := sum_block 2064 0 0 (y₀.val % 2064) (fun s => s < y₀.val % 2064) (fun s _ => by omega) (by omega) fun s =>
    Ideal.exp (logTake (score (slab q (y₀.val / 2064) (y₁.val / 128)) (slab kv (y₀.val / 2064) (y₁.val / 128)) (y₀.val % 2064) s)
      + kept (score (slab q (y₀.val / 2064) (y₁.val / 128)) (slab kv (y₀.val / 2064) (y₁.val / 128)) (y₀.val % 2064)) (s + 1) (y₀.val % 2064))
      * row (slab kv (y₀.val / 2064) (16 + y₁.val / 128)) s ⟨y₁.val % 128, Nat.mod_lt _ (by decide)⟩
  simp only [zero_add] at e
  refine Eq.trans ?_ e
  refine Finset.sum_congr rfl fun s _ => ?_
  by_cases hs : s.val < y₀.val % 2064
  · rw [if_pos hs, if_pos hs, mul_comm, row_slab kv _ _ s _ s.isLt (by omega) (by simp only []; omega)]
    congr 3
    · congr 1; omega
    · congr 1; simp only []; omega
  · rw [if_neg hs, if_neg hs, mul_zero]

end Cert.Proof.Sb
-- ==== Proof.Sb.Pre.lean ====
/- The precondition says that no score is infinite. -/
module

public import proofs.«01_k».proof.Pre_queries_and_keys_are_finite
public import proofs.«01_k».proof.Proof.Sb.Slab
public import Idealize.ShloMosaic.Lib.ReduceAll

@[expose] public section

set_option maxRecDepth 16384

namespace Cert.Proof.Sb

open Cert.Pre_queries_and_keys_are_finite
open Idealize.ShloMosaic Idealize.ShloMosaic.TcCoe Idealize.ShloMosaic.Pointwise

instance facts : Facts := ⟨by decide, by decide, by decide, by decide, by decide⟩

theorem isReal_of_abs_lt (x : EReal) (h : max x (-x) < ⊤) : IsReal x := by
  induction x with
  | bot => simp at h
  | top => simp at h
  | coe r => exact ⟨r, rfl⟩

instance : Subsingleton S_.Idx := ⟨fun a b => funext fun i => i.elim0⟩

theorem allFinite (q : FVec Ideal S8256x2048 .bf16) (kv : FVec Ideal S8256x4096 .bf16) (h : fn (F := Ideal) q kv = fun _ => 1#1) : AllFinite q kv := by
  have h := congrFun h (Shape.Idx.first Facts.h_S_)
  unfold fn at h
  have top : Ideal.ofBits .f32 0x7F800000#32 = ⊤ := by simp [Ideal.ofBits, Ideal.ieee]
  have real : ∀ x : EReal, BitVec.ofBool (decide (max x (-x) < Ideal.ofBits .f32 0x7F800000#32)) = 1#1 → IsReal x := fun x e => by
    rw [top] at e
    exact isReal_of_abs_lt x (by by_contra hx; rw [decide_eq_false hx] at e; exact absurd e (by decide))
  obtain ⟨hq, hk⟩ := IntOp.andi_eq_one.1 h
  have hq : ∀ i, IsReal (q i) := fun i => by
    have e := Host.reduce_andi_all _ _ _ _ _ hq i
    pointwise [] at e
    exact real _ e
  have hk : ∀ (r : Fin 8256) (k : Fin 4096), k.val < 2048 → IsReal (kv (ix2 r k)) := fun r k hk' => by
    have e := Host.reduce_andi_all _ _ _ _ _ hk (ix2 r ⟨k.val, hk'⟩)
    pointwise [] at e
    exact real _ e
  intro b n t s
  refine IsReal.sum _ _ fun d _ => ?_
  have e1 := d.isLt
  unfold row
  by_cases ht : t < 2064
  swap
  · rw [dif_neg ht, zero_mul]; exact IsReal.zero
  rw [dif_pos ht]
  by_cases hn : 2064 * b + t < 8256 ∧ 128 * n + d.val < 2048
  swap
  · rw [show slab q b n (ix2 ⟨t, ht⟩ d) = 0 from dif_neg hn, zero_mul]; exact IsReal.zero
  refine IsReal.mul (by rw [show slab q b n (ix2 ⟨t, ht⟩ d) = q (ix2 ⟨2064 * b + t, hn.1⟩ ⟨128 * n + d.val, hn.2⟩) from dif_pos hn]; exact hq _) ?_
  by_cases hs : s < 2064
  swap
  · rw [dif_neg hs]; exact IsReal.zero
  rw [dif_pos hs, slab]
  split
  · exact hk _ _ hn.2
  · exact IsReal.zero

end Cert.Proof.Sb
-- ==== Proof.Sb.Claims.lean ====
/- The claims about the stick-breaking attention. -/
module

public import proofs.«01_k».proof.Defs
public import proofs.«01_k».proof.Proof.Sb.Array
public import proofs.«01_k».proof.Proof.Sb.Reference
public import proofs.«01_k».proof.Proof.Sb.Pre
public import Idealize.ShloMosaic.Adequacy
public import Idealize.ShloMosaic.Init

@[expose] public section

noncomputable section

namespace Cert.Proof.Sb

open Idealize.ShloMosaic Idealize.ShloMosaic.TcCoe Idealize.SL.Sem

/-- The reference ends with its arguments as they were. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- Where the queries and the keys are finite, the kernel and the reference leave the same array. -/
theorem algebraic : Cert.algebraic_KernelIdeal_ReferenceIdeal_pre_queries_and_keys_are_finite := by
  pair_intro
  · run_from Cert.KernelIdeal.Gen.run_main m g
  · run_from Cert.ReferenceIdeal.Value.run m' g'
    have hf := allFinite _ _ (hpre c)
    obtain ⟨hq, hkv⟩ := hagree c
    exact (result_eq m' c).trans <| by
      rw [hq, hkv, reference_eq _ _ hf]
      exact (final m c hf).symm

end Cert.Proof.Sb

end
-- ==== Proof.Norm.Rows.lean ====
/- Rows divided by their root mean square, and a buffer that a loop fills rows at a time. -/
module

public import Idealize.ShloMosaic.Lib.Pipeline.ValueKit

@[expose] public section

set_option maxRecDepth 16384

namespace Cert.Proof.Norm

open Idealize.ShloMosaic Idealize.ShloMosaic.Pointwise

/-- Whatever holds of the pieces of every trip holds of the pieces so far. -/
theorem forall_mem_of_trips {α : Type*} {T : ℕ} (pb : ℕ → List α) (tl : Fin T → List α) (h0 : pb 0 = [])
    (hs : ∀ k : Fin T, pb (k.val + 1) = tl k ++ pb k.val) (Q : α → Prop) (hQ : ∀ k, ∀ p ∈ tl k, Q p) :
    ∀ n ≤ T, ∀ p ∈ pb n, Q p := by
  intro n hn
  induction n with
  | zero => simp [h0]
  | succ n ih =>
    intro p hp
    rw [hs ⟨n, hn⟩, List.mem_append] at hp
    exact hp.elim (hQ _ p) (ih (by omega) p)

/-- Entry `k` of a row divided by the row's root mean square, times a weight. -/
noncomputable def normed (x : Fin 2048 → EReal) (g : EReal) (k : Fin 2048) : EReal :=
  x k * Ideal.rsqrt (Ideal.div (∑ j, x j * x j) (Ideal.ofBits FTy.f32 1157627904#32) + Ideal.ofBits FTy.f32 897988541#32) * g

/-- Row `n` of an array of rows, zero past its end. -/
noncomputable def rowOf {r : ℕ} (x : Vec Ideal ⟨2, ![r, 2048]⟩ .f32) (n : ℕ) (j : Fin 2048) : EReal :=
  if h : n < r then x (ix2 ⟨n, h⟩ j) else 0

theorem rowOf_val {r : ℕ} (x : Vec Ideal ⟨2, ![r, 2048]⟩ .f32) (n : Fin r) : rowOf x n = fun j => x (ix2 n j) :=
  funext fun _ => dif_pos n.isLt

/-- Rows divided by their root mean square and weighted, times a matrix. -/
noncomputable def project {r n : ℕ} (x : Vec Ideal ⟨2, ![r, 2048]⟩ .f32) (g : Vec Ideal ⟨1, ![2048]⟩ .f32)
    (w : Vec Ideal ⟨2, ![2048, n]⟩ .f32) (y : (⟨2, ![r, n]⟩ : Shape).Idx) : EReal :=
  ∑ k : Fin 2048, normed (fun j => x (ix2 (y 0) j)) (g (ix1 k)) k * w (ix2 k (y 1))

theorem place_val (off : Fin 2 → ℕ) (inb : ∀ a, off a + (![16, 2048] : Fin 2 → ℕ) a ≤ (![688, 2048] : Fin 2 → ℕ) a)
    (z : (⟨2, ![16, 2048]⟩ : Shape).Idx) (a : Fin 2) :
    ((Rect.unit (s := ⟨2, ![688, 2048]⟩) off ![16, 2048] inb).emb z a : ℕ) = off a + z a :=
  Rect.idx_unit_val (s := ⟨2, ![688, 2048]⟩) off ![16, 2048] inb z a

/-- A block of rows and its rows' norms, both read at an index of the whole. -/
theorem placed_normed (x : Vec Ideal ⟨2, ![688, 2048]⟩ .f32) (g : Vec Ideal ⟨2, ![1, 2048]⟩ .f32)
    (pay : Vec Ideal ⟨2, ![16, 2048]⟩ .f32 → (⟨2, ![16, 2048]⟩ : Shape).Idx → EReal)
    (hpay : ∀ b (i : Fin 16) (k : Fin 2048), pay b (ix2 i k) = normed (fun j => b (ix2 i j)) (g (ix2 0 k)) k)
    (off : Fin 2 → ℕ) (inb : ∀ a, off a + (![16, 2048] : Fin 2 → ℕ) a ≤ (![688, 2048] : Fin 2 → ℕ) a)
    (z : (⟨2, ![16, 2048]⟩ : Shape).Idx) :
    pay (View.ld (Val := Elt Ideal) (e' := .f32) x (Rect.unit (s := ⟨2, ![688, 2048]⟩) off ![16, 2048] inb)) z
      = normed (fun j => x (ix2 ((Rect.unit (s := ⟨2, ![688, 2048]⟩) off ![16, 2048] inb).emb z 0) j))
          (g (ix2 0 ((Rect.unit (s := ⟨2, ![688, 2048]⟩) off ![16, 2048] inb).emb z 1)))
          ((Rect.unit (s := ⟨2, ![688, 2048]⟩) off ![16, 2048] inb).emb z 1) := by
  have h1 : off 1 = 0 := by have := inb 1; simp at this; omega
  have e1 : (Rect.unit (s := ⟨2, ![688, 2048]⟩) off ![16, 2048] inb).emb z 1 = z 1 :=
    Fin.ext ((place_val off inb z 1).trans (by rw [h1, Nat.zero_add]))
  rw [e1]
  refine ((congrArg _ (ix2_eta z).symm).trans (hpay _ (z 0) (z 1))).trans ?_
  refine congrArg (fun f => normed f _ _) (funext fun j => ?_)
  refine View.ld_unit_apply_of _ _ _ _ _ _ fun a => ?_
  match a with
  | 0 => exact place_val off inb z 0
  | 1 => show j.val = off 1 + j.val; omega

/-- A buffer that a loop fills sixteen rows at a time, each divided by its root mean square, holds all the rows so. -/
theorem canon_normed {T : ℕ} (x : Vec Ideal ⟨2, ![688, 2048]⟩ .f32) (g : Vec Ideal ⟨2, ![1, 2048]⟩ .f32)
    (pay : Vec Ideal ⟨2, ![16, 2048]⟩ .f32 → (⟨2, ![16, 2048]⟩ : Shape).Idx → EReal)
    (hpay : ∀ b (i : Fin 16) (k : Fin 2048), pay b (ix2 i k) = normed (fun j => b (ix2 i j)) (g (ix2 0 k)) k)
    (off : Fin T → Fin 2 → ℕ) (inb : ∀ k a, off k a + (![16, 2048] : Fin 2 → ℕ) a ≤ (![688, 2048] : Fin 2 → ℕ) a)
    (pb : ℕ → List (View.Piece (Elt Ideal) ⟨2, ![688, 2048]⟩ .bf16)) (tl : Fin T → List (View.Piece (Elt Ideal) ⟨2, ![688, 2048]⟩ .bf16))
    (h0 : pb 0 = []) (hs : ∀ k : Fin T, pb (k.val + 1) = tl k ++ pb k.val)
    (htl : ∀ k, tl k = [⟨Rect.unit (s := ⟨2, ![688, 2048]⟩) (off k) ![16, 2048] (inb k),
      pay (View.ld (Val := Elt Ideal) (e' := .f32) x (Rect.unit (s := ⟨2, ![688, 2048]⟩) (off k) ![16, 2048] (inb k)))⟩])
    (y : (⟨2, ![688, 2048]⟩ : Shape).Idx) (hy : ∃ p ∈ pb T, y ∈ p.1.set) :
    View.canon (pb T) y = normed (fun j => x (ix2 (y 0) j)) (g (ix2 0 (y 1))) (y 1) := by
  refine View.canon_apply_of_pieces (Val := Elt Ideal) (e := .bf16)
    (G := fun y : (⟨2, ![688, 2048]⟩ : Shape).Idx => normed (fun j => x (ix2 (y 0) j)) (g (ix2 0 (y 1))) (y 1)) _
    (forall_mem_of_trips pb tl h0 hs _ (fun k p hp => ?_) T le_rfl) y hy
  rw [htl, List.mem_singleton] at hp
  subst hp
  exact placed_normed x g pay hpay (off k) (inb k)

end Cert.Proof.Norm
-- ==== Proof.Mlp.Block.lean ====
/- One grid point of the feed-forward layer: the loop that fills the scratch, and what a tile of hidden units adds. -/
module

public import proofs.«01_k».proof.Proof.Gen.MlpIdeal.Value
public import proofs.«01_k».proof.Proof.Norm.Rows
public import Idealize.ShloMosaic.Lib.VecWindow

@[expose] public section

set_option maxRecDepth 16384

namespace Cert.Proof.Mlp

open Cert.MlpIdeal Cert.MlpIdeal.Gen
open Idealize.ShloMosaic Idealize.ShloMosaic.TcCoe Idealize.ShloMosaic.Pointwise Idealize.SL.Sem

/-- What a trip stores: its rows divided by their root mean squares. -/
theorem store_apply (g : Vec Ideal S1x2048 .f32) (x : Vec Ideal S16x2048 .f32) (i : Fin 16) (k : Fin 2048) :
    k0_pay1 (F := Ideal) g x (ix2 i k) = Norm.normed (fun j => x (ix2 i j)) (g (ix2 0 k)) k := by
  pointwise [k0_pay1]; rfl

/-- What a point writes: what its block holds, and what the point's hidden units add. -/
theorem step_apply (s : Vec Ideal S688x2048 .bf16) (wu : Vec Ideal S2048x512 .bf16) (o : Vec Ideal S688x2048 .f32)
    (wd : Vec Ideal S512x2048 .bf16) (i : Fin 688) (j : Fin 2048) :
    k0_pay2 (F := Ideal) s wu o wd (ix2 i j)
      = o (ix2 i j) + ∑ f : Fin 512, max (∑ k : Fin 2048, s (ix2 i k) * wu (ix2 k f)) 0 * max (∑ k : Fin 2048, s (ix2 i k) * wu (ix2 k f)) 0
        * wd (ix2 f j) := by
  pointwise [k0_pay2]

section
variable (𝒱 : Variants) (c : Dev nD) (bd : Option 𝒱.V) (i : grid0.Coords) (arg2 : Memref sig .tc .vmem S688x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S512x2048 .bf16) (harg5 : arg5.IsWhole) (arg6 : Memref sig .tc .vmem S1x2048 .f32) (harg6 : arg6.IsWhole)
  (arg7 : Memref sig .tc .vmem S688x2048 .f32) (harg7 : arg7.IsWhole) (arg8 : Memref sig .tc .vmem S688x2048 .bf16) (harg8 : arg8.IsWhole) (h1 : k0_cond1 i = 1#1) (g : Vec Ideal S1x2048 .f32) (x : Vec Ideal S688x2048 .f32)

/-- A trip writes one piece. -/
theorem trip (X : BufTy.Contents (Elt Ideal) arg2.view.ty) (k : Fin k0_t1_loop.trips) :
    tripL_k0_t1 (F := Ideal) 𝒱 c bd i arg2 harg2 arg3 harg3 arg4 harg4 arg5 harg5 arg6 harg6 arg7 harg7 arg8 harg8 h1 g X k
      = [⟨Rect.unit (s := S688x2048) (k0_off1 k) S16x2048.size (k0_off1_inb i k h1), k0_pay1 g (arg2.view.readAt (Elt Ideal)
          (Rect.unit (s := S688x2048) (k0_off1 k) S16x2048.size (k0_off1_inb i k h1)).toLoadRect X)⟩] := by
  unfold tripL_k0_t1 trip_k0_t1; rfl

/-- After the loop the scratch holds every row divided by its root mean square. -/
theorem scratch (y : S688x2048.Idx) :
    View.canon (pb_k0_t1 (F := Ideal) 𝒱 c bd i arg2 harg2 arg3 harg3 arg4 harg4 arg5 harg5 arg6 harg6 arg7 harg7 arg8 harg8 h1 g (harg2.unread x) 43) y
      = Norm.normed (fun j => x (ix2 (y 0) j)) (g (ix2 0 (y 1))) (y 1) :=
  Norm.canon_normed (T := k0_t1_loop.trips) x g (k0_pay1 (F := Ideal) g) (store_apply g) k0_off1 (fun k => k0_off1_inb i k h1) _ _ rfl
    (pb_k0_t1_succ (F := Ideal) 𝒱 c bd i arg2 harg2 arg3 harg3 arg4 harg4 arg5 harg5 arg6 harg6 arg7 harg7 arg8 harg8 h1 g (harg2.unread x))
    (fun k => by rw [trip, View.readAt_eq_ld, harg2.read_unread]) y
    (View.cover_of_tiledL (pb_k0_t1 (F := Ideal) 𝒱 c bd i arg2 harg2 arg3 harg3 arg4 harg4 arg5 harg5 arg6 harg6 arg7 harg7 arg8 harg8 h1 g (harg2.unread x) 43)
      S16x2048.size (by sl_kernel_rfl) y)
end

section
variable (c : Dev nD) (i : grid0.Coords) (arg2 : Memref sig .tc .vmem S688x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S512x2048 .bf16) (harg5 : arg5.IsWhole) (arg6 : Memref sig .tc .vmem S1x2048 .f32) (harg6 : arg6.IsWhole)
  (arg7 : Memref sig .tc .vmem S688x2048 .f32) (harg7 : arg7.IsWhole) (arg8 : Memref sig .tc .vmem S688x2048 .bf16) (harg8 : arg8.IsWhole)
  (x : Vec Ideal S688x2048 .f32) (g : Vec Ideal S1x2048 .f32) (wu : Vec Ideal S2048x512 .bf16) (wd : Vec Ideal S512x2048 .bf16)
  (gf : Vec Ideal S1x2048 .f32)

/-- The scratch a point that fills it leaves. -/
theorem filled (h : cond0_0 i) (y : S688x2048.Idx) :
    sout0_A_0 c i arg2 harg2 arg3 harg3 arg4 harg4 arg5 harg5 arg6 harg6 arg7 harg7 arg8 harg8 h x g wu wd gf y
      = Norm.normed (fun j => x (ix2 (y 0) j)) (g (ix2 0 (y 1))) (y 1) := by
  frame_out; exact scratch ..

/-- What such a point writes: its rows and what its hidden units add. -/
theorem out_filled (h : cond0_0 i) :
    out0_A_5 c i arg2 harg2 arg3 harg3 arg4 harg4 arg5 harg5 arg6 harg6 arg7 harg7 arg8 harg8 h x g wu wd gf
      = k0_pay2 (F := Ideal) (sout0_A_0 c i arg2 harg2 arg3 harg3 arg4 harg4 arg5 harg5 arg6 harg6 arg7 harg7 arg8 harg8 h x g wu wd gf)
        wu x wd := by
  frame_out
  refine congrArg (k0_pay2 · wu x wd) ?_
  rw [View.readCov_eq_canon']
  funext z
  exact congrArg _ (Idealize.ShloMosaic.Rect.emb_unit_full _ z)

/-- What any other point writes: the block it found and what its hidden units add. -/
theorem out_held (h : ¬ cond0_0 i) (o : Vec Ideal S688x2048 .f32) (s : Vec Ideal S688x2048 .bf16) :
    out0_B_5 c i arg2 harg2 arg3 harg3 arg4 harg4 arg5 harg5 arg6 harg6 arg7 harg7 arg8 harg8 h x g wu wd gf o s
      = k0_pay2 (F := Ideal) s wu o wd := by
  frame_out
end

end Cert.Proof.Mlp
-- ==== Proof.Mlp.Math.lean ====
/- The feed-forward layer on one row, its hidden units in tiles of 512. -/
module

public import proofs.«01_k».proof.Proof.Norm.Rows
public import Idealize.ShloMosaic.Lib.Pipeline.ValueKit

@[expose] public section

noncomputable section

namespace Cert.Proof.Mlp

open Idealize.ShloMosaic Idealize.ShloMosaic.Pointwise Finset

/-- An entry of a matrix, zero outside it. -/
def entry {a b : ℕ} (w : Vec Ideal ⟨2, ![a, b]⟩ .f32) (i j : ℕ) : EReal :=
  if h : i < a ∧ j < b then w (ix2 ⟨i, h.1⟩ ⟨j, h.2⟩) else 0

theorem entry_val {a b : ℕ} (w : Vec Ideal ⟨2, ![a, b]⟩ .f32) (i : Fin a) (j : Fin b) : entry w i j = w (ix2 i j) :=
  dif_pos ⟨i.isLt, j.isLt⟩

section
variable (x : Vec Ideal ⟨2, ![8256, 2048]⟩ .f32) (g : Vec Ideal ⟨1, ![2048]⟩ .f32) (wu : Vec Ideal ⟨2, ![2048, 8192]⟩ .f32)
  (wd : Vec Ideal ⟨2, ![8192, 2048]⟩ .f32)

/-- Hidden unit `f` of row `i`: its rectified input, squared. -/
def hidden (i f : ℕ) : EReal :=
  max (∑ k : Fin 2048, Norm.normed (Norm.rowOf x i) (g (ix1 k)) k * entry wu k f) 0
    * max (∑ k : Fin 2048, Norm.normed (Norm.rowOf x i) (g (ix1 k)) k * entry wu k f) 0

/-- What tile `s` of the hidden units adds to element `j` of row `i`. -/
def tile (i j s : ℕ) : EReal := ∑ f : Fin 512, hidden x g wu i (512 * s + f) * entry wd (512 * s + f) j

/-- Row `i` after the layer: the row itself and what its hidden units add. -/
def layer (i : ℕ) (j : Fin 2048) : EReal := Norm.rowOf x i j + ∑ f : Fin 8192, hidden x g wu i f * entry wd f j

theorem layer_val (i : Fin 8256) (j : Fin 2048) : layer x g wu wd i j
    = x (ix2 i j) + ∑ f : Fin 8192, max (∑ k : Fin 2048, Norm.normed (fun j => x (ix2 i j)) (g (ix1 k)) k * wu (ix2 k f)) 0
        * max (∑ k : Fin 2048, Norm.normed (fun j => x (ix2 i j)) (g (ix1 k)) k * wu (ix2 k f)) 0 * wd (ix2 f j) := by
  simp only [layer, hidden, Norm.rowOf_val, entry_val]

theorem layer_eq_tiles (i : ℕ) (j : Fin 2048) :
    layer x g wu wd i j = Norm.rowOf x i j + ∑ s ∈ range 16, tile x g wu wd i j s := by
  rw [layer, sum_range]
  exact congrArg (Norm.rowOf x i j + ·) (Fin.sum_mul_add_congr (S := 16) (n := 512)
    (f := fun l : Fin 8192 => hidden x g wu i l * entry wd l j) fun s k _ => by
      rw [Nat.mul_comm 512]).symm

/-- The layer of a row of the block that the point `p` finishes: what the points before it left, and its own tile. -/
theorem layer_of_last (p : ℕ) (hp : p % 16 = 15) (i : ℕ) (j : Fin 2048) :
    Norm.rowOf x (688 * ((p - 1) / 16) + i) j + ∑ s ∈ range ((p - 1) % 16 + 1), tile x g wu wd (688 * ((p - 1) / 16) + i) j s
      + tile x g wu wd (688 * (p / 16) + i) j (p % 16) = layer x g wu wd (688 * (p / 16) + i) j := by
  rw [layer_eq_tiles, show (p - 1) / 16 = p / 16 by omega, show (p - 1) % 16 + 1 = 15 by omega, hp, add_assoc, sum_range_succ _ 15]
end

/-- A block that starts over every 16 points and grows by a term at each but the last, which may do something else. -/
theorem grown_before {N : ℕ} {ι M : Type*} [AddCommMonoid M] (f : (n : ℕ) → n < N → ι → M) (init : ℕ → ι → M) (term : ℕ → ℕ → ι → M)
    (h0 : ∀ t : Fin N, t.val % 16 = 0 → ∀ y, f t.val t.isLt y = init (t.val / 16) y + term (t.val / 16) (t.val % 16) y)
    (hs : ∀ t : Fin N, ¬ t.val % 16 = 0 → ¬ t.val % 16 = 15 → ∀ y,
      f t.val t.isLt y = f (t.val - 1) (Nat.lt_of_le_of_lt (Nat.sub_le _ _) t.isLt) y + term (t.val / 16) (t.val % 16) y)
    (n : ℕ) (hn : n < N) (hl : ¬ n % 16 = 15) (y : ι) :
    f n hn y = init (n / 16) y + ∑ s ∈ range (n % 16 + 1), term (n / 16) s y := by
  induction n with
  | zero => exact (h0 ⟨0, hn⟩ rfl y).trans (by simp)
  | succ n ih =>
    by_cases h : (n + 1) % 16 = 0
    · exact (h0 ⟨n + 1, hn⟩ h y).trans (by simp only [h]; simp)
    · refine (hs ⟨n + 1, hn⟩ h hl y).trans ((congrArg (· + _) (ih (Nat.lt_of_succ_lt hn) (by omega))).trans ?_)
      simp only [show (n + 1) / 16 = n / 16 by omega, show (n + 1) % 16 = n % 16 + 1 by omega]
      rw [sum_range_succ _ (n % 16 + 1), add_assoc]

/-- A block that starts over every 16 points and grows by a term at each. -/
theorem grown {N : ℕ} {ι M : Type*} [AddCommMonoid M] (f : (n : ℕ) → n < N → ι → M) (init : ℕ → ι → M) (term : ℕ → ℕ → ι → M)
    (h0 : ∀ t : Fin N, t.val % 16 = 0 → ∀ y, f t.val t.isLt y = init (t.val / 16) y + term (t.val / 16) (t.val % 16) y)
    (hs : ∀ t : Fin N, ¬ t.val % 16 = 0 → ∀ y,
      f t.val t.isLt y = f (t.val - 1) (Nat.lt_of_le_of_lt (Nat.sub_le _ _) t.isLt) y + term (t.val / 16) (t.val % 16) y)
    (n : ℕ) (hn : n < N) (y : ι) :
    f n hn y = init (n / 16) y + ∑ s ∈ range (n % 16 + 1), term (n / 16) s y := by
  by_cases hl : n % 16 = 15
  · refine (hs ⟨n, hn⟩ (show ¬ n % 16 = 0 by omega) y).trans ((congrArg (· + _) (grown_before f init term h0 (fun t h _ => hs t h) (n - 1) _ (by omega) y)).trans ?_)
    simp only [show (n - 1) / 16 = n / 16 by omega, show (n - 1) % 16 + 1 = n % 16 by omega]
    rw [sum_range_succ _ (n % 16), add_assoc]
  · exact grown_before f init term h0 (fun t h _ => hs t h) n hn hl y

end Cert.Proof.Mlp

end
-- ==== Proof.Mlp.Array.lean ====
/- The feed-forward layer, from all grid points together. -/
module

public import proofs.«01_k».proof.Proof.Mlp.Block
public import proofs.«01_k».proof.Proof.Mlp.Math
public import Idealize.ShloMosaic.Lib.Pipeline.ValueKit
public import Idealize.ShloMosaic.Lib.Pipeline.ValueKit.Held

@[expose] public section

set_option maxRecDepth 16384

namespace Cert.Proof.Mlp

open Cert.MlpIdeal Cert.MlpIdeal.Gen
open Idealize.ShloMosaic Idealize.ShloMosaic.TcCoe Idealize.ShloMosaic.Pointwise Idealize.SL.Sem

variable (m : (ℓ : Loc nD τ sig) → Buf (Elt Ideal) ℓ)

/-- The blocks of the point `t`. -/
theorem block_idx : ∀ t : Fin cfg0.N, win0_0.index t = ![t.val / 16, 0] ∧ win0_1.index t = ![0, 0] ∧ win0_2.index t = ![0, t.val % 16]
    ∧ win0_3.index t = ![t.val % 16, 0] ∧ win0_5.index t = ![t.val / 16, 0] := (by decide +kernel : ∀ t : Fin grid0.N, _)

/-- The rows of a point's block are rows of the array. -/
theorem x_block (c : Dev nD) (t : Fin cfg0.N) (i : Fin 688) :
    (fun j => iblk m c 0 t (ix2 i j)) = Norm.rowOf (m ((c : Thread nD τ).loc main_arg0)) (688 * (t.val / 16) + i.val) := by
  have ht : t.val < 192 := lt_of_lt_of_eq t.isLt N_0
  funext j
  unfold Norm.rowOf
  rw [dif_pos (by omega)]
  blk_ext [iblk, V, block_idx t]

/-- Every point has the whole of the weights of the norm. -/
theorem g_block (c : Dev nD) (t : Fin cfg0.N) (k : Fin 2048) : iblk m c 1 t (ix2 0 k) = m ((c : Thread nD τ).loc main_arg1) (ix1 k) := by
  blk_simp [iblk, block_idx t]
  entry_read
  pointwise
  blk_ext [block_idx t]

/-- The columns of a point's block are the columns of its tile. -/
theorem wu_block (c : Dev nD) (t : Fin cfg0.N) (k : Fin 2048) (f : Fin 512) :
    iblk m c 2 t (ix2 k f) = entry (m ((c : Thread nD τ).loc main_arg2)) k (512 * (t.val % 16) + f) := by
  unfold entry
  rw [dif_pos ⟨k.isLt, by omega⟩]
  blk_simp [iblk, block_idx t]
  entry_read
  pointwise
  blk_ext [block_idx t]

/-- The rows of a point's block are the rows of its tile. -/
theorem wd_block (c : Dev nD) (t : Fin cfg0.N) (f : Fin 512) (j : Fin 2048) :
    iblk m c 3 t (ix2 f j) = entry (m ((c : Thread nD τ).loc main_arg3)) (512 * (t.val % 16) + f) j := by
  unfold entry
  rw [dif_pos ⟨by omega, j.isLt⟩]
  blk_simp [iblk, block_idx t]
  entry_read
  pointwise
  blk_ext [block_idx t]

/-- The scratch at every point: the rows of the point's block divided by their root mean squares. -/
theorem held (c : Dev nD) (t : Fin cfg0.N) (y : S688x2048.Idx) :
    (outsAt0 m c t.val t.isLt).2 y = Norm.normed (Norm.rowOf (m ((c : Thread nD τ).loc main_arg0)) (688 * (t.val / 16) + (y 0).val))
      (m ((c : Thread nD τ).loc main_arg1) (ix1 (y 1))) (y 1) := by
  rw [Pipeline.eq_of_write_hold_apply (fun n h => (outsAt0 m c n h).2) 16
    (fun t (y : S688x2048.Idx) => Norm.normed (Norm.rowOf (m ((c : Thread nD τ).loc main_arg0)) (688 * (t.val / 16) + (y 0).val))
      (m ((c : Thread nD τ).loc main_arg1) (ix1 (y 1))) (y 1))
    (fun t h y => by
      rw [outsAt0_A m c t h]; exact (filled ..).trans (congrArg₂ (Norm.normed · · (y 1)) (x_block m c t (y 0)) (g_block m c t (y 1))))
    (fun t h y => by rw [outsAt0_B m c t h]; rfl) t y]
  rw [Nat.mul_div_cancel_left _ (by decide)]

/-- What a point's hidden units add to its block. -/
theorem added (c : Dev nD) (t : Fin cfg0.N) (o : Vec Ideal S688x2048 .f32) (y : S688x2048.Idx) :
    k0_pay2 (F := Ideal) (outsAt0 m c t.val t.isLt).2 (iblk m c 2 t) o (iblk m c 3 t) y
      = o y + tile (m ((c : Thread nD τ).loc main_arg0)) (m ((c : Thread nD τ).loc main_arg1)) (m ((c : Thread nD τ).loc main_arg2))
        (m ((c : Thread nD τ).loc main_arg3)) (688 * (t.val / 16) + (y 0).val) (y 1) (t.val % 16) := by
  refine ((congrArg _ (ix2_eta y).symm).trans (step_apply _ _ _ _ (y 0) (y 1))).trans
    (congrArg₂ (· + ·) (congrArg o (ix2_eta y)) (Finset.sum_congr rfl fun f _ => ?_))
  have e : ∑ k : Fin 2048, (outsAt0 m c t.val t.isLt).2 (ix2 (y 0) k) * iblk m c 2 t (ix2 k f) = _ :=
    Finset.sum_congr rfl fun k _ => congrArg₂ (· * ·) (held m c t (ix2 (y 0) k)) (wu_block m c t k f)
  rw [e, wd_block m c t f (y 1)]
  rfl

/-- What the block holds after the last of its points. -/
theorem block (c : Dev nD) (t : Fin cfg0.N) (ht : t.val % 16 = 15) (y : S688x2048.Idx) :
    (outsAt0 m c t.val t.isLt).1 y = layer (m ((c : Thread nD τ).loc main_arg0)) (m ((c : Thread nD τ).loc main_arg1))
      (m ((c : Thread nD τ).loc main_arg2)) (m ((c : Thread nD τ).loc main_arg3)) (688 * (t.val / 16) + (y 0).val) (y 1) := by
  refine (grown (fun n h => (outsAt0 m c n h).1)
    (fun q (y : S688x2048.Idx) => Norm.rowOf (m ((c : Thread nD τ).loc main_arg0)) (688 * q + (y 0).val) (y 1))
    (fun q s (y : S688x2048.Idx) => tile (m ((c : Thread nD τ).loc main_arg0)) (m ((c : Thread nD τ).loc main_arg1))
      (m ((c : Thread nD τ).loc main_arg2)) (m ((c : Thread nD τ).loc main_arg3)) (688 * q + (y 0).val) (y 1) s)
    (fun t h y => ?_) (fun t h y => ?_) t.val t.isLt y).trans ?_
  · refine Eq.trans ?_ ((added m c t (iblk m c 0 t) y).trans (congrArg (· + _) ?_))
    · rw [outsAt0_A m c t h]; dsimp only; rw [out_filled]
    · exact (congrArg _ (ix2_eta y).symm).trans (congrFun (x_block m c t (y 0)) (y 1))
  · refine Eq.trans ?_ (added m c t _ y)
    rw [outsAt0_B m c t h]; dsimp only; rw [out_held]; rfl
  · rw [ht]; exact (layer_eq_tiles _ _ _ _ _ _).symm

/-- The array the kernel leaves. -/
theorem final (c : Dev nD) : (dats m 0 c).arrAt 5 (cfgs 0).N = fun y => layer (m ((c : Thread nD τ).loc main_arg0))
    (m ((c : Thread nD τ).loc main_arg1)) (m ((c : Thread nD τ).loc main_arg2)) (m ((c : Thread nD τ).loc main_arg3)) (y 0).val (y 1) := by
  refine (dats m 0 c).arrAt_eq_of_covers 5 _ (by decide +kernel) fun t hf (y : S688x2048.Idx) => ?_
  blk_simp
  rw [after0_5]
  have p1 : (win0_5.blk t).view.emb y 1 = y 1 := Fin.ext (by blk_simp [block_idx t])
  refine (block m c t ((flush0_5 t).mp hf) y).trans (congrArg₂ (layer _ _ _ _) ?_ p1.symm)
  blk_simp [block_idx t]
  omega

end Cert.Proof.Mlp
-- ==== Proof.Mlp.Claims.lean ====
/- The claims about the feed-forward layer. -/
module

public import proofs.«01_k».proof.Defs
public import proofs.«01_k».proof.Proof.Mlp.Array
public import proofs.«01_k».proof.Proof.Gen.MlpReferenceIdeal.Run
public import Idealize.ShloMosaic.Adequacy
public import Idealize.ShloMosaic.Init

@[expose] public section

set_option maxRecDepth 16384

namespace Cert.Proof.Mlp

open Idealize.ShloMosaic Idealize.ShloMosaic.TcCoe Idealize.ShloMosaic.Pointwise Idealize.SL.Sem

/-- The reference ends with its arguments as they were. -/
theorem frame_reference : Cert.quiescent_MlpReferenceIdeal := fun m g _ =>
  (θ_run (Cert.MlpReferenceIdeal.defs (F := Ideal)) _ _).mono
    (fun r h => ⟨fun c => (h c).2, sem_eq_zero_of_no_sems (by decide) r.2⟩) (Cert.MlpReferenceIdeal.Value.run (F := Ideal) m g)

/-- The kernel and the reference leave the same array. -/
theorem algebraic : Cert.algebraic_MlpIdeal_MlpReferenceIdeal := by
  pair_intro
  · run_from Cert.MlpIdeal.Gen.run_main m g
  · run_from Cert.MlpReferenceIdeal.Value.run m' g'
    refine Eq.trans ?_ (final m c).symm
    funext y
    obtain ⟨i, j, rfl⟩ : ∃ i j, y = ix2 i j := ⟨y 0, y 1, (ix2_eta y).symm⟩
    refine Eq.trans ?_ (layer_val _ _ _ _ i j).symm
    pointwise
    rfl

end Cert.Proof.Mlp
-- ==== Proof.Norm.InPlace.lean ====
/- A buffer whose rows a loop divides by their root mean squares in place. -/
module

public import proofs.«01_k».proof.Proof.Norm.Rows
public import Idealize.ShloMosaic.Lib.WritesUnit
public import Idealize.ShloMosaic.Lib.VecWindow

@[expose] public section

set_option maxRecDepth 16384

namespace Cert.Proof.Norm

open Idealize.ShloMosaic Idealize.ShloMosaic.Pointwise

/-- What is left by a store of a whole buffer and the stores after it. -/
theorem canon_over {sig : RefSig} {κ : Kind} {sp : Space} {s : Shape} {e : EltTy} (v : View sig κ sp s e) (f : v.ty.Contents (Elt Ideal))
    {off : Fin s.rank → ℕ} (inb : ∀ a, off a + s.size a ≤ s.size a) (w : (Rect.unit off s.size inb).shape.Idx → Elt Ideal e)
    (L : List (View.Piece (Elt Ideal) s e)) (y : s.Idx) :
    View.canon (L ++ [⟨Rect.unit off s.size inb, w⟩]) y
      = v.read (Elt Ideal) (v.writes (Elt Ideal) (v.writes (Elt Ideal) f [⟨Rect.unit off s.size inb, w⟩]) L) y := by
  rw [← View.writes_append, View.read_writes_apply_eq_canon]
  refine ⟨_, List.mem_append_right _ (List.mem_singleton_self _), ?_⟩
  have h := LoadRect.idx_mem (Rect.unit off s.size inb).toLoadRect y
  exact (Idealize.ShloMosaic.Rect.emb_unit_full inb y) ▸ h

/-- After `n` trips, each reading sixteen rows of the buffer and writing them back divided by their root mean squares, the first
`16 n` rows are divided and the others are as they were. -/
theorem read_in_place {sig : RefSig} {κ : Kind} {sp : Space} {T : ℕ} (v : View sig κ sp ⟨2, ![688, 2048]⟩ .f32)
    (f : v.ty.Contents (Elt Ideal)) (P : Vec Ideal ⟨2, ![688, 2048]⟩ .f32) (hf : v.read (Elt Ideal) f = P)
    (g : Vec Ideal ⟨2, ![1, 2048]⟩ .f32) (pay : Vec Ideal ⟨2, ![16, 2048]⟩ .f32 → (⟨2, ![16, 2048]⟩ : Shape).Idx → EReal)
    (hpay : ∀ b (i : Fin 16) (k : Fin 2048), pay b (ix2 i k) = normed (fun j => b (ix2 i j)) (g (ix2 0 k)) k)
    (off : Fin T → Fin 2 → ℕ) (hoff : ∀ k, off k = ![16 * k.val, 0])
    (inb : ∀ k a, off k a + (![16, 2048] : Fin 2 → ℕ) a ≤ (![688, 2048] : Fin 2 → ℕ) a)
    (pb : ℕ → List (View.Piece (Elt Ideal) ⟨2, ![688, 2048]⟩ .f32))
    (tl : Fin T → v.ty.Contents (Elt Ideal) → List (View.Piece (Elt Ideal) ⟨2, ![688, 2048]⟩ .f32))
    (h0 : pb 0 = []) (hs : ∀ k : Fin T, pb (k.val + 1) = tl k (v.writes (Elt Ideal) f (pb k.val)) ++ pb k.val)
    (htl : ∀ k X, tl k X = [⟨Rect.unit (s := ⟨2, ![688, 2048]⟩) (off k) ![16, 2048] (inb k),
      pay (View.ld (Val := Elt Ideal) (e' := .f32) (v.read (Elt Ideal) X) (Rect.unit (s := ⟨2, ![688, 2048]⟩) (off k) ![16, 2048] (inb k)))⟩]) :
    ∀ n ≤ T, ∀ y : (⟨2, ![688, 2048]⟩ : Shape).Idx, v.read (Elt Ideal) (v.writes (Elt Ideal) f (pb n)) y
      = if (y 0).val < 16 * n then normed (fun j => P (ix2 (y 0) j)) (g (ix2 0 (y 1))) (y 1) else P y := by
  intro n hn
  induction n with
  | zero => intro y; rw [h0, View.writes_nil, hf, if_neg (by omega)]
  | succ n ih =>
    intro y
    rw [hs ⟨n, hn⟩, htl, List.singleton_append]
    have e0 : off ⟨n, hn⟩ 0 = 16 * n := congrFun (hoff ⟨n, hn⟩) 0
    have e1 : off ⟨n, hn⟩ 1 = 0 := congrFun (hoff ⟨n, hn⟩) 1
    by_cases hy : 16 * n ≤ (y 0).val ∧ (y 0).val < 16 * (n + 1)
    · rw [if_pos hy.2]
      refine (View.read_writes_cons_rows_of_mem v f (inb ⟨n, hn⟩) _ _ y
        (ix2 ⟨(y 0).val - 16 * n, by omega⟩ (y 1) : (⟨2, ![16, 2048]⟩ : Shape).Idx) (hoff ⟨n, hn⟩)
        (show (y 0).val = 16 * n + ((y 0).val - 16 * n) by omega) rfl).trans ?_
      refine (hpay _ _ _).trans (congrArg (fun r => normed r _ _) (funext fun j => ?_))
      refine (View.ld_unit_apply_of _ _ _ _ _ (ix2 (y 0) j : (⟨2, ![688, 2048]⟩ : Shape).Idx) fun a => ?_).trans
        ((ih (by omega) (ix2 (y 0) j)).trans (if_neg (show ¬ (y 0).val < 16 * n by omega)))
      match a with
      | 0 => show (y 0).val = off ⟨n, hn⟩ 0 + ((y 0).val - 16 * n); omega
      | 1 => show j.val = off ⟨n, hn⟩ 1 + j.val; omega
    · refine (View.read_writes_cons_rows_of_not_mem (W := 16) v f (inb ⟨n, hn⟩) _ _ y (hoff ⟨n, hn⟩) rfl (by
        show (y 0).val < 16 * n ∨ 16 * n + 16 ≤ (y 0).val; omega)).trans ((ih (by omega) y).trans ?_)
      by_cases h : (y 0).val < 16 * n
      · rw [if_pos h, if_pos (by omega)]
      · rw [if_neg h, if_neg (by omega)]

end Cert.Proof.Norm
-- ==== Proof.Last.Block.lean ====
/- One grid point of the last feed-forward layer: the loop that fills the scratch, what a tile of hidden units adds, and the loop
that divides the finished rows by their root mean squares. -/
module

public import proofs.«01_k».proof.Proof.Gen.LastIdeal.Value
public import proofs.«01_k».proof.Proof.Norm.InPlace
public import Idealize.ShloMosaic.Lib.VecWindow

@[expose] public section

set_option maxRecDepth 16384

namespace Cert.Proof.Last

open Cert.LastIdeal Cert.LastIdeal.Gen
open Idealize.ShloMosaic Idealize.ShloMosaic.TcCoe Idealize.ShloMosaic.Pointwise Idealize.SL.Sem

/-- What a trip stores: its rows divided by their root mean squares. -/
theorem store_apply (g : Vec Ideal S1x2048 .f32) (x : Vec Ideal S16x2048 .f32) (i : Fin 16) (k : Fin 2048) :
    k0_pay1 (F := Ideal) g x (ix2 i k) = Norm.normed (fun j => x (ix2 i j)) (g (ix2 0 k)) k := by
  pointwise [k0_pay1]; rfl

/-- What a point writes: what its block holds, and what the point's hidden units add. -/
theorem step_apply (s : Vec Ideal S688x2048 .bf16) (wu : Vec Ideal S2048x512 .bf16) (o : Vec Ideal S688x2048 .f32)
    (wd : Vec Ideal S512x2048 .bf16) (i : Fin 688) (j : Fin 2048) :
    k0_pay2 (F := Ideal) s wu o wd (ix2 i j)
      = o (ix2 i j) + ∑ f : Fin 512, max (∑ k : Fin 2048, s (ix2 i k) * wu (ix2 k f)) 0 * max (∑ k : Fin 2048, s (ix2 i k) * wu (ix2 k f)) 0
        * wd (ix2 f j) := by
  pointwise [k0_pay2]

/-- What a trip of the last loop stores: its rows divided by their root mean squares. -/
theorem last_apply (g : Vec Ideal S1x2048 .f32) (x : Vec Ideal S16x2048 .f32) (i : Fin 16) (k : Fin 2048) :
    k0_pay3 (F := Ideal) g x (ix2 i k) = Norm.normed (fun j => x (ix2 i j)) (g (ix2 0 k)) k := by
  pointwise [k0_pay3]; rfl

section
variable (𝒱 : Variants) (c : Dev nD) (bd : Option 𝒱.V) (i : grid0.Coords) (arg2 : Memref sig .tc .vmem S688x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S512x2048 .bf16) (harg5 : arg5.IsWhole) (arg6 : Memref sig .tc .vmem S1x2048 .f32) (harg6 : arg6.IsWhole)
  (arg7 : Memref sig .tc .vmem S688x2048 .f32) (harg7 : arg7.IsWhole) (arg8 : Memref sig .tc .vmem S688x2048 .bf16) (harg8 : arg8.IsWhole) (h1 : k0_cond1 i = 1#1) (g : Vec Ideal S1x2048 .f32) (x : Vec Ideal S688x2048 .f32)

/-- A trip writes one piece. -/
theorem trip (X : BufTy.Contents (Elt Ideal) arg2.view.ty) (k : Fin k0_t1_loop.trips) :
    tripL_k0_t1 (F := Ideal) 𝒱 c bd i arg2 harg2 arg3 harg3 arg4 harg4 arg5 harg5 arg6 harg6 arg7 harg7 arg8 harg8 h1 g X k
      = [⟨Rect.unit (s := S688x2048) (k0_off1 k) S16x2048.size (k0_off1_inb i k h1), k0_pay1 g (arg2.view.readAt (Elt Ideal)
          (Rect.unit (s := S688x2048) (k0_off1 k) S16x2048.size (k0_off1_inb i k h1)).toLoadRect X)⟩] := by
  unfold tripL_k0_t1 trip_k0_t1; rfl

/-- After the loop the scratch holds every row divided by its root mean square. -/
theorem scratch (y : S688x2048.Idx) :
    View.canon (pb_k0_t1 (F := Ideal) 𝒱 c bd i arg2 harg2 arg3 harg3 arg4 harg4 arg5 harg5 arg6 harg6 arg7 harg7 arg8 harg8 h1 g (harg2.unread x) 43) y
      = Norm.normed (fun j => x (ix2 (y 0) j)) (g (ix2 0 (y 1))) (y 1) :=
  Norm.canon_normed (T := k0_t1_loop.trips) x g (k0_pay1 (F := Ideal) g) (store_apply g) k0_off1 (fun k => k0_off1_inb i k h1) _ _ rfl
    (pb_k0_t1_succ (F := Ideal) 𝒱 c bd i arg2 harg2 arg3 harg3 arg4 harg4 arg5 harg5 arg6 harg6 arg7 harg7 arg8 harg8 h1 g (harg2.unread x))
    (fun k => by rw [trip, View.readAt_eq_ld, harg2.read_unread]) y
    (View.cover_of_tiledL (pb_k0_t1 (F := Ideal) 𝒱 c bd i arg2 harg2 arg3 harg3 arg4 harg4 arg5 harg5 arg6 harg6 arg7 harg7 arg8 harg8 h1 g (harg2.unread x) 43)
      S16x2048.size (by sl_kernel_rfl) y)
end

section
variable (𝒱 : Variants) (c : Dev nD) (bd : Option 𝒱.V) (i : grid0.Coords) (arg2 : Memref sig .tc .vmem S688x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S512x2048 .bf16) (harg5 : arg5.IsWhole) (arg6 : Memref sig .tc .vmem S1x2048 .f32) (harg6 : arg6.IsWhole)
  (arg7 : Memref sig .tc .vmem S688x2048 .f32) (harg7 : arg7.IsWhole) (arg8 : Memref sig .tc .vmem S688x2048 .bf16) (harg8 : arg8.IsWhole) (h2 : k0_cond2 i = 1#1) (gf : Vec Ideal S1x2048 .f32)

/-- A trip of the last loop writes one piece. -/
theorem last_trip (k : Fin k0_t2_loop.trips) (X : BufTy.Contents (Elt Ideal) arg7.view.ty) :
    tripL_k0_t2 (F := Ideal) 𝒱 c bd i arg2 harg2 arg3 harg3 arg4 harg4 arg5 harg5 arg6 harg6 arg7 harg7 arg8 harg8 h2 gf k X
      = [⟨Rect.unit (s := S688x2048) (k0_off2 k) S16x2048.size (k0_off2_inb i k h2), k0_pay3 gf (arg7.view.readAt (Elt Ideal)
          (Rect.unit (s := S688x2048) (k0_off2 k) S16x2048.size (k0_off2_inb i k h2)).toLoadRect X)⟩] := by
  unfold tripL_k0_t2 trip_k0_t2; rfl

theorem last_off : ∀ k : Fin k0_t2_loop.trips, k0_off2 k = ![16 * k.val, 0] := by decide +kernel

/-- After the last loop every row of the block is divided by its root mean square. -/
theorem in_place (f : BufTy.Contents (Elt Ideal) arg7.view.ty) (P : Vec Ideal S688x2048 .f32) (hf : arg7.view.read (Elt Ideal) f = P) (y : S688x2048.Idx) :
    arg7.view.read (Elt Ideal) (arg7.view.writes (Elt Ideal) f
      (pb_k0_t2 (F := Ideal) 𝒱 c bd i arg2 harg2 arg3 harg3 arg4 harg4 arg5 harg5 arg6 harg6 arg7 harg7 arg8 harg8 h2 gf f 43)) y
      = Norm.normed (fun j => P (ix2 (y 0) j)) (gf (ix2 0 (y 1))) (y 1) :=
  (Norm.read_in_place (T := k0_t2_loop.trips) arg7.view f P hf gf (k0_pay3 (F := Ideal) gf) (last_apply gf) k0_off2 last_off
    (fun k => k0_off2_inb i k h2) _
    (fun k X => tripL_k0_t2 (F := Ideal) 𝒱 c bd i arg2 harg2 arg3 harg3 arg4 harg4 arg5 harg5 arg6 harg6 arg7 harg7 arg8 harg8 h2 gf k X) rfl
    (pb_k0_t2_succ (F := Ideal) 𝒱 c bd i arg2 harg2 arg3 harg3 arg4 harg4 arg5 harg5 arg6 harg6 arg7 harg7 arg8 harg8 h2 gf f)
    (fun k X => by rw [last_trip, View.readAt_eq_ld]) 43 (by decide) y).trans (if_pos (y 0).isLt)
end

section
variable (c : Dev nD) (i : grid0.Coords) (arg2 : Memref sig .tc .vmem S688x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S512x2048 .bf16) (harg5 : arg5.IsWhole) (arg6 : Memref sig .tc .vmem S1x2048 .f32) (harg6 : arg6.IsWhole)
  (arg7 : Memref sig .tc .vmem S688x2048 .f32) (harg7 : arg7.IsWhole) (arg8 : Memref sig .tc .vmem S688x2048 .bf16) (harg8 : arg8.IsWhole)
  (x : Vec Ideal S688x2048 .f32) (g : Vec Ideal S1x2048 .f32) (wu : Vec Ideal S2048x512 .bf16) (wd : Vec Ideal S512x2048 .bf16)
  (gf : Vec Ideal S1x2048 .f32)

/-- The scratch a point that fills it leaves. -/
theorem filled (h : cond0_0 i) (h1 : ¬ cond0_1 i) (y : S688x2048.Idx) :
    sout0_A_0 c i arg2 harg2 arg3 harg3 arg4 harg4 arg5 harg5 arg6 harg6 arg7 harg7 arg8 harg8 h h1 x g wu wd gf y
      = Norm.normed (fun j => x (ix2 (y 0) j)) (g (ix2 0 (y 1))) (y 1) := by
  frame_out; exact scratch ..

/-- What such a point writes: its rows and what its hidden units add. -/
theorem out_filled (h : cond0_0 i) (h1 : ¬ cond0_1 i) :
    out0_A_5 c i arg2 harg2 arg3 harg3 arg4 harg4 arg5 harg5 arg6 harg6 arg7 harg7 arg8 harg8 h h1 x g wu wd gf
      = k0_pay2 (F := Ideal) (sout0_A_0 c i arg2 harg2 arg3 harg3 arg4 harg4 arg5 harg5 arg6 harg6 arg7 harg7 arg8 harg8 h h1 x g wu wd gf)
        wu x wd := by
  frame_out
  refine congrArg (k0_pay2 · wu x wd) ?_
  rw [View.readCov_eq_canon']
  funext z
  exact congrArg _ (Idealize.ShloMosaic.Rect.emb_unit_full _ z)

/-- What a point between writes: the block it found and what its hidden units add. -/
theorem out_held (h : ¬ cond0_0 i) (h1 : ¬ cond0_1 i) (o : Vec Ideal S688x2048 .f32) (s : Vec Ideal S688x2048 .bf16) :
    out0_B_5 c i arg2 harg2 arg3 harg3 arg4 harg4 arg5 harg5 arg6 harg6 arg7 harg7 arg8 harg8 h h1 x g wu wd gf o s
      = k0_pay2 (F := Ideal) s wu o wd := by
  frame_out

/-- What the last point of a block writes: the finished rows divided by their root mean squares. -/
theorem out_last (h : ¬ cond0_0 i) (h1 : cond0_1 i) (o : Vec Ideal S688x2048 .f32) (s : Vec Ideal S688x2048 .bf16) (y : S688x2048.Idx) :
    out0_C_5 c i arg2 harg2 arg3 harg3 arg4 harg4 arg5 harg5 arg6 harg6 arg7 harg7 arg8 harg8 h h1 x g wu wd gf o s y
      = Norm.normed (fun j => k0_pay2 (F := Ideal) s wu o wd (ix2 (y 0) j)) (gf (ix2 0 (y 1))) (y 1) := by
  frame_out
  refine (Norm.canon_over arg7.view arg7.view.junk _ _ _ y).trans ?_
  exact in_place _ c _ i arg2 harg2 arg3 harg3 arg4 harg4 arg5 harg5 arg6 harg6 arg7 harg7 arg8 harg8 _ gf _ _ (View.read_writes_full ..) y
end

end Cert.Proof.Last
-- ==== Proof.Last.Array.lean ====
/- The last feed-forward layer, from all grid points together. -/
module

public import proofs.«01_k».proof.Proof.Last.Block
public import proofs.«01_k».proof.Proof.Mlp.Math
public import Idealize.ShloMosaic.Lib.Pipeline.ValueKit
public import Idealize.ShloMosaic.Lib.Pipeline.ValueKit.Held

@[expose] public section

set_option maxRecDepth 16384

namespace Cert.Proof.Last

open Cert.LastIdeal Cert.LastIdeal.Gen
open Mlp (entry tile layer layer_of_last grown_before)
open Idealize.ShloMosaic Idealize.ShloMosaic.TcCoe Idealize.ShloMosaic.Pointwise Idealize.SL.Sem

variable (m : (ℓ : Loc nD τ sig) → Buf (Elt Ideal) ℓ)

/-- The blocks of the point `t`. -/
theorem block_idx : ∀ t : Fin cfg0.N, win0_0.index t = ![t.val / 16, 0] ∧ win0_1.index t = ![0, 0] ∧ win0_2.index t = ![0, t.val % 16]
    ∧ win0_3.index t = ![t.val % 16, 0] ∧ win0_4.index t = ![0, 0] ∧ win0_5.index t = ![t.val / 16, 0] := (by decide +kernel : ∀ t : Fin grid0.N, _)

/-- The rows of a point's block are rows of the array. -/
theorem x_block (c : Dev nD) (t : Fin cfg0.N) (i : Fin 688) :
    (fun j => iblk m c 0 t (ix2 i j)) = Norm.rowOf (m ((c : Thread nD τ).loc main_arg0)) (688 * (t.val / 16) + i.val) := by
  have ht : t.val < 192 := lt_of_lt_of_eq t.isLt N_0
  funext j
  unfold Norm.rowOf
  rw [dif_pos (by omega)]
  blk_ext [iblk, V, block_idx t]

/-- Every point has the whole of the weights of the norm. -/
theorem g_block (c : Dev nD) (t : Fin cfg0.N) (k : Fin 2048) : iblk m c 1 t (ix2 0 k) = m ((c : Thread nD τ).loc main_arg1) (ix1 k) := by
  blk_simp [iblk, block_idx t]
  entry_read
  pointwise
  blk_ext [block_idx t]

/-- Every point has the whole of the weights of the last norm. -/
theorem gf_block (c : Dev nD) (t : Fin cfg0.N) (k : Fin 2048) : iblk m c 4 t (ix2 0 k) = m ((c : Thread nD τ).loc main_arg4) (ix1 k) := by
  blk_simp [iblk, block_idx t]
  entry_read
  pointwise
  blk_ext [block_idx t]

/-- The columns of a point's block are the columns of its tile. -/
theorem wu_block (c : Dev nD) (t : Fin cfg0.N) (k : Fin 2048) (f : Fin 512) :
    iblk m c 2 t (ix2 k f) = entry (m ((c : Thread nD τ).loc main_arg2)) k (512 * (t.val % 16) + f) := by
  unfold entry
  rw [dif_pos ⟨k.isLt, by omega⟩]
  blk_simp [iblk, block_idx t]
  entry_read
  pointwise
  blk_ext [block_idx t]

/-- The rows of a point's block are the rows of its tile. -/
theorem wd_block (c : Dev nD) (t : Fin cfg0.N) (f : Fin 512) (j : Fin 2048) :
    iblk m c 3 t (ix2 f j) = entry (m ((c : Thread nD τ).loc main_arg3)) (512 * (t.val % 16) + f) j := by
  unfold entry
  rw [dif_pos ⟨by omega, j.isLt⟩]
  blk_simp [iblk, block_idx t]
  entry_read
  pointwise
  blk_ext [block_idx t]

/-- The scratch at every point: the rows of the point's block divided by their root mean squares. -/
theorem held (c : Dev nD) (t : Fin cfg0.N) (y : S688x2048.Idx) :
    (outsAt0 m c t.val t.isLt).2 y = Norm.normed (Norm.rowOf (m ((c : Thread nD τ).loc main_arg0)) (688 * (t.val / 16) + (y 0).val))
      (m ((c : Thread nD τ).loc main_arg1) (ix1 (y 1))) (y 1) := by
  rw [Pipeline.eq_of_write_hold_apply (fun n h => (outsAt0 m c n h).2) 16
    (fun t (y : S688x2048.Idx) => Norm.normed (Norm.rowOf (m ((c : Thread nD τ).loc main_arg0)) (688 * (t.val / 16) + (y 0).val))
      (m ((c : Thread nD τ).loc main_arg1) (ix1 (y 1))) (y 1))
    (fun t h y => by
      rw [outsAt0_A m c t h (by omega)]; exact (filled ..).trans (congrArg₂ (Norm.normed · · (y 1)) (x_block m c t (y 0)) (g_block m c t (y 1))))
    (fun t h y => by
      by_cases h1 : t.val % 16 = 15
      · rw [outsAt0_C m c t h h1]; rfl
      · rw [outsAt0_B m c t h h1]; rfl) t y]
  rw [Nat.mul_div_cancel_left _ (by decide)]

/-- What a point's hidden units add to its block. -/
theorem added (c : Dev nD) (t : Fin cfg0.N) (o : Vec Ideal S688x2048 .f32) (y : S688x2048.Idx) :
    k0_pay2 (F := Ideal) (outsAt0 m c t.val t.isLt).2 (iblk m c 2 t) o (iblk m c 3 t) y
      = o y + tile (m ((c : Thread nD τ).loc main_arg0)) (m ((c : Thread nD τ).loc main_arg1)) (m ((c : Thread nD τ).loc main_arg2))
        (m ((c : Thread nD τ).loc main_arg3)) (688 * (t.val / 16) + (y 0).val) (y 1) (t.val % 16) := by
  refine ((congrArg _ (ix2_eta y).symm).trans (step_apply _ _ _ _ (y 0) (y 1))).trans
    (congrArg₂ (· + ·) (congrArg o (ix2_eta y)) (Finset.sum_congr rfl fun f _ => ?_))
  have e : ∑ k : Fin 2048, (outsAt0 m c t.val t.isLt).2 (ix2 (y 0) k) * iblk m c 2 t (ix2 k f) = _ :=
    Finset.sum_congr rfl fun k _ => congrArg₂ (· * ·) (held m c t (ix2 (y 0) k)) (wu_block m c t k f)
  rw [e, wd_block m c t f (y 1)]
  rfl

/-- What the block holds before its last point. -/
theorem block (c : Dev nD) (t : ℕ) (ht : t < cfg0.N) (hl : t % 16 = 14) (y : S688x2048.Idx) :
    (outsAt0 m c t ht).1 y = Norm.rowOf (m ((c : Thread nD τ).loc main_arg0)) (688 * (t / 16) + (y 0).val) (y 1)
      + ∑ s ∈ Finset.range (t % 16 + 1), tile (m ((c : Thread nD τ).loc main_arg0)) (m ((c : Thread nD τ).loc main_arg1))
        (m ((c : Thread nD τ).loc main_arg2)) (m ((c : Thread nD τ).loc main_arg3)) (688 * (t / 16) + (y 0).val) (y 1) s := by
  refine grown_before (fun n h => (outsAt0 m c n h).1)
    (fun q (y : S688x2048.Idx) => Norm.rowOf (m ((c : Thread nD τ).loc main_arg0)) (688 * q + (y 0).val) (y 1))
    (fun q s (y : S688x2048.Idx) => tile (m ((c : Thread nD τ).loc main_arg0)) (m ((c : Thread nD τ).loc main_arg1))
      (m ((c : Thread nD τ).loc main_arg2)) (m ((c : Thread nD τ).loc main_arg3)) (688 * q + (y 0).val) (y 1) s)
    (fun t h y => ?_) (fun t h h1 y => ?_) t ht (by omega) y
  · refine Eq.trans ?_ ((added m c t (iblk m c 0 t) y).trans (congrArg (· + _) ?_))
    · rw [outsAt0_A m c t h (by omega)]; dsimp only; rw [out_filled]
    · exact (congrArg _ (ix2_eta y).symm).trans (congrFun (x_block m c t (y 0)) (y 1))
  · refine Eq.trans ?_ (added m c t _ y)
    rw [outsAt0_B m c t h h1]; dsimp only; rw [out_held]; rfl

/-- The rows a last point finishes, before they are divided by their root mean squares. -/
theorem finished (c : Dev nD) (t : Fin cfg0.N) (ht : t.val % 16 = 15) (h : t.val - 1 < cfg0.N) (y : S688x2048.Idx) :
    k0_pay2 (F := Ideal) (outsAt0 m c t.val t.isLt).2 (iblk m c 2 t) (outsAt0 m c (t.val - 1) h).1 (iblk m c 3 t) y
      = layer (m ((c : Thread nD τ).loc main_arg0)) (m ((c : Thread nD τ).loc main_arg1))
        (m ((c : Thread nD τ).loc main_arg2)) (m ((c : Thread nD τ).loc main_arg3)) (688 * (t.val / 16) + (y 0).val) (y 1) := by
  refine (added m c t _ y).trans ((congrArg (· + _) (block m c (t.val - 1) h (by omega) y)).trans ?_)
  exact layer_of_last _ _ _ _ t.val ht _ (y 1)

/-- What the last point of a block writes. -/
theorem last (c : Dev nD) (t : Fin cfg0.N) (ht : t.val % 16 = 15) (y : S688x2048.Idx) :
    (outsAt0 m c t.val t.isLt).1 y = Norm.normed (layer (m ((c : Thread nD τ).loc main_arg0)) (m ((c : Thread nD τ).loc main_arg1))
      (m ((c : Thread nD τ).loc main_arg2)) (m ((c : Thread nD τ).loc main_arg3)) (688 * (t.val / 16) + (y 0).val))
      (m ((c : Thread nD τ).loc main_arg4) (ix1 (y 1))) (y 1) := by
  have hs : (outsAt0 m c t.val t.isLt).2 = (outsAt0 m c (t.val - 1) (Nat.lt_of_le_of_lt (Nat.sub_le _ _) t.isLt)).2 := by
    rw [outsAt0_C m c t (by omega) ht]; rfl
  rw [outsAt0_C m c t (by omega) ht]
  dsimp only
  rw [out_last, ← hs]
  exact congrArg₂ (Norm.normed · · (y 1)) (funext fun j => finished m c t ht _ (ix2 (y 0) j)) (gf_block m c t (y 1))

/-- A row after the layer, divided by its root mean square and weighted. -/
noncomputable def result (x : Vec Ideal S8256x2048 .f32) (g : Vec Ideal S2048 .f32) (wu : Vec Ideal S2048x8192 .f32)
    (wd : Vec Ideal S8192x2048 .f32) (gf : Vec Ideal S2048 .f32) (i : ℕ) (j : Fin 2048) : EReal :=
  Norm.normed (layer x g wu wd i) (gf (ix1 j)) j

/-- The array the kernel leaves. -/
theorem final (c : Dev nD) : (dats m 0 c).arrAt 5 (cfgs 0).N = fun y => result (m ((c : Thread nD τ).loc main_arg0))
    (m ((c : Thread nD τ).loc main_arg1)) (m ((c : Thread nD τ).loc main_arg2)) (m ((c : Thread nD τ).loc main_arg3))
    (m ((c : Thread nD τ).loc main_arg4)) (y 0).val (y 1) := by
  refine (dats m 0 c).arrAt_eq_of_covers 5 _ (by decide +kernel) fun t hf (y : S688x2048.Idx) => ?_
  blk_simp
  rw [after0_5]
  have p1 : (win0_5.blk t).view.emb y 1 = y 1 := Fin.ext (by blk_simp [block_idx t])
  refine (last m c t ((flush0_5 t).mp hf) y).trans (congrArg₂ (result _ _ _ _ _) ?_ p1.symm)
  blk_simp [block_idx t]
  omega

end Cert.Proof.Last
-- ==== Proof.Last.Claims.lean ====
/- The claims about the last feed-forward layer. -/
module

public import proofs.«01_k».proof.Defs
public import proofs.«01_k».proof.Proof.Last.Array
public import proofs.«01_k».proof.Proof.Gen.LastReferenceIdeal.Run
public import Idealize.ShloMosaic.Adequacy
public import Idealize.ShloMosaic.Init

@[expose] public section

set_option maxRecDepth 16384

namespace Cert.Proof.Last

open Idealize.ShloMosaic Idealize.ShloMosaic.TcCoe Idealize.ShloMosaic.Pointwise Idealize.SL.Sem

/-- The reference ends with its arguments as they were. -/
theorem frame_reference : Cert.quiescent_LastReferenceIdeal := fun m g _ =>
  (θ_run (Cert.LastReferenceIdeal.defs (F := Ideal)) _ _).mono
    (fun r h => ⟨fun c => (h c).2, sem_eq_zero_of_no_sems (by decide) r.2⟩) (Cert.LastReferenceIdeal.Value.run (F := Ideal) m g)

/-- The kernel and the reference leave the same array. -/
theorem algebraic : Cert.algebraic_LastIdeal_LastReferenceIdeal := by
  pair_intro
  · run_from Cert.LastIdeal.Gen.run_main m g
  · run_from Cert.LastReferenceIdeal.Value.run m' g'
    refine Eq.trans ?_ (final m c).symm
    funext y
    obtain ⟨i, j, rfl⟩ : ∃ i j, y = ix2 i j := ⟨y 0, y 1, (ix2_eta y).symm⟩
    refine Eq.trans ?_ (congrArg (Norm.normed · _ j) (funext fun j => Mlp.layer_val _ _ _ _ i j)).symm
    pointwise [Cert.LastReferenceIdeal.Value.res_main_v30]
    rw [(hagree c).1, (hagree c).2.1, (hagree c).2.2.1, (hagree c).2.2.2.1, (hagree c).2.2.2.2]
    rfl

end Cert.Proof.Last
-- ==== Proof.Qkv.Block.lean ====
/- One grid point of the projection to the forgetting layers' queries, keys and values: the loop that fills the scratch and the product. -/
module

public import proofs.«01_k».proof.Proof.Gen.QkvIdeal.Value
public import proofs.«01_k».proof.Proof.Norm.Rows
public import Idealize.ShloMosaic.Lib.VecWindow

@[expose] public section

set_option maxRecDepth 16384

namespace Cert.Proof.Qkv

open Cert.QkvIdeal Cert.QkvIdeal.Gen
open Idealize.ShloMosaic Idealize.ShloMosaic.TcCoe Idealize.ShloMosaic.Pointwise Idealize.SL.Sem

/-- What a trip stores: its rows divided by their root mean squares. -/
theorem store_apply (g : Vec Ideal S1x2048 .f32) (x : Vec Ideal S16x2048 .f32) (i : Fin 16) (k : Fin 2048) :
    k0_pay1 (F := Ideal) g x (ix2 i k) = Norm.normed (fun j => x (ix2 i j)) (g (ix2 0 k)) k := by
  pointwise [k0_pay1]; rfl

/-- What a point multiplies its product by: the columns of the first two tiles are queries. -/
noncomputable def factor (a : grid0.Coords) : EReal :=
  Scalar.select (Scalar.cmpi .slt (BitVec.ofNat 32 (a 1).val) 2#32) (Ideal.ofBits .f32 0x3DB504F3#32) 1

/-- What a point writes: the scratch's rows against the block's columns, scaled. -/
theorem product_apply (a : grid0.Coords) (s : Vec Ideal S688x2048 .bf16) (w : Vec Ideal S2048x1024 .bf16) (i : Fin 688) (j : Fin 1024) :
    k0_pay2 (F := Ideal) a s w (ix2 i j) = (∑ k : Fin 2048, s (ix2 i k) * w (ix2 k j)) * factor a := by
  pointwise [k0_pay2]
  rfl

section
variable (𝒱 : Variants) (c : Dev nD) (bd : Option 𝒱.V) (i : grid0.Coords) (arg2 : Memref sig .tc .vmem S688x2048 .f32)
  (harg2 : arg2.IsWhole) (arg3 : Memref sig .tc .vmem S1x2048 .f32) (harg3 : arg3.IsWhole) (arg4 : Memref sig .tc .vmem S2048x1024 .bf16)
  (harg4 : arg4.IsWhole) (arg5 : Memref sig .tc .vmem S688x1024 .bf16) (harg5 : arg5.IsWhole) (arg6 : Memref sig .tc .vmem S688x2048 .bf16)
  (harg6 : arg6.IsWhole) (h1 : k0_cond1 i = 1#1) (g : Vec Ideal S1x2048 .f32) (x : Vec Ideal S688x2048 .f32)

/-- A trip writes one piece. -/
theorem trip (X : BufTy.Contents (Elt Ideal) arg2.view.ty) (k : Fin k0_t1_loop.trips) :
    tripL_k0_t1 (F := Ideal) 𝒱 c bd i arg2 harg2 arg3 harg3 arg4 harg4 arg5 harg5 arg6 harg6 h1 g X k
      = [⟨Rect.unit (s := S688x2048) (k0_off1 k) S16x2048.size (k0_off1_inb i k h1), k0_pay1 g (arg2.view.readAt (Elt Ideal)
          (Rect.unit (s := S688x2048) (k0_off1 k) S16x2048.size (k0_off1_inb i k h1)).toLoadRect X)⟩] := by
  unfold tripL_k0_t1 trip_k0_t1; rfl

/-- After the loop the scratch holds every row divided by its root mean square. -/
theorem scratch (y : S688x2048.Idx) :
    View.canon (pb_k0_t1 (F := Ideal) 𝒱 c bd i arg2 harg2 arg3 harg3 arg4 harg4 arg5 harg5 arg6 harg6 h1 g (harg2.unread x) 43) y
      = Norm.normed (fun j => x (ix2 (y 0) j)) (g (ix2 0 (y 1))) (y 1) :=
  Norm.canon_normed (T := k0_t1_loop.trips) x g (k0_pay1 (F := Ideal) g) (store_apply g) k0_off1 (fun k => k0_off1_inb i k h1) _ _ rfl
    (pb_k0_t1_succ (F := Ideal) 𝒱 c bd i arg2 harg2 arg3 harg3 arg4 harg4 arg5 harg5 arg6 harg6 h1 g (harg2.unread x))
    (fun k => by rw [trip, View.readAt_eq_ld, harg2.read_unread]) y
    (View.cover_of_tiledL (pb_k0_t1 (F := Ideal) 𝒱 c bd i arg2 harg2 arg3 harg3 arg4 harg4 arg5 harg5 arg6 harg6 h1 g (harg2.unread x) 43)
      S16x2048.size (by sl_kernel_rfl) y)
end

/-- The scratch a point that fills it leaves. -/
theorem filled (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : cond0_0 i) (x : Vec Ideal S688x2048 .f32) (g : Vec Ideal S1x2048 .f32) (w : Vec Ideal S2048x1024 .bf16) (y : S688x2048.Idx) :
    sout0_A_0 c i arg2 harg2 arg3 harg3 arg4 harg4 arg5 harg5 arg6 harg6 h x g w y
      = Norm.normed (fun j => x (ix2 (y 0) j)) (g (ix2 0 (y 1))) (y 1) := by
  frame_out; exact scratch ..

/-- What such a point writes: its scratch times its block of the matrix, scaled. -/
theorem out_filled (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : cond0_0 i) (x : Vec Ideal S688x2048 .f32) (g : Vec Ideal S1x2048 .f32) (w : Vec Ideal S2048x1024 .bf16) :
    out0_A_3 c i arg2 harg2 arg3 harg3 arg4 harg4 arg5 harg5 arg6 harg6 h x g w
      = k0_pay2 (F := Ideal) i (sout0_A_0 c i arg2 harg2 arg3 harg3 arg4 harg4 arg5 harg5 arg6 harg6 h x g w) w := by
  frame_out
  refine congrArg (k0_pay2 i · w) ?_
  rw [View.readCov_eq_canon']
  funext z
  exact congrArg _ (Idealize.ShloMosaic.Rect.emb_unit_full _ z)

/-- What any other point writes: the scratch it found times its block of the matrix, scaled. -/
theorem out_held (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : ¬ cond0_0 i) (x : Vec Ideal S688x2048 .f32) (g : Vec Ideal S1x2048 .f32) (w : Vec Ideal S2048x1024 .bf16)
    (s : Vec Ideal S688x2048 .bf16) :
    out0_B_3 c i arg2 harg2 arg3 harg3 arg4 harg4 arg5 harg5 arg6 harg6 h x g w s = k0_pay2 (F := Ideal) i s w := by
  frame_out

end Cert.Proof.Qkv
-- ==== Proof.Qkv.Array.lean ====
/- The forgetting layers' queries, keys and values, from all grid points together. -/
module

public import proofs.«01_k».proof.Proof.Qkv.Block
public import Idealize.ShloMosaic.Lib.Pipeline.ValueKit
public import Idealize.ShloMosaic.Lib.Pipeline.ValueKit.Held

@[expose] public section

set_option maxRecDepth 16384

namespace Cert.Proof.Qkv

open Cert.QkvIdeal Cert.QkvIdeal.Gen
open Idealize.ShloMosaic Idealize.ShloMosaic.TcCoe Idealize.ShloMosaic.Pointwise Idealize.SL.Sem

variable (m : (ℓ : Loc nD τ sig) → Buf (Elt Ideal) ℓ)

/-- The blocks of the point `t`. -/
theorem block_idx : ∀ t : Fin cfg0.N, win0_0.index t = ![t.val / 6, 0] ∧ win0_1.index t = ![0, 0] ∧ win0_2.index t = ![0, t.val % 6]
    ∧ win0_3.index t = ![t.val / 6, t.val % 6] := (by decide +kernel : ∀ t : Fin grid0.N, _)

theorem coord : ∀ t : Fin cfg0.N, (grid0.coords t 1).val = t.val % 6 := (by decide +kernel : ∀ t : Fin grid0.N, _)

/-- What column `n` is multiplied by: the queries, its first 2048, are scaled. -/
noncomputable def scaled (n : ℕ) : EReal := if n < 2048 then Ideal.ofBits .f32 0x3DB504F3#32 else 1

theorem factor_eq (t : Fin cfg0.N) (j : Fin 1024) (n : ℕ) (hn : n = 1024 * (t.val % 6) + j.val) : factor (grid0.coords t) = scaled n := by
  have h : t.val % 6 < 6 := Nat.mod_lt _ (by decide)
  rw [factor, coord t]
  unfold scaled
  subst hn
  interval_cases t.val % 6
  · rw [if_pos (by omega)]; rfl
  · rw [if_pos (by omega)]; rfl
  all_goals rw [if_neg (by omega)]; rfl

/-- The rows of a point's block are rows of the array. -/
theorem x_block (c : Dev nD) (t : Fin cfg0.N) (i : Fin 688) :
    (fun j => iblk m c 0 t (ix2 i j)) = Norm.rowOf (m ((c : Thread nD τ).loc main_arg0)) (688 * (t.val / 6) + i.val) := by
  have ht : t.val < 72 := lt_of_lt_of_eq t.isLt N_0
  funext j
  unfold Norm.rowOf
  rw [dif_pos (by omega)]
  blk_ext [iblk, V, block_idx t]

/-- Every point has the whole of the weights of the norm. -/
theorem g_block (c : Dev nD) (t : Fin cfg0.N) (k : Fin 2048) : iblk m c 1 t (ix2 0 k) = m ((c : Thread nD τ).loc main_arg1) (ix1 k) := by
  blk_simp [iblk, block_idx t]
  entry_read
  pointwise
  blk_ext [block_idx t]

/-- The columns of a point's block are columns of the matrix. -/
theorem w_block (c : Dev nD) (t : Fin cfg0.N) (k : Fin 2048) (j : Fin 1024) (n : Fin 6144) (hn : n.val = 1024 * (t.val % 6) + j.val) :
    iblk m c 2 t (ix2 k j) = m ((c : Thread nD τ).loc main_arg2) (ix2 k n) := by
  blk_simp [iblk, block_idx t]
  entry_read
  pointwise
  blk_ext [block_idx t]

/-- The scratch at every point: the rows of the point's block divided by their root mean squares. -/
theorem held (c : Dev nD) (t : Fin cfg0.N) (y : S688x2048.Idx) :
    (outsAt0 m c t.val t.isLt).2 y = Norm.normed (Norm.rowOf (m ((c : Thread nD τ).loc main_arg0)) (688 * (t.val / 6) + (y 0).val))
      (m ((c : Thread nD τ).loc main_arg1) (ix1 (y 1))) (y 1) := by
  rw [Pipeline.eq_of_write_hold_apply (fun n h => (outsAt0 m c n h).2) 6
    (fun t (y : S688x2048.Idx) => Norm.normed (Norm.rowOf (m ((c : Thread nD τ).loc main_arg0)) (688 * (t.val / 6) + (y 0).val))
      (m ((c : Thread nD τ).loc main_arg1) (ix1 (y 1))) (y 1))
    (fun t h y => by
      rw [outsAt0_A m c t h]; exact (filled ..).trans (congrArg₂ (Norm.normed · · (y 1)) (x_block m c t (y 0)) (g_block m c t (y 1))))
    (fun t h y => by rw [outsAt0_B m c t h]; rfl) t y]
  rw [Nat.mul_div_cancel_left _ (by decide)]

/-- Every point writes its scratch times its block of the matrix, scaled. -/
theorem out (c : Dev nD) (t : Fin cfg0.N) :
    (outsAt0 m c t.val t.isLt).1 = k0_pay2 (F := Ideal) (grid0.coords t) (outsAt0 m c t.val t.isLt).2 (iblk m c 2 t) := by
  by_cases h : t.val % 6 = 0
  · rw [outsAt0_A m c t h]; dsimp only; rw [out_filled]
  · rw [outsAt0_B m c t h]; dsimp only; rw [out_held]; rfl

/-- The array the kernel leaves. -/
theorem final (c : Dev nD) : (dats m 0 c).arrAt 3 (cfgs 0).N = fun y => Norm.project (m ((c : Thread nD τ).loc main_arg0))
    (m ((c : Thread nD τ).loc main_arg1)) (m ((c : Thread nD τ).loc main_arg2)) y * scaled (y 1).val := by
  refine (dats m 0 c).arrAt_eq_of_covers 3 _ (by decide +kernel) fun t _ (y : S688x1024.Idx) => ?_
  blk_simp
  rw [after0_3]
  have ht : t.val < 72 := lt_of_lt_of_eq t.isLt N_0
  have p0 : ((win0_3.blk t).view.emb y 0).val = 688 * (t.val / 6) + (y 0).val := by blk_simp [block_idx t]; omega
  have p1 : ((win0_3.blk t).view.emb y 1).val = 1024 * (t.val % 6) + (y 1).val := by blk_simp [block_idx t]; omega
  rw [out m c t]
  refine ((congrArg _ (ix2_eta y).symm).trans (product_apply _ _ _ (y 0) (y 1))).trans ?_
  refine congrArg₂ (· * ·) (Finset.sum_congr rfl fun k _ => congrArg₂ (· * ·) ((held m c t (ix2 (y 0) k)).trans ?_) (w_block m c t k (y 1) ((win0_3.blk t).view.emb y 1) p1)) (factor_eq t (y 1) _ ?_)
  · rw [show 688 * (t.val / 6) + ((ix2 (y 0) k : S688x2048.Idx) 0).val = _ from p0.symm]
    exact congrArg (Norm.normed · _ _) (Norm.rowOf_val _ _)
  · blk_simp [block_idx t]
    omega

end Cert.Proof.Qkv
-- ==== Proof.Qkv.Claims.lean ====
/- The claims about the projection to the forgetting layers' queries, keys and values. -/
module

public import proofs.«01_k».proof.Defs
public import proofs.«01_k».proof.Proof.Qkv.Array
public import proofs.«01_k».proof.Proof.Gen.QkvReferenceIdeal.Run
public import Idealize.ShloMosaic.Adequacy
public import Idealize.ShloMosaic.Init

@[expose] public section

set_option maxRecDepth 16384

namespace Cert.Proof.Qkv

open Idealize.ShloMosaic Idealize.ShloMosaic.TcCoe Idealize.ShloMosaic.Pointwise Idealize.SL.Sem

/-- The reference ends with its arguments as they were. -/
theorem frame_reference : Cert.quiescent_QkvReferenceIdeal := fun m g _ =>
  (θ_run (Cert.QkvReferenceIdeal.defs (F := Ideal)) _ _).mono
    (fun r h => ⟨fun c => (h c).2, sem_eq_zero_of_no_sems (by decide) r.2⟩) (Cert.QkvReferenceIdeal.Value.run (F := Ideal) m g)

/-- The kernel and the reference leave the same array. -/
theorem algebraic : Cert.algebraic_QkvIdeal_QkvReferenceIdeal := by
  pair_intro
  · run_from Cert.QkvIdeal.Gen.run_main m g
  · run_from Cert.QkvReferenceIdeal.Value.run m' g'
    refine Eq.trans ?_ (final m c).symm
    funext y
    obtain ⟨i, j, rfl⟩ : ∃ i j, y = ix2 i j := ⟨y 0, y 1, (ix2_eta y).symm⟩
    pointwise
    rw [(hagree c).2.2]
    change _ = _ * (if j.val < 2048 then _ else _)
    by_cases h : j.val < 2048
    · rw [dif_pos h, if_pos h]
      rfl
    · have hj := j.isLt
      rw [dif_neg h, if_neg h, mul_one]
      by_cases h' : j.val - 2048 < 2048
      · rw [dif_pos h']
        simp only [show 2048 + (j.val - 2048) = j.val by omega]
        rfl
      · rw [dif_neg h']
        simp only [show 4096 + (j.val - 2048 - 2048) = j.val by omega]
        rfl

end Cert.Proof.Qkv
-- ==== Proof.Kv.Block.lean ====
/- One grid point of the shared keys' and values' projection: the loop that fills the scratch and the product. -/
module

public import proofs.«01_k».proof.Proof.Gen.KvIdeal.Value
public import proofs.«01_k».proof.Proof.Norm.Rows
public import Idealize.ShloMosaic.Lib.VecWindow

@[expose] public section

set_option maxRecDepth 16384

namespace Cert.Proof.Kv

open Cert.KvIdeal Cert.KvIdeal.Gen
open Idealize.ShloMosaic Idealize.ShloMosaic.TcCoe Idealize.ShloMosaic.Pointwise Idealize.SL.Sem

/-- What a trip stores: its rows divided by their root mean squares. -/
theorem store_apply (g : Vec Ideal S1x2048 .f32) (x : Vec Ideal S16x2048 .f32) (i : Fin 16) (k : Fin 2048) :
    k0_pay1 (F := Ideal) g x (ix2 i k) = Norm.normed (fun j => x (ix2 i j)) (g (ix2 0 k)) k := by
  pointwise [k0_pay1]; rfl

/-- What a point writes: the scratch's rows against the block's columns. -/
theorem product_apply (s : Vec Ideal S688x2048 .bf16) (w : Vec Ideal S2048x1024 .bf16) (i : Fin 688) (j : Fin 1024) :
    k0_pay2 (F := Ideal) s w (ix2 i j) = ∑ k : Fin 2048, s (ix2 i k) * w (ix2 k j) := by
  pointwise [k0_pay2]

section
variable (𝒱 : Variants) (c : Dev nD) (bd : Option 𝒱.V) (i : grid0.Coords) (arg2 : Memref sig .tc .vmem S688x2048 .f32)
  (harg2 : arg2.IsWhole) (arg3 : Memref sig .tc .vmem S1x2048 .f32) (harg3 : arg3.IsWhole) (arg4 : Memref sig .tc .vmem S2048x1024 .bf16)
  (harg4 : arg4.IsWhole) (arg5 : Memref sig .tc .vmem S688x1024 .bf16) (harg5 : arg5.IsWhole) (arg6 : Memref sig .tc .vmem S688x2048 .bf16)
  (harg6 : arg6.IsWhole) (h1 : k0_cond1 i = 1#1) (g : Vec Ideal S1x2048 .f32) (x : Vec Ideal S688x2048 .f32)

/-- A trip writes one piece. -/
theorem trip (X : BufTy.Contents (Elt Ideal) arg2.view.ty) (k : Fin k0_t1_loop.trips) :
    tripL_k0_t1 (F := Ideal) 𝒱 c bd i arg2 harg2 arg3 harg3 arg4 harg4 arg5 harg5 arg6 harg6 h1 g X k
      = [⟨Rect.unit (s := S688x2048) (k0_off1 k) S16x2048.size (k0_off1_inb i k h1), k0_pay1 g (arg2.view.readAt (Elt Ideal)
          (Rect.unit (s := S688x2048) (k0_off1 k) S16x2048.size (k0_off1_inb i k h1)).toLoadRect X)⟩] := by
  unfold tripL_k0_t1 trip_k0_t1; rfl

/-- After the loop the scratch holds every row divided by its root mean square. -/
theorem scratch (y : S688x2048.Idx) :
    View.canon (pb_k0_t1 (F := Ideal) 𝒱 c bd i arg2 harg2 arg3 harg3 arg4 harg4 arg5 harg5 arg6 harg6 h1 g (harg2.unread x) 43) y
      = Norm.normed (fun j => x (ix2 (y 0) j)) (g (ix2 0 (y 1))) (y 1) :=
  Norm.canon_normed (T := k0_t1_loop.trips) x g (k0_pay1 (F := Ideal) g) (store_apply g) k0_off1 (fun k => k0_off1_inb i k h1) _ _ rfl
    (pb_k0_t1_succ (F := Ideal) 𝒱 c bd i arg2 harg2 arg3 harg3 arg4 harg4 arg5 harg5 arg6 harg6 h1 g (harg2.unread x))
    (fun k => by rw [trip, View.readAt_eq_ld, harg2.read_unread]) y
    (View.cover_of_tiledL (pb_k0_t1 (F := Ideal) 𝒱 c bd i arg2 harg2 arg3 harg3 arg4 harg4 arg5 harg5 arg6 harg6 h1 g (harg2.unread x) 43)
      S16x2048.size (by sl_kernel_rfl) y)
end

/-- The scratch a point that fills it leaves. -/
theorem filled (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : cond0_0 i) (x : Vec Ideal S688x2048 .f32) (g : Vec Ideal S1x2048 .f32) (w : Vec Ideal S2048x1024 .bf16) (y : S688x2048.Idx) :
    sout0_A_0 c i arg2 harg2 arg3 harg3 arg4 harg4 arg5 harg5 arg6 harg6 h x g w y
      = Norm.normed (fun j => x (ix2 (y 0) j)) (g (ix2 0 (y 1))) (y 1) := by
  frame_out; exact scratch ..

/-- What such a point writes: its scratch times its block of the matrix. -/
theorem out_filled (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : cond0_0 i) (x : Vec Ideal S688x2048 .f32) (g : Vec Ideal S1x2048 .f32) (w : Vec Ideal S2048x1024 .bf16) :
    out0_A_3 c i arg2 harg2 arg3 harg3 arg4 harg4 arg5 harg5 arg6 harg6 h x g w
      = k0_pay2 (F := Ideal) (sout0_A_0 c i arg2 harg2 arg3 harg3 arg4 harg4 arg5 harg5 arg6 harg6 h x g w) w := by
  frame_out
  refine congrArg (k0_pay2 · w) ?_
  rw [View.readCov_eq_canon']
  funext z
  exact congrArg _ (Idealize.ShloMosaic.Rect.emb_unit_full _ z)

/-- What any other point writes: the scratch it found times its block of the matrix. -/
theorem out_held (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : ¬ cond0_0 i) (x : Vec Ideal S688x2048 .f32) (g : Vec Ideal S1x2048 .f32) (w : Vec Ideal S2048x1024 .bf16)
    (s : Vec Ideal S688x2048 .bf16) :
    out0_B_3 c i arg2 harg2 arg3 harg3 arg4 harg4 arg5 harg5 arg6 harg6 h x g w s = k0_pay2 (F := Ideal) s w := by
  frame_out

end Cert.Proof.Kv
-- ==== Proof.Kv.Array.lean ====
/- The shared keys and values, from all grid points together. -/
module

public import proofs.«01_k».proof.Proof.Kv.Block
public import Idealize.ShloMosaic.Lib.Pipeline.ValueKit
public import Idealize.ShloMosaic.Lib.Pipeline.ValueKit.Held

@[expose] public section

set_option maxRecDepth 16384

namespace Cert.Proof.Kv

open Cert.KvIdeal Cert.KvIdeal.Gen
open Idealize.ShloMosaic Idealize.ShloMosaic.TcCoe Idealize.ShloMosaic.Pointwise Idealize.SL.Sem

variable (m : (ℓ : Loc nD τ sig) → Buf (Elt Ideal) ℓ)

/-- The blocks of the point `t`. -/
theorem block_idx : ∀ t : Fin cfg0.N, win0_0.index t = ![t.val / 4, 0] ∧ win0_1.index t = ![0, 0] ∧ win0_2.index t = ![0, t.val % 4]
    ∧ win0_3.index t = ![t.val / 4, t.val % 4] := (by decide +kernel : ∀ t : Fin grid0.N, _)

/-- The rows of a point's block are rows of the array. -/
theorem x_block (c : Dev nD) (t : Fin cfg0.N) (i : Fin 688) :
    (fun j => iblk m c 0 t (ix2 i j)) = Norm.rowOf (m ((c : Thread nD τ).loc main_arg0)) (688 * (t.val / 4) + i.val) := by
  have ht : t.val < 48 := lt_of_lt_of_eq t.isLt N_0
  funext j
  unfold Norm.rowOf
  rw [dif_pos (by omega)]
  blk_ext [iblk, V, block_idx t]

/-- Every point has the whole of the weights of the norm. -/
theorem g_block (c : Dev nD) (t : Fin cfg0.N) (k : Fin 2048) : iblk m c 1 t (ix2 0 k) = m ((c : Thread nD τ).loc main_arg1) (ix1 k) := by
  blk_simp [iblk, block_idx t]
  entry_read
  pointwise
  blk_ext [block_idx t]

/-- The columns of a point's block are columns of the matrix. -/
theorem w_block (c : Dev nD) (t : Fin cfg0.N) (k : Fin 2048) (j : Fin 1024) (n : Fin 4096) (hn : n.val = 1024 * (t.val % 4) + j.val) :
    iblk m c 2 t (ix2 k j) = m ((c : Thread nD τ).loc main_arg2) (ix2 k n) := by
  blk_simp [iblk, block_idx t]
  entry_read
  pointwise
  blk_ext [block_idx t]

/-- The scratch at every point: the rows of the point's block divided by their root mean squares. -/
theorem held (c : Dev nD) (t : Fin cfg0.N) (y : S688x2048.Idx) :
    (outsAt0 m c t.val t.isLt).2 y = Norm.normed (Norm.rowOf (m ((c : Thread nD τ).loc main_arg0)) (688 * (t.val / 4) + (y 0).val))
      (m ((c : Thread nD τ).loc main_arg1) (ix1 (y 1))) (y 1) := by
  rw [Pipeline.eq_of_write_hold_apply (fun n h => (outsAt0 m c n h).2) 4
    (fun t (y : S688x2048.Idx) => Norm.normed (Norm.rowOf (m ((c : Thread nD τ).loc main_arg0)) (688 * (t.val / 4) + (y 0).val))
      (m ((c : Thread nD τ).loc main_arg1) (ix1 (y 1))) (y 1))
    (fun t h y => by
      rw [outsAt0_A m c t h]; exact (filled ..).trans (congrArg₂ (Norm.normed · · (y 1)) (x_block m c t (y 0)) (g_block m c t (y 1))))
    (fun t h y => by rw [outsAt0_B m c t h]; rfl) t y]
  rw [Nat.mul_div_cancel_left _ (by decide)]

/-- Every point writes its scratch times its block of the matrix. -/
theorem out (c : Dev nD) (t : Fin cfg0.N) :
    (outsAt0 m c t.val t.isLt).1 = k0_pay2 (F := Ideal) (outsAt0 m c t.val t.isLt).2 (iblk m c 2 t) := by
  by_cases h : t.val % 4 = 0
  · rw [outsAt0_A m c t h]; dsimp only; rw [out_filled]
  · rw [outsAt0_B m c t h]; dsimp only; rw [out_held]; rfl

/-- The array the kernel leaves. -/
theorem final (c : Dev nD) : (dats m 0 c).arrAt 3 (cfgs 0).N = Norm.project (m ((c : Thread nD τ).loc main_arg0)) (m ((c : Thread nD τ).loc main_arg1)) (m ((c : Thread nD τ).loc main_arg2)) := by
  refine (dats m 0 c).arrAt_eq_of_covers 3 _ (by decide +kernel) fun t _ (y : S688x1024.Idx) => ?_
  blk_simp
  rw [after0_3]
  have ht : t.val < 48 := lt_of_lt_of_eq t.isLt N_0
  have p0 : ((win0_3.blk t).view.emb y 0).val = 688 * (t.val / 4) + (y 0).val := by blk_simp [block_idx t]; omega
  have p1 : ((win0_3.blk t).view.emb y 1).val = 1024 * (t.val % 4) + (y 1).val := by blk_simp [block_idx t]; omega
  rw [out m c t]
  refine ((congrArg _ (ix2_eta y).symm).trans (product_apply _ _ (y 0) (y 1))).trans ?_
  refine Finset.sum_congr rfl fun k _ => congrArg₂ (· * ·) ((held m c t (ix2 (y 0) k)).trans ?_) (w_block m c t k (y 1) ((win0_3.blk t).view.emb y 1) p1)
  rw [show 688 * (t.val / 4) + ((ix2 (y 0) k : S688x2048.Idx) 0).val = _ from p0.symm]
  exact congrArg (Norm.normed · _ _) (Norm.rowOf_val _ _)

end Cert.Proof.Kv
-- ==== Proof.Kv.Claims.lean ====
/- The claims about the shared keys' and values' projection. -/
module

public import proofs.«01_k».proof.Defs
public import proofs.«01_k».proof.Proof.Kv.Array
public import proofs.«01_k».proof.Proof.Gen.KvReferenceIdeal.Run
public import Idealize.ShloMosaic.Adequacy
public import Idealize.ShloMosaic.Init

@[expose] public section

set_option maxRecDepth 16384

namespace Cert.Proof.Kv

open Idealize.ShloMosaic Idealize.ShloMosaic.TcCoe Idealize.ShloMosaic.Pointwise Idealize.SL.Sem

/-- The reference ends with its arguments as they were. -/
theorem frame_reference : Cert.quiescent_KvReferenceIdeal := fun m g _ =>
  (θ_run (Cert.KvReferenceIdeal.defs (F := Ideal)) _ _).mono
    (fun r h => ⟨fun c => (h c).2, sem_eq_zero_of_no_sems (by decide) r.2⟩) (Cert.KvReferenceIdeal.Value.run (F := Ideal) m g)

/-- The kernel and the reference leave the same array. -/
theorem algebraic : Cert.algebraic_KvIdeal_KvReferenceIdeal := by
  pair_intro
  · run_from Cert.KvIdeal.Gen.run_main m g
  · run_from Cert.KvReferenceIdeal.Value.run m' g'
    refine Eq.trans ?_ (final m c).symm
    funext y
    obtain ⟨i, j, rfl⟩ : ∃ i j, y = ix2 i j := ⟨y 0, y 1, (ix2_eta y).symm⟩
    pointwise
    rfl

end Cert.Proof.Kv
-- ==== Proof.Q.Block.lean ====
/- One grid point of the stick-breaking queries' projection: the loop that fills the scratch and the product. -/
module

public import proofs.«01_k».proof.Proof.Gen.QIdeal.Value
public import proofs.«01_k».proof.Proof.Norm.Rows
public import Idealize.ShloMosaic.Lib.VecWindow

@[expose] public section

set_option maxRecDepth 16384

namespace Cert.Proof.Q

open Cert.QIdeal Cert.QIdeal.Gen
open Idealize.ShloMosaic Idealize.ShloMosaic.TcCoe Idealize.ShloMosaic.Pointwise Idealize.SL.Sem

/-- What a trip stores: its rows divided by their root mean squares. -/
theorem store_apply (g : Vec Ideal S1x2048 .f32) (x : Vec Ideal S16x2048 .f32) (i : Fin 16) (k : Fin 2048) :
    k0_pay1 (F := Ideal) g x (ix2 i k) = Norm.normed (fun j => x (ix2 i j)) (g (ix2 0 k)) k := by
  pointwise [k0_pay1]; rfl

/-- What a point multiplies its product by: the columns of the first two tiles are queries. -/
noncomputable def factor (a : grid0.Coords) : EReal :=
  Scalar.select (Scalar.cmpi .slt (BitVec.ofNat 32 (a 1).val) 2#32) (Ideal.ofBits .f32 0x3DB504F3#32) 1

/-- What a point writes: the scratch's rows against the block's columns, scaled. -/
theorem product_apply (a : grid0.Coords) (s : Vec Ideal S688x2048 .bf16) (w : Vec Ideal S2048x1024 .bf16) (i : Fin 688) (j : Fin 1024) :
    k0_pay2 (F := Ideal) a s w (ix2 i j) = (∑ k : Fin 2048, s (ix2 i k) * w (ix2 k j)) * factor a := by
  pointwise [k0_pay2]
  rfl

section
variable (𝒱 : Variants) (c : Dev nD) (bd : Option 𝒱.V) (i : grid0.Coords) (arg2 : Memref sig .tc .vmem S688x2048 .f32)
  (harg2 : arg2.IsWhole) (arg3 : Memref sig .tc .vmem S1x2048 .f32) (harg3 : arg3.IsWhole) (arg4 : Memref sig .tc .vmem S2048x1024 .bf16)
  (harg4 : arg4.IsWhole) (arg5 : Memref sig .tc .vmem S688x1024 .bf16) (harg5 : arg5.IsWhole) (arg6 : Memref sig .tc .vmem S688x2048 .bf16)
  (harg6 : arg6.IsWhole) (h1 : k0_cond1 i = 1#1) (g : Vec Ideal S1x2048 .f32) (x : Vec Ideal S688x2048 .f32)

/-- A trip writes one piece. -/
theorem trip (X : BufTy.Contents (Elt Ideal) arg2.view.ty) (k : Fin k0_t1_loop.trips) :
    tripL_k0_t1 (F := Ideal) 𝒱 c bd i arg2 harg2 arg3 harg3 arg4 harg4 arg5 harg5 arg6 harg6 h1 g X k
      = [⟨Rect.unit (s := S688x2048) (k0_off1 k) S16x2048.size (k0_off1_inb i k h1), k0_pay1 g (arg2.view.readAt (Elt Ideal)
          (Rect.unit (s := S688x2048) (k0_off1 k) S16x2048.size (k0_off1_inb i k h1)).toLoadRect X)⟩] := by
  unfold tripL_k0_t1 trip_k0_t1; rfl

/-- After the loop the scratch holds every row divided by its root mean square. -/
theorem scratch (y : S688x2048.Idx) :
    View.canon (pb_k0_t1 (F := Ideal) 𝒱 c bd i arg2 harg2 arg3 harg3 arg4 harg4 arg5 harg5 arg6 harg6 h1 g (harg2.unread x) 43) y
      = Norm.normed (fun j => x (ix2 (y 0) j)) (g (ix2 0 (y 1))) (y 1) :=
  Norm.canon_normed (T := k0_t1_loop.trips) x g (k0_pay1 (F := Ideal) g) (store_apply g) k0_off1 (fun k => k0_off1_inb i k h1) _ _ rfl
    (pb_k0_t1_succ (F := Ideal) 𝒱 c bd i arg2 harg2 arg3 harg3 arg4 harg4 arg5 harg5 arg6 harg6 h1 g (harg2.unread x))
    (fun k => by rw [trip, View.readAt_eq_ld, harg2.read_unread]) y
    (View.cover_of_tiledL (pb_k0_t1 (F := Ideal) 𝒱 c bd i arg2 harg2 arg3 harg3 arg4 harg4 arg5 harg5 arg6 harg6 h1 g (harg2.unread x) 43)
      S16x2048.size (by sl_kernel_rfl) y)
end

/-- The scratch a point that fills it leaves. -/
theorem filled (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : cond0_0 i) (x : Vec Ideal S688x2048 .f32) (g : Vec Ideal S1x2048 .f32) (w : Vec Ideal S2048x1024 .bf16) (y : S688x2048.Idx) :
    sout0_A_0 c i arg2 harg2 arg3 harg3 arg4 harg4 arg5 harg5 arg6 harg6 h x g w y
      = Norm.normed (fun j => x (ix2 (y 0) j)) (g (ix2 0 (y 1))) (y 1) := by
  frame_out; exact scratch ..

/-- What such a point writes: its scratch times its block of the matrix, scaled. -/
theorem out_filled (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : cond0_0 i) (x : Vec Ideal S688x2048 .f32) (g : Vec Ideal S1x2048 .f32) (w : Vec Ideal S2048x1024 .bf16) :
    out0_A_3 c i arg2 harg2 arg3 harg3 arg4 harg4 arg5 harg5 arg6 harg6 h x g w
      = k0_pay2 (F := Ideal) i (sout0_A_0 c i arg2 harg2 arg3 harg3 arg4 harg4 arg5 harg5 arg6 harg6 h x g w) w := by
  frame_out
  refine congrArg (k0_pay2 i · w) ?_
  rw [View.readCov_eq_canon']
  funext z
  exact congrArg _ (Idealize.ShloMosaic.Rect.emb_unit_full _ z)

/-- What any other point writes: the scratch it found times its block of the matrix, scaled. -/
theorem out_held (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x1024 .bf16) (harg4 : arg4.IsWhole)
    (arg5 : Memref sig .tc .vmem S688x1024 .bf16) (harg5 : arg5.IsWhole) (arg6 : Memref sig .tc .vmem S688x2048 .bf16) (harg6 : arg6.IsWhole)
    (h : ¬ cond0_0 i) (x : Vec Ideal S688x2048 .f32) (g : Vec Ideal S1x2048 .f32) (w : Vec Ideal S2048x1024 .bf16)
    (s : Vec Ideal S688x2048 .bf16) :
    out0_B_3 c i arg2 harg2 arg3 harg3 arg4 harg4 arg5 harg5 arg6 harg6 h x g w s = k0_pay2 (F := Ideal) i s w := by
  frame_out

end Cert.Proof.Q
-- ==== Proof.Q.Array.lean ====
/- The stick-breaking queries, from all grid points together. -/
module

public import proofs.«01_k».proof.Proof.Q.Block
public import Idealize.ShloMosaic.Lib.Pipeline.ValueKit
public import Idealize.ShloMosaic.Lib.Pipeline.ValueKit.Held

@[expose] public section

set_option maxRecDepth 16384

namespace Cert.Proof.Q

open Cert.QIdeal Cert.QIdeal.Gen
open Idealize.ShloMosaic Idealize.ShloMosaic.TcCoe Idealize.ShloMosaic.Pointwise Idealize.SL.Sem

variable (m : (ℓ : Loc nD τ sig) → Buf (Elt Ideal) ℓ)

/-- The blocks of the point `t`. -/
theorem block_idx : ∀ t : Fin cfg0.N, win0_0.index t = ![t.val / 2, 0] ∧ win0_1.index t = ![0, 0] ∧ win0_2.index t = ![0, t.val % 2]
    ∧ win0_3.index t = ![t.val / 2, t.val % 2] := (by decide +kernel : ∀ t : Fin grid0.N, _)

theorem coord : ∀ t : Fin cfg0.N, (grid0.coords t 1).val < 2 := (by decide +kernel : ∀ t : Fin grid0.N, _)

/-- Every column is scaled. -/
theorem factor_eq (t : Fin cfg0.N) : factor (grid0.coords t) = Ideal.ofBits .f32 0x3DB504F3#32 := by
  have h := coord t
  have e : Scalar.cmpi .slt (BitVec.ofNat 32 (grid0.coords t 1).val) 2#32 = 1#1 := by
    interval_cases (grid0.coords t 1).val <;> rfl
  rw [factor, e]
  rfl

/-- The rows of a point's block are rows of the array. -/
theorem x_block (c : Dev nD) (t : Fin cfg0.N) (i : Fin 688) :
    (fun j => iblk m c 0 t (ix2 i j)) = Norm.rowOf (m ((c : Thread nD τ).loc main_arg0)) (688 * (t.val / 2) + i.val) := by
  have ht : t.val < 24 := lt_of_lt_of_eq t.isLt N_0
  funext j
  unfold Norm.rowOf
  rw [dif_pos (by omega)]
  blk_ext [iblk, V, block_idx t]

/-- Every point has the whole of the weights of the norm. -/
theorem g_block (c : Dev nD) (t : Fin cfg0.N) (k : Fin 2048) : iblk m c 1 t (ix2 0 k) = m ((c : Thread nD τ).loc main_arg1) (ix1 k) := by
  blk_simp [iblk, block_idx t]
  entry_read
  pointwise
  blk_ext [block_idx t]

/-- The columns of a point's block are columns of the matrix. -/
theorem w_block (c : Dev nD) (t : Fin cfg0.N) (k : Fin 2048) (j : Fin 1024) (n : Fin 2048) (hn : n.val = 1024 * (t.val % 2) + j.val) :
    iblk m c 2 t (ix2 k j) = m ((c : Thread nD τ).loc main_arg2) (ix2 k n) := by
  blk_simp [iblk, block_idx t]
  entry_read
  pointwise
  blk_ext [block_idx t]

/-- The scratch at every point: the rows of the point's block divided by their root mean squares. -/
theorem held (c : Dev nD) (t : Fin cfg0.N) (y : S688x2048.Idx) :
    (outsAt0 m c t.val t.isLt).2 y = Norm.normed (Norm.rowOf (m ((c : Thread nD τ).loc main_arg0)) (688 * (t.val / 2) + (y 0).val))
      (m ((c : Thread nD τ).loc main_arg1) (ix1 (y 1))) (y 1) := by
  rw [Pipeline.eq_of_write_hold_apply (fun n h => (outsAt0 m c n h).2) 2
    (fun t (y : S688x2048.Idx) => Norm.normed (Norm.rowOf (m ((c : Thread nD τ).loc main_arg0)) (688 * (t.val / 2) + (y 0).val))
      (m ((c : Thread nD τ).loc main_arg1) (ix1 (y 1))) (y 1))
    (fun t h y => by
      rw [outsAt0_A m c t h]; exact (filled ..).trans (congrArg₂ (Norm.normed · · (y 1)) (x_block m c t (y 0)) (g_block m c t (y 1))))
    (fun t h y => by rw [outsAt0_B m c t h]; rfl) t y]
  rw [Nat.mul_div_cancel_left _ (by decide)]

/-- Every point writes its scratch times its block of the matrix, scaled. -/
theorem out (c : Dev nD) (t : Fin cfg0.N) :
    (outsAt0 m c t.val t.isLt).1 = k0_pay2 (F := Ideal) (grid0.coords t) (outsAt0 m c t.val t.isLt).2 (iblk m c 2 t) := by
  by_cases h : t.val % 2 = 0
  · rw [outsAt0_A m c t h]; dsimp only; rw [out_filled]
  · rw [outsAt0_B m c t h]; dsimp only; rw [out_held]; rfl

/-- The array the kernel leaves. -/
theorem final (c : Dev nD) : (dats m 0 c).arrAt 3 (cfgs 0).N = fun y => Norm.project (m ((c : Thread nD τ).loc main_arg0))
    (m ((c : Thread nD τ).loc main_arg1)) (m ((c : Thread nD τ).loc main_arg2)) y * Ideal.ofBits .f32 0x3DB504F3#32 := by
  refine (dats m 0 c).arrAt_eq_of_covers 3 _ (by decide +kernel) fun t _ (y : S688x1024.Idx) => ?_
  blk_simp
  rw [after0_3]
  have ht : t.val < 24 := lt_of_lt_of_eq t.isLt N_0
  have p0 : ((win0_3.blk t).view.emb y 0).val = 688 * (t.val / 2) + (y 0).val := by blk_simp [block_idx t]; omega
  have p1 : ((win0_3.blk t).view.emb y 1).val = 1024 * (t.val % 2) + (y 1).val := by blk_simp [block_idx t]; omega
  rw [out m c t]
  refine ((congrArg _ (ix2_eta y).symm).trans (product_apply _ _ _ (y 0) (y 1))).trans ?_
  refine congrArg₂ (· * ·) (Finset.sum_congr rfl fun k _ => congrArg₂ (· * ·) ((held m c t (ix2 (y 0) k)).trans ?_) (w_block m c t k (y 1) ((win0_3.blk t).view.emb y 1) p1)) (factor_eq t)
  rw [show 688 * (t.val / 2) + ((ix2 (y 0) k : S688x2048.Idx) 0).val = _ from p0.symm]
  exact congrArg (Norm.normed · _ _) (Norm.rowOf_val _ _)

end Cert.Proof.Q
-- ==== Proof.Q.Claims.lean ====
/- The claims about the stick-breaking queries' projection. -/
module

public import proofs.«01_k».proof.Defs
public import proofs.«01_k».proof.Proof.Q.Array
public import proofs.«01_k».proof.Proof.Gen.QReferenceIdeal.Run
public import Idealize.ShloMosaic.Adequacy
public import Idealize.ShloMosaic.Init

@[expose] public section

set_option maxRecDepth 16384

namespace Cert.Proof.Q

open Idealize.ShloMosaic Idealize.ShloMosaic.TcCoe Idealize.ShloMosaic.Pointwise Idealize.SL.Sem

/-- The reference ends with its arguments as they were. -/
theorem frame_reference : Cert.quiescent_QReferenceIdeal := fun m g _ =>
  (θ_run (Cert.QReferenceIdeal.defs (F := Ideal)) _ _).mono
    (fun r h => ⟨fun c => (h c).2, sem_eq_zero_of_no_sems (by decide) r.2⟩) (Cert.QReferenceIdeal.Value.run (F := Ideal) m g)

/-- The kernel and the reference leave the same array. -/
theorem algebraic : Cert.algebraic_QIdeal_QReferenceIdeal := by
  pair_intro
  · run_from Cert.QIdeal.Gen.run_main m g
  · run_from Cert.QReferenceIdeal.Value.run m' g'
    refine Eq.trans ?_ (final m c).symm
    funext y
    obtain ⟨i, j, rfl⟩ : ∃ i j, y = ix2 i j := ⟨y 0, y 1, (ix2_eta y).symm⟩
    pointwise
    rfl

end Cert.Proof.Q
-- ==== Proof.Out.Array.lean ====
/- The attention's output projection, from all grid points together. -/
module

public import proofs.«01_k».proof.Proof.Gen.OutIdeal.Value
public import Idealize.ShloMosaic.Lib.Pipeline.ValueKit

@[expose] public section

set_option maxRecDepth 16384

namespace Cert.Proof.Out

open Cert.OutIdeal Cert.OutIdeal.Gen
open Idealize.ShloMosaic Idealize.ShloMosaic.TcCoe Idealize.ShloMosaic.Pointwise Idealize.SL.Sem

variable (m : (ℓ : Loc nD τ sig) → Buf (Elt Ideal) ℓ)

/-- What a point writes: its block of the stream and its heads' rows times its columns of the matrix. -/
theorem sum_apply (h : Vec Ideal S688x1024 .f32) (o : Vec Ideal S688x2048 .bf16) (w : Vec Ideal S2048x1024 .bf16)
    (i : Fin 688) (j : Fin 1024) : k0_pay1 (F := Ideal) h o w (ix2 i j) = h (ix2 i j) + ∑ k : Fin 2048, o (ix2 i k) * w (ix2 k j) := by
  pointwise [k0_pay1]

/-- The blocks of the point `t`. -/
theorem block_idx : ∀ t : Fin cfg0.N, win0_0.index t = ![t.val % 12, 0] ∧ win0_1.index t = ![0, t.val / 12]
    ∧ win0_2.index t = ![t.val % 12, t.val / 12] ∧ win0_3.index t = ![t.val % 12, t.val / 12] :=
  (by decide +kernel : ∀ t : Fin grid0.N, _)

/-- The rows of a point's block of heads are rows of the array. -/
theorem o_block (c : Dev nD) (t : Fin cfg0.N) (i : Fin 688) (k : Fin 2048) (n : Fin 8256) (hn : n.val = 688 * (t.val % 12) + i.val) :
    iblk m c 0 t (ix2 i k) = m ((c : Thread nD τ).loc main_arg0) (ix2 n k) := by
  blk_ext [iblk, V, block_idx t]

/-- The columns of a point's block are columns of the matrix. -/
theorem w_block (c : Dev nD) (t : Fin cfg0.N) (k : Fin 2048) (j : Fin 1024) (n : Fin 2048) (hn : n.val = 1024 * (t.val / 12) + j.val) :
    iblk m c 1 t (ix2 k j) = m ((c : Thread nD τ).loc main_arg1) (ix2 k n) := by
  blk_simp [iblk, block_idx t]
  entry_read
  pointwise
  blk_ext [block_idx t]

/-- A point's block of the stream is where the point writes. -/
theorem h_block (c : Dev nD) (t : Fin cfg0.N) (i : Fin 688) (j : Fin 1024) (n : Fin 8256) (hn : n.val = 688 * (t.val % 12) + i.val)
    (l : Fin 2048) (hl : l.val = 1024 * (t.val / 12) + j.val) :
    iblk m c 2 t (ix2 i j) = m ((c : Thread nD τ).loc main_arg2) (ix2 n l) := by
  blk_ext [iblk, V, block_idx t]

/-- A stream with the product of two matrices added. -/
noncomputable def added (o : Vec Ideal S8256x2048 .bf16) (w : Vec Ideal S2048x2048 .f32) (h : Vec Ideal S8256x2048 .f32)
    (y : S8256x2048.Idx) : EReal := h (ix2 (y 0) (y 1)) + ∑ k : Fin 2048, o (ix2 (y 0) k) * w (ix2 k (y 1))

/-- The array the kernel leaves. -/
theorem final (c : Dev nD) : (dats m 0 c).arrAt 3 (cfgs 0).N = added (m ((c : Thread nD τ).loc main_arg0))
    (m ((c : Thread nD τ).loc main_arg1)) (m ((c : Thread nD τ).loc main_arg2)) := by
  refine (dats m 0 c).arrAt_eq_of_covers 3 _ (by decide +kernel) fun t _ (y : S688x1024.Idx) => ?_
  have ht : t.val < 24 := lt_of_lt_of_eq t.isLt N_0
  blk_simp
  rw [after0_3]
  have p0 : ((win0_3.blk t).view.emb y 0).val = 688 * (t.val % 12) + (y 0).val := by blk_simp [block_idx t]; omega
  have p1 : ((win0_3.blk t).view.emb y 1).val = 1024 * (t.val / 12) + (y 1).val := by blk_simp [block_idx t]; omega
  frame_out
  refine ((congrArg _ (ix2_eta y).symm).trans (sum_apply _ _ _ (y 0) (y 1))).trans ?_
  exact congrArg₂ (fun a b : EReal => a + b) (h_block m c t (y 0) (y 1) _ p0 _ p1)
    (Finset.sum_congr rfl fun k _ => congrArg₂ (fun a b : EReal => a * b) (o_block m c t (y 0) k _ p0) (w_block m c t k (y 1) _ p1))

end Cert.Proof.Out
-- ==== Proof.Out.Claims.lean ====
/- The claims about the output projection. -/
module

public import proofs.«01_k».proof.Defs
public import proofs.«01_k».proof.Proof.Out.Array
public import proofs.«01_k».proof.Proof.Gen.OutReferenceIdeal.Run
public import Idealize.ShloMosaic.Adequacy
public import Idealize.ShloMosaic.Init

@[expose] public section

set_option maxRecDepth 16384

namespace Cert.Proof.Out

open Idealize.ShloMosaic Idealize.ShloMosaic.TcCoe Idealize.ShloMosaic.Pointwise Idealize.SL.Sem

/-- The reference ends with its arguments as they were. -/
theorem frame_reference : Cert.quiescent_OutReferenceIdeal := fun m g _ =>
  (θ_run (Cert.OutReferenceIdeal.defs (F := Ideal)) _ _).mono
    (fun r h => ⟨fun c => (h c).2, sem_eq_zero_of_no_sems (by decide) r.2⟩) (Cert.OutReferenceIdeal.Value.run (F := Ideal) m g)

/-- The kernel and the reference leave the same array. -/
theorem algebraic : Cert.algebraic_OutIdeal_OutReferenceIdeal := by
  pair_intro
  · run_from Cert.OutIdeal.Gen.run_main m g
  · run_from Cert.OutReferenceIdeal.Value.run m' g'
    refine Eq.trans ?_ (final m c).symm
    funext y
    obtain ⟨i, j, rfl⟩ : ∃ i j, y = ix2 i j := ⟨y 0, y 1, (ix2_eta y).symm⟩
    pointwise
    rfl

end Cert.Proof.Out
-- ==== Proof.Fox.Math.lean ====
/- The softmax of one query row, over the extended reals, met one block of keys after another. What is carried is the
   largest score so far and two sums weighted by `exp (score - largest)`; this module states them for the keys before
   `a`, shows that one more block extends them, and that their quotient is the softmax. -/
module

public import proofs.«01_k».proof.Proof.Sb.Math

@[expose] public section

namespace Cert.Proof.Fox

open Idealize.ShloMosaic Cert.Proof.Sb

/-- The largest score among the keys before `a`. -/
noncomputable def top (z : ℕ → EReal) (a : ℕ) : EReal := (Finset.range a).sup z

/-- The sum of `f` over the keys before `a`, weighted by `exp (score - largest)`. -/
noncomputable def soft (z f : ℕ → EReal) (a : ℕ) : EReal := ∑ s ∈ Finset.range a, Ideal.exp (z s - top z a) * f s

/-- The softmax of the scores before `a`, over the values `f`. -/
noncomputable def softmax (z f : ℕ → EReal) (a : ℕ) : EReal := Ideal.div (soft z f a) (soft z (fun _ => 1) a)

/-- The weights of the softmax: real and not negative. -/
theorem exp_cases (x : EReal) (h : x ≠ ⊤) : ∃ r : ℝ, 0 ≤ r ∧ Ideal.exp x = r := by
  induction x with
  | bot => exact ⟨0, le_rfl, rfl⟩
  | top => exact absurd rfl h
  | coe r => exact ⟨Real.exp r, (Real.exp_pos r).le, rfl⟩

theorem sub_ne_top {x y : EReal} (hx : x ≠ ⊤) (hy : x ≤ y) : x - y ≠ ⊤ := by
  induction x with
  | bot => rw [EReal.bot_sub]; exact bot_ne_top
  | top => exact absurd rfl hx
  | coe r =>
    induction y with
    | bot => exact absurd hy (not_le.2 (EReal.bot_lt_coe r))
    | top => simp
    | coe s => rw [← EReal.coe_sub]; exact EReal.coe_ne_top _

/-- A larger reference point is reached by one more factor. -/
theorem exp_mul_exp {s m n : EReal} (h₁ : s ≤ m) (h₂ : m ≤ n) (hn : n ≠ ⊤) :
    Ideal.exp (m - n) * Ideal.exp (s - m) = Ideal.exp (s - n) := by
  induction s with
  | bot => rw [EReal.bot_sub, EReal.bot_sub]; exact mul_zero _
  | top => exact absurd (top_le_iff.1 (h₁.trans h₂)) hn
  | coe s =>
    induction m with
    | bot => exact absurd h₁ (not_le.2 (EReal.bot_lt_coe s))
    | top => exact absurd (top_le_iff.1 h₂) hn
    | coe m =>
      induction n with
      | bot => exact absurd h₂ (not_le.2 (EReal.bot_lt_coe m))
      | top => exact absurd rfl hn
      | coe n =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2; ring

/-- A real factor that is not negative goes into a sum. -/
theorem real_mul_sum {ι : Type*} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

variable (z f : ℕ → EReal)

theorem top_zero : top z 0 = ⊥ := rfl

theorem soft_zero : soft z f 0 = 0 := rfl

theorem le_top {s a : ℕ} (h : s < a) : z s ≤ top z a := Finset.le_sup (Finset.mem_range.2 h)

theorem top_mono {a b : ℕ} (h : a ≤ b) : top z a ≤ top z b := Finset.sup_mono (Finset.range_mono h)

theorem top_ne_top (hz : ∀ s, z s ≠ ⊤) (a : ℕ) : top z a ≠ ⊤ :=
  ((Finset.sup_lt_iff bot_lt_top).2 fun s _ => lt_top_iff_ne_top.2 (hz s)).ne

/-- One more block: the largest score. -/
theorem top_step (n a : ℕ) : max (top z a) (Finset.univ.sup fun x : Fin n => z (a + x)) = top z (a + n) := by
  apply le_antisymm
  · refine max_le (top_mono z (Nat.le_add_right a n)) (Finset.sup_le fun x _ => le_top z (by omega))
  · refine Finset.sup_le fun s hs => ?_
    have hs := Finset.mem_range.1 hs
    by_cases h : s < a
    · exact (le_top z h).trans (le_max_left _ _)
    · refine le_trans ?_ (le_max_right _ _)
      have e := Finset.le_sup (f := fun x : Fin n => z (a + x)) (Finset.mem_univ (⟨s - a, by omega⟩ : Fin n))
      simpa only [show a + (s - a) = s by omega] using e

/-- One more block: the weighted sum. -/
theorem soft_step (hz : ∀ s, z s ≠ ⊤) (n a : ℕ) :
    Ideal.exp (top z a - top z (a + n)) * soft z f a + ∑ x : Fin n, Ideal.exp (z (a + x) - top z (a + n)) * f (a + x) = soft z f (a + n) := by
  obtain ⟨r, hr, e⟩ := exp_cases (top z a - top z (a + n)) (sub_ne_top (top_ne_top z hz a) (top_mono z (Nat.le_add_right a n)))
  rw [soft, soft, e, real_mul_sum r hr, Finset.sum_range_add, Fin.sum_univ_eq_sum_range (fun x => Ideal.exp (z (a + x) - top z (a + n)) * f (a + x)) n]
  congr 1
  refine Finset.sum_congr rfl fun s hs => ?_
  rw [← mul_assoc, ← e, exp_mul_exp (le_top z (Finset.mem_range.1 hs)) (top_mono z (Nat.le_add_right a n)) (top_ne_top z hz _)]

/-- Keys whose score is `-∞` change nothing. -/
theorem top_masked {a b : ℕ} (h : a ≤ b) (hz : ∀ s, a ≤ s → z s = ⊥) : top z b = top z a := by
  refine le_antisymm (Finset.sup_le fun s _ => ?_) (top_mono z h)
  by_cases hs : s < a
  · exact le_top z hs
  · rw [hz s (by omega)]; exact bot_le

theorem soft_masked {a b : ℕ} (h : a ≤ b) (hz : ∀ s, a ≤ s → z s = ⊥) : soft z f b = soft z f a := by
  obtain ⟨n, rfl⟩ := Nat.exists_eq_add_of_le h
  rw [soft, soft, Finset.sum_range_add, top_masked z h hz, Finset.sum_eq_zero (s := Finset.range n), add_zero]
  intro s _
  rw [hz _ (Nat.le_add_right a s), EReal.bot_sub]
  exact zero_mul _

theorem softmax_masked {a b : ℕ} (h : a ≤ b) (hz : ∀ s, a ≤ s → z s = ⊥) : softmax z f b = softmax z f a := by
  rw [softmax, softmax, soft_masked z _ h hz, soft_masked z _ h hz]

/-- The sum of the weights is a positive number as soon as one score is finite. -/
theorem soft_one (hz : ∀ s, z s ≠ ⊤) {t a : ℕ} (ht : t < a) (hr : IsReal (z t)) : ∃ r : ℝ, 0 < r ∧ soft z (fun _ => 1) a = r := by
  have e : ∀ s, s < a → ∃ r : ℝ, 0 ≤ r ∧ Ideal.exp (z s - top z a) = r := fun s hs => exp_cases _ (sub_ne_top (hz s) (le_top z hs))
  have all : ∀ S : Finset ℕ, (∀ s ∈ S, s < a) → ∃ r : ℝ, 0 ≤ r ∧ ∑ s ∈ S, Ideal.exp (z s - top z a) * 1 = r := by
    intro S
    induction S using Finset.induction_on with
    | empty => exact fun _ => ⟨0, le_rfl, rfl⟩
    | insert s S hs ih =>
      intro h
      obtain ⟨r, hr, e₁⟩ := ih fun u hu => h u (Finset.mem_insert_of_mem hu)
      obtain ⟨q, hq, e₂⟩ := e s (h s (Finset.mem_insert_self s S))
      exact ⟨q + r, add_nonneg hq hr, by rw [Finset.sum_insert hs, e₁, e₂, mul_one, EReal.coe_add]⟩
  obtain ⟨r, hr', e₁⟩ := all ((Finset.range a).erase t) fun s hs => Finset.mem_range.1 (Finset.mem_of_mem_erase hs)
  have pos : ∃ q : ℝ, 0 < q ∧ Ideal.exp (z t - top z a) = q := by
    obtain ⟨x, hx⟩ := hr
    have l := le_top z ht
    have n := top_ne_top z hz a
    rw [hx] at l ⊢
    generalize top z a = m at l n
    induction m with
    | bot => exact absurd l (not_le.2 (EReal.bot_lt_coe x))
    | top => exact absurd rfl n
    | coe m => exact ⟨Real.exp (x - m), Real.exp_pos _, by rw [← EReal.coe_sub]; rfl⟩
  obtain ⟨q, hq, e₂⟩ := pos
  exact ⟨q + r, add_pos_of_pos_of_nonneg hq hr', by
    rw [soft, ← Finset.add_sum_erase _ _ (Finset.mem_range.2 ht), e₁, e₂, mul_one, EReal.coe_add]⟩

/-- The quotient may be taken weight by weight. -/
theorem softmax_eq (hz : ∀ s, z s ≠ ⊤) {t a : ℕ} (ht : t < a) (hr : IsReal (z t)) :
    softmax z f a = ∑ s ∈ Finset.range a, Ideal.div (Ideal.exp (z s - top z a)) (soft z (fun _ => 1) a) * f s := by
  obtain ⟨r, hr, e⟩ := soft_one z hz ht hr
  have h0 : (r : EReal) ≠ 0 := fun h => hr.ne' (EReal.coe_eq_zero.1 h)
  rw [softmax, e]
  unfold Ideal.div
  simp only [if_neg h0]
  rw [← EReal.coe_inv, mul_comm, soft, real_mul_sum _ (inv_nonneg.2 hr.le)]
  refine Finset.sum_congr rfl fun s _ => ?_
  rw [← mul_assoc, mul_comm ((r⁻¹ : ℝ) : EReal)]

end Cert.Proof.Fox
-- ==== Proof.Fox.Block.lean ====
/- What the kernel computes of one block of query rows against one block of keys, element by element: the printed block
   terms take the keys of the block into the running softmax of `Math.lean`. -/
module

public import proofs.«01_k».proof.Proof.Gen.FoxIdeal.Value
public import proofs.«01_k».proof.Proof.Fox.Math
public import Idealize.ShloMosaic.Lib.Pipeline.ValueKit
public import Idealize.ShloMosaic.Lib.WordCmp

@[expose] public section

set_option maxRecDepth 16384

namespace Cert.Proof.Fox

open Cert.FoxIdeal Cert.FoxIdeal.Gen
open Cert.Proof.Sb (IsReal)
open Idealize.ShloMosaic Idealize.ShloMosaic.TcCoe Idealize.ShloMosaic.Pointwise

/-- Row `t` of one head's slab, zero past its end. -/
noncomputable def row (x : Vec Ideal S2064x128 .bf16) (t : ℕ) (d : Fin 128) : EReal := if h : t < 2064 then x (ix2 ⟨t, h⟩ d) else 0

/-- The running sum of the query row at `t`, zero past the end. -/
noncomputable def up (c : Vec Ideal S1x1x2064x1 .f32) (t : ℕ) : EReal := if h : t < 2064 then c (ix4 0 0 ⟨t, h⟩ 0) else 0

/-- The running sum of the key row at `s`, kept in lines of 256 keys. -/
noncomputable def down (w : Vec Ideal S1x1x9x256 .f32) (s : ℕ) : EReal :=
  if h : s < 2304 then w (ix4 0 0 ⟨s / 256, by omega⟩ ⟨s % 256, by omega⟩) else 0

/-- One head's five slabs. -/
structure Head where
  q : Vec Ideal S2064x128 .bf16
  k : Vec Ideal S2064x128 .bf16
  v : Vec Ideal S2064x128 .bf16
  c : Vec Ideal S1x1x2064x1 .f32
  w : Vec Ideal S1x1x9x256 .f32

/-- The score of the query row at `t` and the key row at `s`: their product and the gap of the running sums. -/
noncomputable def Head.score (H : Head) (t s : ℕ) : EReal := (∑ d : Fin 128, row H.q t d * row H.k s d) + (up H.c t - down H.w s)

/-- The score, −∞ where the key comes after the query. -/
noncomputable def Head.seen (H : Head) (t s : ℕ) : EReal := if s ≤ t then H.score t s else ⊥

/-- All the scores are finite. -/
def Head.Finite (H : Head) : Prop := ∀ t s, IsReal (H.score t s)

theorem Head.Finite.seen {H : Head} (hf : H.Finite) (t s : ℕ) : H.seen t s ≠ ⊤ := by
  unfold Head.seen
  split
  · obtain ⟨r, hr⟩ := hf t s
    rw [hr]; exact EReal.coe_ne_top r
  · exact bot_ne_top

/-- The block `b` holds the rows from `o` on. -/
def Rows {n : ℕ} (x : Vec Ideal S2064x128 .bf16) (o : ℕ) (b : (⟨2, ![n, 128]⟩ : Shape).Idx → EReal) : Prop :=
  ∀ (i : Fin n) (d : Fin 128), b (ix2 i d) = row x (o + i) d

/-- The block `b` holds the query rows' running sums from `o` on. -/
def Ups {n : ℕ} (c : Vec Ideal S1x1x2064x1 .f32) (o : ℕ) (b : (⟨4, ![1, 1, n, 1]⟩ : Shape).Idx → EReal) : Prop :=
  ∀ i : Fin n, b (ix4 0 0 i 0) = up c (o + i)

/-- The block `b` holds the key rows' running sums from `a` on. -/
def Downs {n : ℕ} (w : Vec Ideal S1x1x9x256 .f32) (a : ℕ) (b : (⟨4, ![1, 1, 1, n]⟩ : Shape).Idx → EReal) : Prop :=
  ∀ x : Fin n, b (ix4 0 0 0 x) = down w (a + x)

theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb]; by_cases h : a ≤ b <;> simp [h, Scalar.select]

/-- The number the mask stands for. -/
theorem mask : (Named.named κ "mask" (0xF149F2CA#32 : BitVec (FTy.bits .f32)) : Ideal .f32) = (⊥ : EReal) :=
  IdealRules.named_const.ideal_named_scalar κ "mask" (φ := .f32) 0xF149F2CA#32 ⊥ (by simp [κ])

/-- The carried triple when the keys before `a` have been taken by the rows from `o` on. -/
structure Carried {n : ℕ} (H : Head) (o a : ℕ) (m l : (⟨2, ![n, 1]⟩ : Shape).Idx → EReal) (acc : (⟨2, ![n, 128]⟩ : Shape).Idx → EReal) : Prop where
  m : ∀ i : Fin n, m (ix2 i 0) = top (H.seen (o + i)) a
  l : ∀ i : Fin n, l (ix2 i 0) = soft (H.seen (o + i)) (fun _ => 1) a
  acc : ∀ (i : Fin n) (d : Fin 128), acc (ix2 i d) = soft (H.seen (o + i)) (fun s => row H.v s d) a

variable {H : Head} {o a : ℕ} {q k v : Vec Ideal S256x128 .bf16} {c : Vec Ideal S1x1x256x1 .f32} {w : Vec Ideal S1x1x1x256 .f32}
  {m l : FVec Ideal S256x1 .f32} {acc : FVec Ideal S256x128 .f32}

/-- The scores of an earlier block: all its keys come before the rows. -/
theorem score_apply (hq : Rows H.q o q) (hc : Ups H.c o c) (hk : Rows H.k a k) (hw : Downs H.w a w) (ha : a + 256 ≤ o) (i x : Fin 256) :
    k0_pay24 (F := Ideal) q c k w (ix2 i x) = H.seen (o + i) (a + x) := by
  pointwise [k0_pay24, k0_pay20]
  simp only [hq _ _, hk _ _]
  rw [Head.seen, if_pos (by omega), Head.score, ← hc i, ← hw x]

/-- The scores of the rows' own block. -/
theorem score_own (hq : Rows H.q o q) (hc : Ups H.c o c) (hk : Rows H.k o k) (hw : Downs H.w o w) (i x : Fin 256) :
    k0_pay30 (F := Ideal) q c k w (ix2 i x) = H.seen (o + i) (o + x) := by
  pointwise [k0_pay30, k0_pay20]
  simp only [hq _ _, hk _ _]
  refine (select_le x i (by omega) (by omega) _ _).trans ?_
  rw [Head.seen, Head.score, ← hc i, ← hw x, mask]
  by_cases h : (x : ℕ) ≤ i
  · rw [if_pos h, if_pos (by omega)]
  · rw [if_neg h, if_neg (by omega)]

theorem carried_start : Carried H o 0 (k0_pay21 (F := Ideal)) (k0_pay22 (F := Ideal)) (k0_pay23 (F := Ideal)) := by
  refine ⟨fun i => ?_, fun i => ?_, fun i d => ?_⟩
  · exact mask
  · pointwise [k0_pay22]; rfl
  · pointwise [k0_pay23]; rfl

/-- Taking an earlier block of keys. -/
theorem carried_next (hf : H.Finite) (hq : Rows H.q o q) (hc : Ups H.c o c) (hk : Rows H.k a k) (hv : Rows H.v a v) (hw : Downs H.w a w)
    (ha : a + 256 ≤ o) (h : Carried H o a m l acc) :
    Carried H o (a + 256) (k0_pay25 (F := Ideal) q c m k w) (k0_pay28 (F := Ideal) q c m l k w) (k0_pay29 (F := Ideal) q c m acc k w v) := by
  have e : ∀ i : Fin 256, k0_pay25 (F := Ideal) q c m k w (ix2 i 0) = top (H.seen (o + i)) (a + 256) := fun i => by
    pointwise [k0_pay25]
    simp only [score_apply hq hc hk hw ha]
    rw [h.m i]
    exact top_step _ 256 a
  refine ⟨e, fun i => ?_, fun i d => ?_⟩
  · pointwise [k0_pay28, k0_pay27, k0_pay26]
    simp only [score_apply hq hc hk hw ha, e]
    rw [h.m i, h.l i, ← soft_step _ _ (hf.seen (o + i)) 256 a]
    simp only [mul_one]
  · pointwise [k0_pay29, k0_pay27, k0_pay26]
    simp only [score_apply hq hc hk hw ha, e, hv _ _]
    rw [h.m i, h.acc i d, ← soft_step _ _ (hf.seen (o + i)) 256 a]

/-- Taking the rows' own block, and dividing. -/
theorem carried_own (hf : H.Finite) (hq : Rows H.q o q) (hc : Ups H.c o c) (hk : Rows H.k o k) (hv : Rows H.v o v) (hw : Downs H.w o w)
    (h : Carried H o o m l acc) (i : Fin 256) (d : Fin 128) :
    k0_pay35 (F := Ideal) acc v (k0_pay32 q c m k w) (k0_pay33 q c m k w) (k0_pay34 q c m l k w) (ix2 i d)
      = softmax (H.seen (o + i)) (fun s => row H.v s d) (o + 256) := by
  have e : ∀ i : Fin 256, k0_pay31 (F := Ideal) q c m k w (ix2 i 0) = top (H.seen (o + i)) (o + 256) := fun i => by
    pointwise [k0_pay31]
    simp only [score_own hq hc hk hw]
    rw [h.m i]
    exact top_step _ 256 o
  pointwise [k0_pay35, k0_pay34, k0_pay33, k0_pay32]
  simp only [score_own hq hc hk hw, e, hv _ _]
  rw [h.m i, h.l i, h.acc i d, softmax, ← soft_step _ _ (hf.seen (o + i)) 256 o, ← soft_step _ _ (hf.seen (o + i)) 256 o]
  simp only [mul_one]

/-! ## The last block, of sixteen rows -/

variable {q' k' v' : Vec Ideal S16x128 .bf16} {c' : Vec Ideal S1x1x16x1 .f32} {w' : Vec Ideal S1x1x1x16 .f32}
  {m' l' : FVec Ideal S16x1 .f32} {acc' : FVec Ideal S16x128 .f32}

theorem score_apply' (hq : Rows H.q o q') (hc : Ups H.c o c') (hk : Rows H.k a k) (hw : Downs H.w a w) (ha : a + 256 ≤ o) (i : Fin 16) (x : Fin 256) :
    k0_pay104 (F := Ideal) q' c' k w (ix2 i x) = H.seen (o + i) (a + x) := by
  pointwise [k0_pay104, k0_pay100]
  simp only [hq _ _, hk _ _]
  rw [Head.seen, if_pos (by omega), Head.score, ← hc i, ← hw x]

theorem score_own' (hq : Rows H.q o q') (hc : Ups H.c o c') (hk : Rows H.k o k') (hw : Downs H.w o w') (i x : Fin 16) :
    k0_pay110 (F := Ideal) q' c' k' w' (ix2 i x) = H.seen (o + i) (o + x) := by
  pointwise [k0_pay110, k0_pay100]
  simp only [hq _ _, hk _ _]
  refine (select_le x i (by omega) (by omega) _ _).trans ?_
  rw [Head.seen, Head.score, ← hc i, ← hw x, mask]
  by_cases h : (x : ℕ) ≤ i
  · rw [if_pos h, if_pos (by omega)]
  · rw [if_neg h, if_neg (by omega)]

theorem carried_start' : Carried H o 0 (k0_pay101 (F := Ideal)) (k0_pay102 (F := Ideal)) (k0_pay103 (F := Ideal)) := by
  refine ⟨fun i => ?_, fun i => ?_, fun i d => ?_⟩
  · exact mask
  · pointwise [k0_pay102]; rfl
  · pointwise [k0_pay103]; rfl

theorem carried_next' (hf : H.Finite) (hq : Rows H.q o q') (hc : Ups H.c o c') (hk : Rows H.k a k) (hv : Rows H.v a v) (hw : Downs H.w a w)
    (ha : a + 256 ≤ o) (h : Carried H o a m' l' acc') :
    Carried H o (a + 256) (k0_pay105 (F := Ideal) q' c' m' k w) (k0_pay108 (F := Ideal) q' c' m' l' k w) (k0_pay109 (F := Ideal) q' c' m' acc' k w v) := by
  have e : ∀ i : Fin 16, k0_pay105 (F := Ideal) q' c' m' k w (ix2 i 0) = top (H.seen (o + i)) (a + 256) := fun i => by
    pointwise [k0_pay105]
    simp only [score_apply' hq hc hk hw ha]
    rw [h.m i]
    exact top_step _ 256 a
  refine ⟨e, fun i => ?_, fun i d => ?_⟩
  · pointwise [k0_pay108, k0_pay107, k0_pay106]
    simp only [score_apply' hq hc hk hw ha, e]
    rw [h.m i, h.l i, ← soft_step _ _ (hf.seen (o + i)) 256 a]
    simp only [mul_one]
  · pointwise [k0_pay109, k0_pay107, k0_pay106]
    simp only [score_apply' hq hc hk hw ha, e, hv _ _]
    rw [h.m i, h.acc i d, ← soft_step _ _ (hf.seen (o + i)) 256 a]

theorem carried_own' (hf : H.Finite) (hq : Rows H.q o q') (hc : Ups H.c o c') (hk : Rows H.k o k') (hv : Rows H.v o v') (hw : Downs H.w o w')
    (h : Carried H o o m' l' acc') (i : Fin 16) (d : Fin 128) :
    k0_pay1 (F := Ideal) m' l' acc' (k0_pay110 q' c' k' w') v' (k0_pay111 q' c' k' w') (ix2 i d)
      = softmax (H.seen (o + i)) (fun s => row H.v s d) (o + 16) := by
  have e : ∀ i : Fin 16, max (m' (ix2 i 0)) (Finset.univ.sup fun x : Fin 16 => H.seen (o + i) (o + x)) = top (H.seen (o + i)) (o + 16) := fun i => by
    rw [h.m i]
    exact top_step _ 16 o
  have e' : ∀ i : Fin 16, max (m' (ix2 i 0)) (k0_pay111 (F := Ideal) q' c' k' w' (ix1 i)) = top (H.seen (o + i)) (o + 16) := fun i => by
    refine Eq.trans (congrArg _ ?_) (e i)
    pointwise [k0_pay111]
    simp only [score_own' hq hc hk hw]
    rfl
  pointwise [k0_pay1]
  simp only [score_own' hq hc hk hw, e', hv _ _]
  rw [h.m i, h.l i, h.acc i d, softmax, ← soft_step _ _ (hf.seen (o + i)) 16 o, ← soft_step _ _ (hf.seen (o + i)) 16 o]
  simp only [mul_one]

end Cert.Proof.Fox
-- ==== Proof.Fox.Own.lean ====
/- The rows' own block is cut into printed terms in a different way for every block of rows; here each of them is seen to
   be the same function of the carried triple. -/
module

public import proofs.«01_k».proof.Proof.Fox.Block

@[expose] public section

set_option maxRecDepth 16384

namespace Cert.Proof.Fox

open Cert.FoxIdeal Cert.FoxIdeal.Gen
open Idealize.ShloMosaic Idealize.ShloMosaic.TcCoe

/-- What a carried triple gives once the rows' own keys are taken and the sums are divided. -/
noncomputable def own (q : Vec Ideal S256x128 .bf16) (c : Vec Ideal S1x1x256x1 .f32)
    (s : FVec Ideal S256x1 .f32 × FVec Ideal S256x1 .f32 × FVec Ideal S256x128 .f32)
    (k : Vec Ideal S256x128 .bf16) (w : Vec Ideal S1x1x1x256 .f32) (v : Vec Ideal S256x128 .bf16) : FVec Ideal S256x128 .bf16 :=
  k0_pay35 (F := Ideal) s.2.2 v (k0_pay32 q c s.1 k w) (k0_pay33 q c s.1 k w) (k0_pay34 q c s.1 s.2.1 k w)

/-- The triple nothing has been taken into, and the one after a first block of keys. -/
noncomputable def start : FVec Ideal S256x1 .f32 × FVec Ideal S256x1 .f32 × FVec Ideal S256x128 .f32 := (k0_pay21, k0_pay22, k0_pay23)

noncomputable def first (q : Vec Ideal S256x128 .bf16) (c : Vec Ideal S1x1x256x1 .f32) (k : Vec Ideal S256x128 .bf16) (w : Vec Ideal S1x1x1x256 .f32)
    (v : Vec Ideal S256x128 .bf16) : FVec Ideal S256x1 .f32 × FVec Ideal S256x1 .f32 × FVec Ideal S256x128 .f32 :=
  (k0_pay25 q c k0_pay21 k w, k0_pay28 q c k0_pay21 k0_pay22 k w, k0_pay29 q c k0_pay21 k0_pay23 k w v)

variable (q k v k₀ v₀ : Vec Ideal S256x128 .bf16) (c : Vec Ideal S1x1x256x1 .f32) (w w₀ : Vec Ideal S1x1x1x256 .f32)
  (s : FVec Ideal S256x1 .f32 × FVec Ideal S256x1 .f32 × FVec Ideal S256x128 .f32)

theorem own0 : k0_pay10 (F := Ideal) k0_pay3 v (k0_pay7 q c k w) (k0_pay8 q c k w) (k0_pay9 q c k w) = own q c start k w v := by
  unfold own start k0_pay10 k0_pay9 k0_pay8 k0_pay7 k0_pay6 k0_pay5 k0_pay4 k0_pay3 k0_pay2 k0_pay35 k0_pay34 k0_pay33 k0_pay32 k0_pay31 k0_pay30
    k0_pay23 k0_pay22 k0_pay21 k0_pay20
  rfl

theorem own1 : k0_pay19 (F := Ideal) q (k0_pay11 c) k0_pay13 v₀ (k0_pay15 q c k₀ w₀) (k0_pay16 q c k₀ w₀) (k0_pay17 q c k₀ w₀) (k0_pay18 q c k₀ w₀) k w v
    = own q c (first q c k₀ w₀ v₀) k w v := by
  unfold own first k0_pay19 k0_pay18 k0_pay17 k0_pay16 k0_pay15 k0_pay14 k0_pay13 k0_pay12 k0_pay11 k0_pay35 k0_pay34 k0_pay33 k0_pay32 k0_pay31 k0_pay30
    k0_pay29 k0_pay28 k0_pay27 k0_pay26 k0_pay25 k0_pay24 k0_pay23 k0_pay22 k0_pay21 k0_pay20
  rfl

theorem own3 : k0_pay48 (F := Ideal) s.1 s.2.1 s.2.2 (k0_pay46 q c k w) v (k0_pay47 q c k w) = own q c s k w v := by
  unfold own k0_pay48 k0_pay47 k0_pay46 k0_pay36 k0_pay35 k0_pay34 k0_pay33 k0_pay32 k0_pay31 k0_pay30 k0_pay20
  rfl

theorem own4 : k0_pay61 (F := Ideal) s.1 s.2.1 s.2.2 (k0_pay59 q k) (k0_pay60 c w) v = own q c s k w v := by
  unfold own k0_pay61 k0_pay60 k0_pay59 k0_pay49 k0_pay35 k0_pay34 k0_pay33 k0_pay32 k0_pay31 k0_pay30 k0_pay20
  rfl

theorem own5 : k0_pay72 (F := Ideal) q (k0_pay62 c) s.1 s.2.1 s.2.2 k w v = own q c s k w v := by
  unfold own k0_pay72 k0_pay62 k0_pay35 k0_pay34 k0_pay33 k0_pay32 k0_pay31 k0_pay30 k0_pay20
  rfl

theorem own6 : k0_pay83 (F := Ideal) q (k0_pay73 c) s.1 s.2.1 s.2.2 k w v = own q c s k w v := by
  unfold own k0_pay83 k0_pay73 k0_pay35 k0_pay34 k0_pay33 k0_pay32 k0_pay31 k0_pay30 k0_pay20
  rfl

theorem own7 : k0_pay99 (F := Ideal) s.2.2 v (k0_pay96 q c s.1 k w) (k0_pay97 q c s.1 k w) (k0_pay98 q c s.1 s.2.1 k w) = own q c s k w v := by
  unfold own k0_pay99 k0_pay98 k0_pay97 k0_pay96 k0_pay95 k0_pay94 k0_pay84 k0_pay35 k0_pay34 k0_pay33 k0_pay32 k0_pay31 k0_pay30 k0_pay20
  rfl

end Cert.Proof.Fox
-- ==== Proof.Fox.Slab.lean ====
/- What the kernel leaves in one head's slab of the output: at every row the softmax of its scores over the values of the
   keys up to it. A block of query rows takes the earlier blocks of keys one after another, the first one first, and its
   own keys at the end. -/
module

public import proofs.«01_k».proof.Proof.Fox.Own

@[expose] public section

set_option maxRecDepth 16384

namespace Cert.Proof.Fox

open Cert.FoxIdeal Cert.FoxIdeal.Gen
open Idealize.ShloMosaic Idealize.ShloMosaic.TcCoe Idealize.ShloMosaic.Pointwise

/-- What the row at `t` collects at lane `d`. -/
noncomputable def Head.attend (H : Head) (t : ℕ) (d : Fin 128) : EReal := softmax (H.seen t) (fun s => row H.v s d) 2064

/-- A load of `n` rows from row `o` on. -/
theorem rows_ld {n : ℕ} (x : Vec Ideal S2064x128 .bf16) (o : ℕ) (off : Fin 2 → ℕ) (h₀ : off 0 = o) (h₁ : off 1 = 0)
    (inb : ∀ a, off a + (![n, 128] : Fin 2 → ℕ) a ≤ S2064x128.size a) :
    Rows (n := n) x o (View.ld (Val := Elt Ideal) (e' := .bf16) x (Rect.unit (s := S2064x128) off ![n, 128] inb)) := by
  subst h₀
  intro i d
  have hn : off 0 + n ≤ 2064 := inb 0
  rw [row, dif_pos (by omega)]
  refine View.ld_unit_apply_of _ _ _ _ _ _ fun a => ?_
  match a with
  | ⟨0, _⟩ => rfl
  | ⟨1, _⟩ => exact ((congrArg (· + d.val) h₁).trans (Nat.zero_add _)).symm

/-- A load of `n` running sums of the query rows from `o` on. -/
theorem ups_ld {n : ℕ} (x : Vec Ideal S1x1x2064x1 .f32) (o : ℕ)
    (inb : ∀ a, (![0, 0, o, 0] : Fin 4 → ℕ) a + (![1, 1, n, 1] : Fin 4 → ℕ) a ≤ S1x1x2064x1.size a) :
    Ups (n := n) x o (View.ld (Val := Elt Ideal) (e' := .f32) x (Rect.unit (s := S1x1x2064x1) ![0, 0, o, 0] ![1, 1, n, 1] inb)) := by
  intro i
  have hn : o + n ≤ 2064 := inb 2
  rw [up, dif_pos (by omega)]
  refine View.ld_unit_apply_of _ _ _ _ _ _ fun a => ?_
  match a with
  | ⟨0, _⟩ => rfl
  | ⟨1, _⟩ => rfl
  | ⟨2, _⟩ => rfl
  | ⟨3, _⟩ => rfl

/-- A load of `n` running sums of the key rows from the head of line `j` on. -/
theorem downs_ld {n : ℕ} (x : Vec Ideal S1x1x9x256 .f32) (j : ℕ) (off : Fin 4 → ℕ) (h : off 0 = 0 ∧ off 1 = 0 ∧ off 2 = j ∧ off 3 = 0)
    (inb : ∀ a, off a + (![1, 1, 1, n] : Fin 4 → ℕ) a ≤ S1x1x9x256.size a) :
    Downs (n := n) x (256 * j) (View.ld (Val := Elt Ideal) (e' := .f32) x (Rect.unit (s := S1x1x9x256) off ![1, 1, 1, n] inb)) := by
  obtain ⟨h0, h1, h2, h3⟩ := h
  intro i
  have hj : off 2 + 1 ≤ 9 := inb 2
  have hn : off 3 + n ≤ 256 := inb 3
  rw [down, dif_pos (by omega)]
  refine View.ld_unit_apply_of _ _ _ _ _ _ fun a => ?_
  match a with
  | ⟨0, _⟩ => exact h0.symm
  | ⟨1, _⟩ => exact h1.symm
  | ⟨2, _⟩ => show (256 * j + i.val) / 256 = off 2 + 0; omega
  | ⟨3, _⟩ => show (256 * j + i.val) % 256 = off 3 + i.val; omega

theorem rows_read {n : ℕ} (x : Vec Ideal S2064x128 .bf16) (o : ℕ) (off : Fin 2 → ℕ) (h₀ : off 0 = o) (h₁ : off 1 = 0)
    (b : Memref sig .tc .vmem S2064x128 .bf16) (hb : b.IsWhole) (inb : ∀ a, off a + (![n, 128] : Fin 2 → ℕ) a ≤ S2064x128.size a) :
    Rows (n := n) x o (View.readAt (Elt Ideal) b.view (Rect.unit (s := S2064x128) off ![n, 128] inb) (hb.unread x)) := by
  rw [View.readAt_eq_ld, hb.read_unread]
  exact rows_ld x o off h₀ h₁ inb

theorem downs_read {n : ℕ} (x : Vec Ideal S1x1x9x256 .f32) (j : ℕ) (off : Fin 4 → ℕ) (h : off 0 = 0 ∧ off 1 = 0 ∧ off 2 = j ∧ off 3 = 0)
    (b : Memref sig .tc .vmem S1x1x9x256 .f32) (hb : b.IsWhole) (inb : ∀ a, off a + (![1, 1, 1, n] : Fin 4 → ℕ) a ≤ S1x1x9x256.size a) :
    Downs (n := n) x (256 * j) (View.readAt (Elt Ideal) b.view (Rect.unit (s := S1x1x9x256) off ![1, 1, 1, n] inb) (hb.unread x)) := by
  rw [View.readAt_eq_ld, hb.read_unread]
  exact downs_ld x j off h inb

variable {H : Head}

/-- The rows' own block ends the softmax: all the later keys are masked. -/
theorem attend_own {o : ℕ} {q k v : Vec Ideal S256x128 .bf16} {c : Vec Ideal S1x1x256x1 .f32} {w : Vec Ideal S1x1x1x256 .f32}
    {s : FVec Ideal S256x1 .f32 × FVec Ideal S256x1 .f32 × FVec Ideal S256x128 .f32}
    (hf : H.Finite) (hq : Rows H.q o q) (hc : Ups H.c o c) (hk : Rows H.k o k) (hv : Rows H.v o v) (hw : Downs H.w o w)
    (ho : o + 256 ≤ 2064) (h : Carried H o o s.1 s.2.1 s.2.2) (y : S256x128.Idx) :
    own q c s k w v y = H.attend (o + (y 0).val) (y 1) := by
  have e := carried_own hf hq hc hk hv hw h (y 0) (y 1)
  rw [ix2_eta] at e
  refine e.trans (softmax_masked _ _ ho fun t ht => ?_).symm
  have h0 : (y 0).val < 256 := (y 0).isLt
  exact if_neg (by omega)

/-- The first block of keys, taken into nothing. -/
theorem carried_first {o : ℕ} {q k v : Vec Ideal S256x128 .bf16} {c : Vec Ideal S1x1x256x1 .f32} {w : Vec Ideal S1x1x1x256 .f32}
    (hf : H.Finite) (hq : Rows H.q o q) (hc : Ups H.c o c) (hk : Rows H.k 0 k) (hv : Rows H.v 0 v) (hw : Downs H.w 0 w) (ho : 256 ≤ o) :
    Carried H o 256 (first q c k w v).1 (first q c k w v).2.1 (first q c k w v).2.2 := by
  have h := carried_next hf hq hc hk hv hw (by omega) carried_start
  rw [Nat.zero_add] at h
  exact h

theorem attend_own' {o : ℕ} {q k v : Vec Ideal S16x128 .bf16} {c : Vec Ideal S1x1x16x1 .f32} {w : Vec Ideal S1x1x1x16 .f32}
    {s : FVec Ideal S16x1 .f32 × FVec Ideal S16x1 .f32 × FVec Ideal S16x128 .f32}
    (hf : H.Finite) (hq : Rows H.q o q) (hc : Ups H.c o c) (hk : Rows H.k o k) (hv : Rows H.v o v) (hw : Downs H.w o w)
    (ho : o + 16 ≤ 2064) (h : Carried H o o s.1 s.2.1 s.2.2) (y : S16x128.Idx) :
    k0_pay1 (F := Ideal) s.1 s.2.1 s.2.2 (k0_pay110 q c k w) v (k0_pay111 q c k w) y = H.attend (o + (y 0).val) (y 1) := by
  have e := carried_own' hf hq hc hk hv hw h (y 0) (y 1)
  rw [ix2_eta] at e
  refine e.trans (softmax_masked _ _ ho fun t ht => ?_).symm
  have h0 : (y 0).val < 16 := (y 0).isLt
  exact if_neg (by omega)

/-- A loop over the `J` blocks before row `256 J`, the first one first, ends with all of them taken. -/
theorem carried_loop {J : ℕ} {q : Vec Ideal S256x128 .bf16} {c : Vec Ideal S1x1x256x1 .f32} (hf : H.Finite) (hq : Rows H.q (256 * J) q) (hc : Ups H.c (256 * J) c)
    (arg3 : Memref sig .tc .vmem S2064x128 .bf16) (harg3 : arg3.IsWhole) (arg4 : Memref sig .tc .vmem S2064x128 .bf16) (harg4 : arg4.IsWhole)
    (arg6 : Memref sig .tc .vmem S1x1x9x256 .f32) (harg6 : arg6.IsWhole)
    (st : ℕ → FVec Ideal S256x1 .f32 × FVec Ideal S256x1 .f32 × FVec Ideal S256x128 .f32) (h0 : Carried H (256 * J) 0 (st 0).1 (st 0).2.1 (st 0).2.2)
    (off : Fin J → Fin 2 → ℕ) (inb : ∀ n a, off n a + (![256, 128] : Fin 2 → ℕ) a ≤ S2064x128.size a)
    (off' : Fin J → Fin 4 → ℕ) (inb' : ∀ n a, off' n a + (![1, 1, 1, 256] : Fin 4 → ℕ) a ≤ S1x1x9x256.size a)
    (h₀ : ∀ n, (off n 0 = 256 * n.val ∧ off n 1 = 0) ∧ off' n 0 = 0 ∧ off' n 1 = 0 ∧ off' n 2 = n.val ∧ off' n 3 = 0)
    (hs : ∀ n : Fin J, st (n.val + 1)
      = (k0_pay25 (F := Ideal) q c (st n).1 (View.readAt (Elt Ideal) arg3.view (Rect.unit (s := S2064x128) (off n) ![256, 128] (inb n)) (harg3.unread H.k))
          (View.readAt (Elt Ideal) arg6.view (Rect.unit (s := S1x1x9x256) (off' n) ![1, 1, 1, 256] (inb' n)) (harg6.unread H.w)),
        k0_pay28 (F := Ideal) q c (st n).1 (st n).2.1 (View.readAt (Elt Ideal) arg3.view (Rect.unit (s := S2064x128) (off n) ![256, 128] (inb n)) (harg3.unread H.k))
          (View.readAt (Elt Ideal) arg6.view (Rect.unit (s := S1x1x9x256) (off' n) ![1, 1, 1, 256] (inb' n)) (harg6.unread H.w)),
        k0_pay29 (F := Ideal) q c (st n).1 (st n).2.2 (View.readAt (Elt Ideal) arg3.view (Rect.unit (s := S2064x128) (off n) ![256, 128] (inb n)) (harg3.unread H.k))
          (View.readAt (Elt Ideal) arg6.view (Rect.unit (s := S1x1x9x256) (off' n) ![1, 1, 1, 256] (inb' n)) (harg6.unread H.w))
          (View.readAt (Elt Ideal) arg4.view (Rect.unit (s := S2064x128) (off n) ![256, 128] (inb n)) (harg4.unread H.v)))) :
    ∀ n, n ≤ J → Carried H (256 * J) (256 * n) (st n).1 (st n).2.1 (st n).2.2
  | 0, _ => h0
  | n + 1, hn => by
    have hk := rows_read H.k _ _ (h₀ ⟨n, hn⟩).1.1 (h₀ ⟨n, hn⟩).1.2 arg3 harg3 (inb ⟨n, hn⟩)
    have hv := rows_read H.v _ _ (h₀ ⟨n, hn⟩).1.1 (h₀ ⟨n, hn⟩).1.2 arg4 harg4 (inb ⟨n, hn⟩)
    have hw := downs_read H.w _ _ (h₀ ⟨n, hn⟩).2 arg6 harg6 (inb' ⟨n, hn⟩)
    have ih := carried_loop hf hq hc arg3 harg3 arg4 harg4 arg6 harg6 st h0 off inb off' inb' h₀ hs n (by omega)
    rw [hs ⟨n, hn⟩]
    exact carried_next hf hq hc hk hv hw (by show 256 * n + 256 ≤ 256 * J; omega) ih

theorem carried_loop' {J : ℕ} {q : Vec Ideal S16x128 .bf16} {c : Vec Ideal S1x1x16x1 .f32} (hf : H.Finite) (hq : Rows H.q (256 * J) q) (hc : Ups H.c (256 * J) c)
    (arg3 : Memref sig .tc .vmem S2064x128 .bf16) (harg3 : arg3.IsWhole) (arg4 : Memref sig .tc .vmem S2064x128 .bf16) (harg4 : arg4.IsWhole)
    (arg6 : Memref sig .tc .vmem S1x1x9x256 .f32) (harg6 : arg6.IsWhole)
    (st : ℕ → FVec Ideal S16x1 .f32 × FVec Ideal S16x1 .f32 × FVec Ideal S16x128 .f32) (h0 : Carried H (256 * J) 0 (st 0).1 (st 0).2.1 (st 0).2.2)
    (off : Fin J → Fin 2 → ℕ) (inb : ∀ n a, off n a + (![256, 128] : Fin 2 → ℕ) a ≤ S2064x128.size a)
    (off' : Fin J → Fin 4 → ℕ) (inb' : ∀ n a, off' n a + (![1, 1, 1, 256] : Fin 4 → ℕ) a ≤ S1x1x9x256.size a)
    (h₀ : ∀ n, (off n 0 = 256 * n.val ∧ off n 1 = 0) ∧ off' n 0 = 0 ∧ off' n 1 = 0 ∧ off' n 2 = n.val ∧ off' n 3 = 0)
    (hs : ∀ n : Fin J, st (n.val + 1)
      = (k0_pay105 (F := Ideal) q c (st n).1 (View.readAt (Elt Ideal) arg3.view (Rect.unit (s := S2064x128) (off n) ![256, 128] (inb n)) (harg3.unread H.k))
          (View.readAt (Elt Ideal) arg6.view (Rect.unit (s := S1x1x9x256) (off' n) ![1, 1, 1, 256] (inb' n)) (harg6.unread H.w)),
        k0_pay108 (F := Ideal) q c (st n).1 (st n).2.1 (View.readAt (Elt Ideal) arg3.view (Rect.unit (s := S2064x128) (off n) ![256, 128] (inb n)) (harg3.unread H.k))
          (View.readAt (Elt Ideal) arg6.view (Rect.unit (s := S1x1x9x256) (off' n) ![1, 1, 1, 256] (inb' n)) (harg6.unread H.w)),
        k0_pay109 (F := Ideal) q c (st n).1 (st n).2.2 (View.readAt (Elt Ideal) arg3.view (Rect.unit (s := S2064x128) (off n) ![256, 128] (inb n)) (harg3.unread H.k))
          (View.readAt (Elt Ideal) arg6.view (Rect.unit (s := S1x1x9x256) (off' n) ![1, 1, 1, 256] (inb' n)) (harg6.unread H.w))
          (View.readAt (Elt Ideal) arg4.view (Rect.unit (s := S2064x128) (off n) ![256, 128] (inb n)) (harg4.unread H.v)))) :
    ∀ n, n ≤ J → Carried H (256 * J) (256 * n) (st n).1 (st n).2.1 (st n).2.2
  | 0, _ => h0
  | n + 1, hn => by
    have hk := rows_read H.k _ _ (h₀ ⟨n, hn⟩).1.1 (h₀ ⟨n, hn⟩).1.2 arg3 harg3 (inb ⟨n, hn⟩)
    have hv := rows_read H.v _ _ (h₀ ⟨n, hn⟩).1.1 (h₀ ⟨n, hn⟩).1.2 arg4 harg4 (inb ⟨n, hn⟩)
    have hw := downs_read H.w _ _ (h₀ ⟨n, hn⟩).2 arg6 harg6 (inb' ⟨n, hn⟩)
    have ih := carried_loop' hf hq hc arg3 harg3 arg4 harg4 arg6 harg6 st h0 off inb off' inb' h₀ hs n (by omega)
    rw [hs ⟨n, hn⟩]
    exact carried_next' hf hq hc hk hv hw (by show 256 * n + 256 ≤ 256 * J; omega) ih

/-- The block at `o` of the slab, once its rows hold what they collect. -/
theorem attend_at {n : ℕ} (H : Head) (o : ℕ)
    (inb : ∀ a, (![o, 0] : Fin 2 → ℕ) a + (![n, 128] : Fin 2 → ℕ) a ≤ S2064x128.size a)
    (w : (⟨2, ![n, 128]⟩ : Shape).Idx → EReal) (hw : ∀ x, w x = H.attend (o + (x 0).val) (x 1))
    (x : (Rect.unit (s := S2064x128) ![o, 0] ![n, 128] inb).shape.Idx) :
    w x = H.attend ((Rect.unit (s := S2064x128) ![o, 0] ![n, 128] inb).emb x 0).val ((Rect.unit (s := S2064x128) ![o, 0] ![n, 128] inb).emb x 1) := by
  have e₀ : ((Rect.unit (s := S2064x128) ![o, 0] ![n, 128] inb).emb x 0).val = o + (x 0).val := Rect.idx_unit_val _ _ _ _ _
  have e₁ : (Rect.unit (s := S2064x128) ![o, 0] ![n, 128] inb).emb x 1 = x 1 := Fin.ext ((Rect.idx_unit_val _ _ _ _ _).trans (Nat.zero_add _))
  rw [e₀, e₁]
  exact hw x

section

variable (c : Dev nD) (i : grid0.Coords) (arg2 : Memref sig .tc .vmem S2064x128 .bf16) (harg2 : arg2.IsWhole)
  (arg3 : Memref sig .tc .vmem S2064x128 .bf16) (harg3 : arg3.IsWhole) (arg4 : Memref sig .tc .vmem S2064x128 .bf16) (harg4 : arg4.IsWhole)
  (arg5 : Memref sig .tc .vmem S1x1x2064x1 .f32) (harg5 : arg5.IsWhole) (arg6 : Memref sig .tc .vmem S1x1x9x256 .f32) (harg6 : arg6.IsWhole)
  (arg7 : Memref sig .tc .vmem S2064x128 .bf16) (harg7 : arg7.IsWhole)

theorem loop1 (hf : H.Finite) {q : Vec Ideal S256x128 .bf16} {u : Vec Ideal S1x1x256x1 .f32} (hq : Rows H.q 512 q) (hc : Ups H.c 512 u) (a) (init : FVec Ideal S256x1 .f32 × FVec Ideal S256x1 .f32 × FVec Ideal S256x128 .f32)
    (h0 : Carried H 512 0 init.1 init.2.1 init.2.2) :
    Carried H 512 512 (st_k0_t1 (F := Ideal) Variants.none c none i arg2 harg2 arg3 harg3 arg4 harg4 arg5 harg5 arg6 harg6 arg7 harg7 a q u
        (harg3.unread H.k) (harg4.unread H.v) (harg6.unread H.w) init 2).1
      (st_k0_t1 (F := Ideal) Variants.none c none i arg2 harg2 arg3 harg3 arg4 harg4 arg5 harg5 arg6 harg6 arg7 harg7 a q u
        (harg3.unread H.k) (harg4.unread H.v) (harg6.unread H.w) init 2).2.1
      (st_k0_t1 (F := Ideal) Variants.none c none i arg2 harg2 arg3 harg3 arg4 harg4 arg5 harg5 arg6 harg6 arg7 harg7 a q u
        (harg3.unread H.k) (harg4.unread H.v) (harg6.unread H.w) init 2).2.2 := by
  refine carried_loop (J := 2) hf hq hc arg3 harg3 arg4 harg4 arg6 harg6 _ h0 k0_off2 k0_off2_inb k0_off3 k0_off3_inb (by decide +kernel) (fun n => ?_) 2 le_rfl
  refine (st_k0_t1_succ Variants.none c none i arg2 harg2 arg3 harg3 arg4 harg4 arg5 harg5 arg6 harg6 arg7 harg7 _ _ _ _ _ _ _ n).trans ?_
  unfold tripR_k0_t1 trip_k0_t1
  rfl

theorem loop2 (hf : H.Finite) {q : Vec Ideal S256x128 .bf16} {u : Vec Ideal S1x1x256x1 .f32} (hq : Rows H.q 768 q) (hc : Ups H.c 768 u) (a b d e f) (init : FVec Ideal S256x1 .f32 × FVec Ideal S256x1 .f32 × FVec Ideal S256x128 .f32)
    (h0 : Carried H 768 0 init.1 init.2.1 init.2.2) :
    Carried H 768 768 (st_k0_t2 (F := Ideal) Variants.none c none i arg2 harg2 arg3 harg3 arg4 harg4 arg5 harg5 arg6 harg6 arg7 harg7 a b d e f q u
        (harg3.unread H.k) (harg4.unread H.v) (harg6.unread H.w) init 3).1
      (st_k0_t2 (F := Ideal) Variants.none c none i arg2 harg2 arg3 harg3 arg4 harg4 arg5 harg5 arg6 harg6 arg7 harg7 a b d e f q u
        (harg3.unread H.k) (harg4.unread H.v) (harg6.unread H.w) init 3).2.1
      (st_k0_t2 (F := Ideal) Variants.none c none i arg2 harg2 arg3 harg3 arg4 harg4 arg5 harg5 arg6 harg6 arg7 harg7 a b d e f q u
        (harg3.unread H.k) (harg4.unread H.v) (harg6.unread H.w) init 3).2.2 := by
  refine carried_loop (J := 3) hf hq hc arg3 harg3 arg4 harg4 arg6 harg6 _ h0 k0_off4 k0_off4_inb k0_off5 k0_off5_inb (by decide +kernel) (fun n => ?_) 3 le_rfl
  refine (st_k0_t2_succ Variants.none c none i arg2 harg2 arg3 harg3 arg4 harg4 arg5 harg5 arg6 harg6 arg7 harg7 _ _ _ _ _ _ _ _ _ _ _ n).trans ?_
  unfold tripR_k0_t2 trip_k0_t2
  rfl

theorem loop3 (hf : H.Finite) {q : Vec Ideal S256x128 .bf16} {u : Vec Ideal S1x1x256x1 .f32} (hq : Rows H.q 1024 q) (hc : Ups H.c 1024 u) (a b d e f g) (init : FVec Ideal S256x1 .f32 × FVec Ideal S256x1 .f32 × FVec Ideal S256x128 .f32)
    (h0 : Carried H 1024 0 init.1 init.2.1 init.2.2) :
    Carried H 1024 1024 (st_k0_t3 (F := Ideal) Variants.none c none i arg2 harg2 arg3 harg3 arg4 harg4 arg5 harg5 arg6 harg6 arg7 harg7 a b d e f g q u
        (harg3.unread H.k) (harg4.unread H.v) (harg6.unread H.w) init 4).1
      (st_k0_t3 (F := Ideal) Variants.none c none i arg2 harg2 arg3 harg3 arg4 harg4 arg5 harg5 arg6 harg6 arg7 harg7 a b d e f g q u
        (harg3.unread H.k) (harg4.unread H.v) (harg6.unread H.w) init 4).2.1
      (st_k0_t3 (F := Ideal) Variants.none c none i arg2 harg2 arg3 harg3 arg4 harg4 arg5 harg5 arg6 harg6 arg7 harg7 a b d e f g q u
        (harg3.unread H.k) (harg4.unread H.v) (harg6.unread H.w) init 4).2.2 := by
  refine carried_loop (J := 4) hf hq hc arg3 harg3 arg4 harg4 arg6 harg6 _ h0 k0_off6 k0_off6_inb k0_off7 k0_off7_inb (by decide +kernel) (fun n => ?_) 4 le_rfl
  refine (st_k0_t3_succ Variants.none c none i arg2 harg2 arg3 harg3 arg4 harg4 arg5 harg5 arg6 harg6 arg7 harg7 _ _ _ _ _ _ _ _ _ _ _ _ n).trans ?_
  unfold tripR_k0_t3 trip_k0_t3
  rfl

theorem loop4 (hf : H.Finite) {q : Vec Ideal S256x128 .bf16} {u : Vec Ideal S1x1x256x1 .f32} (hq : Rows H.q 1280 q) (hc : Ups H.c 1280 u) (a b d e f) (init : FVec Ideal S256x1 .f32 × FVec Ideal S256x1 .f32 × FVec Ideal S256x128 .f32)
    (h0 : Carried H 1280 0 init.1 init.2.1 init.2.2) :
    Carried H 1280 1280 (st_k0_t4 (F := Ideal) Variants.none c none i arg2 harg2 arg3 harg3 arg4 harg4 arg5 harg5 arg6 harg6 arg7 harg7 a b d e f q u
        (harg3.unread H.k) (harg4.unread H.v) (harg6.unread H.w) init 5).1
      (st_k0_t4 (F := Ideal) Variants.none c none i arg2 harg2 arg3 harg3 arg4 harg4 arg5 harg5 arg6 harg6 arg7 harg7 a b d e f q u
        (harg3.unread H.k) (harg4.unread H.v) (harg6.unread H.w) init 5).2.1
      (st_k0_t4 (F := Ideal) Variants.none c none i arg2 harg2 arg3 harg3 arg4 harg4 arg5 harg5 arg6 harg6 arg7 harg7 a b d e f q u
        (harg3.unread H.k) (harg4.unread H.v) (harg6.unread H.w) init 5).2.2 := by
  refine carried_loop (J := 5) hf hq hc arg3 harg3 arg4 harg4 arg6 harg6 _ h0 k0_off8 k0_off8_inb k0_off9 k0_off9_inb (by decide +kernel) (fun n => ?_) 5 le_rfl
  refine (st_k0_t4_succ Variants.none c none i arg2 harg2 arg3 harg3 arg4 harg4 arg5 harg5 arg6 harg6 arg7 harg7 _ _ _ _ _ _ _ _ _ _ _ n).trans ?_
  unfold tripR_k0_t4 trip_k0_t4
  rfl

theorem loop5 (hf : H.Finite) {q : Vec Ideal S256x128 .bf16} {u : Vec Ideal S1x1x256x1 .f32} (hq : Rows H.q 1536 q) (hc : Ups H.c 1536 u) (a) (init : FVec Ideal S256x1 .f32 × FVec Ideal S256x1 .f32 × FVec Ideal S256x128 .f32)
    (h0 : Carried H 1536 0 init.1 init.2.1 init.2.2) :
    Carried H 1536 1536 (st_k0_t5 (F := Ideal) Variants.none c none i arg2 harg2 arg3 harg3 arg4 harg4 arg5 harg5 arg6 harg6 arg7 harg7 q (k0_pay73 u) a
        (harg3.unread H.k) (harg4.unread H.v) (harg6.unread H.w) init 6).1
      (st_k0_t5 (F := Ideal) Variants.none c none i arg2 harg2 arg3 harg3 arg4 harg4 arg5 harg5 arg6 harg6 arg7 harg7 q (k0_pay73 u) a
        (harg3.unread H.k) (harg4.unread H.v) (harg6.unread H.w) init 6).2.1
      (st_k0_t5 (F := Ideal) Variants.none c none i arg2 harg2 arg3 harg3 arg4 harg4 arg5 harg5 arg6 harg6 arg7 harg7 q (k0_pay73 u) a
        (harg3.unread H.k) (harg4.unread H.v) (harg6.unread H.w) init 6).2.2 := by
  refine carried_loop (J := 6) hf hq hc arg3 harg3 arg4 harg4 arg6 harg6 _ h0 k0_off10 k0_off10_inb k0_off11 k0_off11_inb (by decide +kernel) (fun n => ?_) 6 le_rfl
  refine (st_k0_t5_succ Variants.none c none i arg2 harg2 arg3 harg3 arg4 harg4 arg5 harg5 arg6 harg6 arg7 harg7 _ _ _ _ _ _ _ n).trans ?_
  unfold tripR_k0_t5 trip_k0_t5
  rfl

theorem loop6 (hf : H.Finite) {q : Vec Ideal S256x128 .bf16} {u : Vec Ideal S1x1x256x1 .f32} (hq : Rows H.q 1792 q) (hc : Ups H.c 1792 u) (a) (init : FVec Ideal S256x1 .f32 × FVec Ideal S256x1 .f32 × FVec Ideal S256x128 .f32)
    (h0 : Carried H 1792 0 init.1 init.2.1 init.2.2) :
    Carried H 1792 1792 (st_k0_t6 (F := Ideal) Variants.none c none i arg2 harg2 arg3 harg3 arg4 harg4 arg5 harg5 arg6 harg6 arg7 harg7 a q u
        (harg3.unread H.k) (harg4.unread H.v) (harg6.unread H.w) init 7).1
      (st_k0_t6 (F := Ideal) Variants.none c none i arg2 harg2 arg3 harg3 arg4 harg4 arg5 harg5 arg6 harg6 arg7 harg7 a q u
        (harg3.unread H.k) (harg4.unread H.v) (harg6.unread H.w) init 7).2.1
      (st_k0_t6 (F := Ideal) Variants.none c none i arg2 harg2 arg3 harg3 arg4 harg4 arg5 harg5 arg6 harg6 arg7 harg7 a q u
        (harg3.unread H.k) (harg4.unread H.v) (harg6.unread H.w) init 7).2.2 := by
  refine carried_loop (J := 7) hf hq hc arg3 harg3 arg4 harg4 arg6 harg6 _ h0 k0_off12 k0_off12_inb k0_off13 k0_off13_inb (by decide +kernel) (fun n => ?_) 7 le_rfl
  refine (st_k0_t6_succ Variants.none c none i arg2 harg2 arg3 harg3 arg4 harg4 arg5 harg5 arg6 harg6 arg7 harg7 _ _ _ _ _ _ _ n).trans ?_
  unfold tripR_k0_t6 trip_k0_t6
  rfl

theorem loop7 (hf : H.Finite) {q : Vec Ideal S16x128 .bf16} {u : Vec Ideal S1x1x16x1 .f32} (hq : Rows H.q 2048 q) (hc : Ups H.c 2048 u) (a b d e f) (init : FVec Ideal S16x1 .f32 × FVec Ideal S16x1 .f32 × FVec Ideal S16x128 .f32)
    (h0 : Carried H 2048 0 init.1 init.2.1 init.2.2) :
    Carried H 2048 2048 (st_k0_t7 (F := Ideal) Variants.none c none i arg2 harg2 arg3 harg3 arg4 harg4 arg5 harg5 arg6 harg6 arg7 harg7 a b d e f q u
        (harg3.unread H.k) (harg4.unread H.v) (harg6.unread H.w) init 8).1
      (st_k0_t7 (F := Ideal) Variants.none c none i arg2 harg2 arg3 harg3 arg4 harg4 arg5 harg5 arg6 harg6 arg7 harg7 a b d e f q u
        (harg3.unread H.k) (harg4.unread H.v) (harg6.unread H.w) init 8).2.1
      (st_k0_t7 (F := Ideal) Variants.none c none i arg2 harg2 arg3 harg3 arg4 harg4 arg5 harg5 arg6 harg6 arg7 harg7 a b d e f q u
        (harg3.unread H.k) (harg4.unread H.v) (harg6.unread H.w) init 8).2.2 := by
  refine carried_loop' (J := 8) hf hq hc arg3 harg3 arg4 harg4 arg6 harg6 _ h0 k0_off14 k0_off14_inb k0_off15 k0_off15_inb (by decide +kernel) (fun n => ?_) 8 le_rfl
  refine (st_k0_t7_succ Variants.none c none i arg2 harg2 arg3 harg3 arg4 harg4 arg5 harg5 arg6 harg6 arg7 harg7 _ _ _ _ _ _ _ _ _ _ _ n).trans ?_
  unfold tripR_k0_t7 trip_k0_t7
  rfl

theorem out_attend (hf : H.Finite) (y : S2064x128.Idx) :
    out0_A_5 (F := Ideal) c i arg2 harg2 arg3 harg3 arg4 harg4 arg5 harg5 arg6 harg6 arg7 harg7 H.q H.k H.v H.c H.w y = H.attend (y 0).val (y 1) := by
  frame_out
  refine View.canon_apply_of_pieces (Val := Elt Ideal) (e := .bf16) (G := fun y : S2064x128.Idx => H.attend (y 0).val (y 1)) _ (fun p hp => ?_) y (View.cover_of_tiledBy _ ![16, 128] (by sl_kernel_rfl) y)
  simp only [List.mem_cons, List.not_mem_nil, or_false] at hp
  have rq := fun (n o : ℕ) inb => rows_ld (n := n) H.q o ![o, 0] rfl rfl inb
  have rk := fun (n o : ℕ) inb => rows_ld (n := n) H.k o ![o, 0] rfl rfl inb
  have rv := fun (n o : ℕ) inb => rows_ld (n := n) H.v o ![o, 0] rfl rfl inb
  have rc := fun (n o : ℕ) inb => ups_ld (n := n) H.c o inb
  have rw := fun (n j : ℕ) inb => downs_ld (n := n) H.w j ![0, 0, j, 0] ⟨rfl, rfl, rfl, rfl⟩ inb
  rcases hp with rfl | rfl | rfl | rfl | rfl | rfl | rfl | rfl | rfl
  · refine attend_at H 2048 inb_S2064x128_S16x128_2048_0 _ fun x => ?_
    exact attend_own' hf (rq 16 2048 _) (rc 16 2048 _) (rk 16 2048 _) (rv 16 2048 _) (rw 16 8 _) (by decide)
      (loop7 c i arg2 harg2 arg3 harg3 arg4 harg4 arg5 harg5 arg6 harg6 arg7 harg7 hf (rq 16 2048 _) (rc 16 2048 _) _ _ _ _ _ _ carried_start') x
  · refine attend_at H 1792 inb_S2064x128_S256x128_1792_0 _ fun x => ?_
    refine (congrFun (own7 _ _ _ _ _ _) x).trans ?_
    exact attend_own hf (rq 256 1792 _) (rc 256 1792 _) (rk 256 1792 _) (rv 256 1792 _) (rw 256 7 _) (by decide)
      (loop6 c i arg2 harg2 arg3 harg3 arg4 harg4 arg5 harg5 arg6 harg6 arg7 harg7 hf (rq 256 1792 _) (rc 256 1792 _) _ _ carried_start) x
  · refine attend_at H 1536 inb_S2064x128_S256x128_1536_0 _ fun x => ?_
    refine (congrFun (own6 _ _ _ _ _ _) x).trans ?_
    exact attend_own hf (rq 256 1536 _) (rc 256 1536 _) (rk 256 1536 _) (rv 256 1536 _) (rw 256 6 _) (by decide)
      (loop5 c i arg2 harg2 arg3 harg3 arg4 harg4 arg5 harg5 arg6 harg6 arg7 harg7 hf (rq 256 1536 _) (rc 256 1536 _) _ _ carried_start) x
  · refine attend_at H 1280 inb_S2064x128_S256x128_1280_0 _ fun x => ?_
    refine (congrFun (own5 _ _ _ _ _ _) x).trans ?_
    exact attend_own hf (rq 256 1280 _) (rc 256 1280 _) (rk 256 1280 _) (rv 256 1280 _) (rw 256 5 _) (by decide)
      (loop4 c i arg2 harg2 arg3 harg3 arg4 harg4 arg5 harg5 arg6 harg6 arg7 harg7 hf (rq 256 1280 _) (rc 256 1280 _) _ _ _ _ _ _ carried_start) x
  · refine attend_at H 1024 inb_S2064x128_S256x128_1024_0 _ fun x => ?_
    refine (congrFun (own4 _ _ _ _ _ _) x).trans ?_
    exact attend_own hf (rq 256 1024 _) (rc 256 1024 _) (rk 256 1024 _) (rv 256 1024 _) (rw 256 4 _) (by decide)
      (loop3 c i arg2 harg2 arg3 harg3 arg4 harg4 arg5 harg5 arg6 harg6 arg7 harg7 hf (rq 256 1024 _) (rc 256 1024 _) _ _ _ _ _ _ _ carried_start) x
  · refine attend_at H 768 inb_S2064x128_S256x128_768_0 _ fun x => ?_
    refine (congrFun (own3 _ _ _ _ _ _) x).trans ?_
    exact attend_own hf (rq 256 768 _) (rc 256 768 _) (rk 256 768 _) (rv 256 768 _) (rw 256 3 _) (by decide)
      (loop2 c i arg2 harg2 arg3 harg3 arg4 harg4 arg5 harg5 arg6 harg6 arg7 harg7 hf (rq 256 768 _) (rc 256 768 _) _ _ _ _ _ _ carried_start) x
  · refine attend_at H 512 inb_S2064x128_S256x128_512_0 _ fun x => ?_
    exact attend_own hf (rq 256 512 _) (rc 256 512 _) (rk 256 512 _) (rv 256 512 _) (rw 256 2 _) (by decide)
      (loop1 c i arg2 harg2 arg3 harg3 arg4 harg4 arg5 harg5 arg6 harg6 arg7 harg7 hf (rq 256 512 _) (rc 256 512 _) _ _ carried_start) x
  · have hk := rows_ld (n := 256) H.k 0 k0_off1 (by decide +kernel) (by decide +kernel) k0_off1_inb
    have hv := rows_ld (n := 256) H.v 0 k0_off1 (by decide +kernel) (by decide +kernel) k0_off1_inb
    have s := carried_first hf (rq 256 256 inb_S2064x128_S256x128_256_0) (rc 256 256 inb_S1x1x2064x1_S1x1x256x1_0_0_256_0) hk hv
      (rw 256 0 inb_S1x1x9x256_S1x1x1x256_0_0_0_0) le_rfl
    refine attend_at H 256 inb_S2064x128_S256x128_256_0 _ fun x => ?_
    refine (congrFun (own1 _ _ _ _ _ _ _ _) x).trans ?_
    exact attend_own hf (rq 256 256 _) (rc 256 256 _) (rk 256 256 _) (rv 256 256 _) (rw 256 1 inb_S1x1x9x256_S1x1x1x256_0_0_1_0) (by decide) s x
  · refine attend_at H 0 inb_S2064x128_S256x128_0_0 _ fun x => ?_
    refine (congrFun (own0 _ _ _ _ _) x).trans ?_
    exact attend_own hf (rq 256 0 _) (rc 256 0 _) (rk 256 0 _) (rv 256 0 _) (rw 256 0 inb_S1x1x9x256_S1x1x1x256_0_0_0_0) (by decide) carried_start x

end

end Cert.Proof.Fox
-- ==== Proof.Fox.Entry.lean ====
/- The running sums as the launch finds them: as columns for the query rows and, padded, in lines of 256 for the key rows. -/
module

public import proofs.«01_k».proof.Proof.Gen.FoxIdeal.Value
public import Idealize.ShloMosaic.Lib.Pipeline.ValueKit
public import Idealize.ShloMosaic.Lib.KernelVsHost

@[expose] public section

set_option maxRecDepth 16384

namespace Cert.Proof.Fox

open Cert.FoxIdeal Cert.FoxIdeal.Gen
open Idealize.ShloMosaic Idealize.ShloMosaic.TcCoe Idealize.ShloMosaic.Pointwise

variable (m : (ℓ : Loc nD τ sig) → Buf (Elt Ideal) ℓ) (c : Dev nD)

/-- The sums of the query rows. -/
theorem ups_eq : V m c main_v0 = broadcastInDim S4x16x2064x1 ![0, 1, 2] bcast_S4x16x2064_S4x16x2064x1_0_1_2 (m ((c : Thread nD τ).loc main_arg1)) := by
  unfold V
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

/-- The sums of the key rows. -/
theorem downs_eq : V m c main_v2 = shapeCast S4x16x9x256 (pad S4x16x2304 ![0, 0, 0] ![0, 0, 240] ![0, 0, 0] (m ((c : Thread nD τ).loc main_arg1))
    (sitofp (F := Ideal) .f32 (constantI S_ 32 0#32)) pads_S4x16x2064_S4x16x2304_000_000_02400 h_S_) shapeCasts_S4x16x2304_S4x16x9x256 := by
  unfold V
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem ups_apply (b : Fin 4) (h : Fin 16) (t : Fin 2064) : V m c main_v0 (ix4 b h t 0) = m ((c : Thread nD τ).loc main_arg1) (ix3 b h t) := by
  rw [ups_eq]
  pointwise []

theorem downs_apply (b : Fin 4) (h : Fin 16) (r : Fin 9) (s : Fin 256) : V m c main_v2 (ix4 b h r s)
    = if e : 256 * r.val + s.val < 2064 then m ((c : Thread nD τ).loc main_arg1) (ix3 b h ⟨256 * r.val + s.val, e⟩) else (0 : EReal) := by
  rw [downs_eq]
  pointwise []
  have e : 256 * r.val + s.val = r.val * 256 + s.val := by omega
  by_cases hs : r.val * 256 + s.val < 2064
  · rw [dif_pos, dif_pos (by omega)]
    · simp only [e]
    · intro a
      match a with
      | ⟨0, _⟩ => exact ⟨Nat.zero_le _, Nat.mod_one _, show (b.val - 0) / 1 < 4 by omega⟩
      | ⟨1, _⟩ => exact ⟨Nat.zero_le _, Nat.mod_one _, show (h.val - 0) / 1 < 16 by omega⟩
      | ⟨2, _⟩ => exact ⟨Nat.zero_le _, Nat.mod_one _, show (r.val * 256 + s.val - 0) / 1 < 2064 by omega⟩
  · rw [dif_neg, dif_neg (by omega)]
    · show (((0#32 : BitVec 32).toInt : ℝ) : EReal) = 0
      simp
    · intro hin
      have h2 : (r.val * 256 + s.val - 0) / 1 < 2064 := (hin 2).2.2
      omega

end Cert.Proof.Fox
-- ==== Proof.Fox.Array.lean ====
/- The array the launch leaves: every head's slab of the output holds the attention of that head's slabs. -/
module

public import proofs.«01_k».proof.Proof.Fox.Slab
public import proofs.«01_k».proof.Proof.Fox.Entry

@[expose] public section

set_option maxRecDepth 16384

namespace Cert.Proof.Fox

open Cert.FoxIdeal Cert.FoxIdeal.Gen
open Idealize.ShloMosaic Idealize.ShloMosaic.TcCoe Idealize.ShloMosaic.Pointwise

/-- The rows of batch element `b` and the columns of head `h` of an array. -/
noncomputable def slab (x : Vec Ideal S8256x6144 .bf16) (b h : ℕ) : Vec Ideal S2064x128 .bf16 := fun y =>
  if e : 2064 * b + (y 0).val < 8256 ∧ 128 * h + (y 1).val < 6144 then x (ix2 ⟨2064 * b + (y 0).val, e.1⟩ ⟨128 * h + (y 1).val, e.2⟩) else 0

/-- The running sum at row `t` of head `h` of batch element `b`, zero outside the array. -/
noncomputable def runSum (x : Vec Ideal S4x16x2064 .f32) (b h t : ℕ) : EReal :=
  if e : b < 4 ∧ h < 16 ∧ t < 2064 then x (ix3 ⟨b, e.1⟩ ⟨h, e.2.1⟩ ⟨t, e.2.2⟩) else 0

/-- The slabs of head `h` of batch element `b`. -/
noncomputable def head (qkv : Vec Ideal S8256x6144 .bf16) (cum : Vec Ideal S4x16x2064 .f32) (b h : ℕ) : Head where
  q := slab qkv b h
  k := slab qkv b (16 + h)
  v := slab qkv b (32 + h)
  c := fun y => runSum cum b h (y 2).val
  w := fun y => runSum cum b h (256 * (y 2).val + (y 3).val)

/-- The whole result: at row `r` and column `c`, head `c / 128` of batch element `r / 2064` at its row `r % 2064`. -/
noncomputable def attention (qkv : Vec Ideal S8256x6144 .bf16) (cum : Vec Ideal S4x16x2064 .f32) : Vec Ideal S8256x2048 .bf16 := fun y =>
  (head qkv cum ((y 0).val / 2064) ((y 1).val / 128)).attend ((y 0).val % 2064) ⟨(y 1).val % 128, Nat.mod_lt _ (by decide)⟩

/-- No score of any head is infinite. -/
def AllFinite (qkv : Vec Ideal S8256x6144 .bf16) (cum : Vec Ideal S4x16x2064 .f32) : Prop := ∀ b h, h < 16 → (head qkv cum b h).Finite

theorem idx : ∀ t : Fin cfg0.N, win0_0.index t = win0_5.index t ∧ win0_1.index t = ![win0_5.index t 0, 16 + win0_5.index t 1]
    ∧ win0_2.index t = ![win0_5.index t 0, 32 + win0_5.index t 1] ∧ win0_3.index t = ![win0_5.index t 0, win0_5.index t 1, 0, 0]
    ∧ win0_4.index t = ![win0_5.index t 0, win0_5.index t 1, 0, 0] ∧ win0_5.index t 0 < 4 ∧ win0_5.index t 1 < 16 :=
  (by decide +kernel : ∀ t : Fin grid0.N, _)

variable (m : (ℓ : Loc nD τ sig) → Buf (Elt Ideal) ℓ) (c : Dev nD)

/-- The windows hand a point the slabs of its head. -/
theorem block0 (t : Fin cfg0.N) : iblk m c 0 t = slab (m ((c : Thread nD τ).loc main_arg0)) (win0_5.index t 0) (win0_5.index t 1) := by
  funext (y : S2064x128.Idx)
  obtain ⟨h0, h1, h2, h3, h4, h5, h6⟩ := idx t
  have e0 : (y 0).val < 2064 := (y 0).isLt
  have e1 : (y 1).val < 128 := (y 1).isLt
  rw [slab, dif_pos (by omega)]
  blk_simp [iblk]
  blk_ext [V, h0]

theorem block1 (t : Fin cfg0.N) : iblk m c 1 t = slab (m ((c : Thread nD τ).loc main_arg0)) (win0_5.index t 0) (16 + win0_5.index t 1) := by
  funext (y : S2064x128.Idx)
  obtain ⟨h0, h1, h2, h3, h4, h5, h6⟩ := idx t
  have e0 : (y 0).val < 2064 := (y 0).isLt
  have e1 : (y 1).val < 128 := (y 1).isLt
  rw [slab, dif_pos (by omega)]
  blk_simp [iblk]
  blk_ext [V, h1]

theorem block2 (t : Fin cfg0.N) : iblk m c 2 t = slab (m ((c : Thread nD τ).loc main_arg0)) (win0_5.index t 0) (32 + win0_5.index t 1) := by
  funext (y : S2064x128.Idx)
  obtain ⟨h0, h1, h2, h3, h4, h5, h6⟩ := idx t
  have e0 : (y 0).val < 2064 := (y 0).isLt
  have e1 : (y 1).val < 128 := (y 1).isLt
  rw [slab, dif_pos (by omega)]
  blk_simp [iblk]
  blk_ext [V, h2]

/-- The running sums a point has at its query rows. -/
theorem block3 (t : Fin cfg0.N) (y : S1x1x2064x1.Idx) : iblk m c 3 t y
    = runSum (m ((c : Thread nD τ).loc main_arg1)) (win0_5.index t 0) (win0_5.index t 1) (y 2).val := by
  obtain ⟨h0, h1, h2, h3, h4, h5, h6⟩ := idx t
  have e2 : (y 2).val < 2064 := (y 2).isLt
  rw [runSum, dif_pos ⟨h5, h6, e2⟩]
  blk_simp [iblk, h3]
  refine Eq.trans (congrArg _ ?_) (ups_apply m c _ _ _)
  blk_ext [h3]

/-- The running sums a point has at its key rows. -/
theorem block4 (t : Fin cfg0.N) (y : S1x1x9x256.Idx) : iblk m c 4 t y
    = runSum (m ((c : Thread nD τ).loc main_arg1)) (win0_5.index t 0) (win0_5.index t 1) (256 * (y 2).val + (y 3).val) := by
  obtain ⟨h0, h1, h2, h3, h4, h5, h6⟩ := idx t
  have e2 : (y 2).val < 9 := (y 2).isLt
  have e3 : (y 3).val < 256 := (y 3).isLt
  have e := downs_apply m c ⟨win0_5.index t 0, h5⟩ ⟨win0_5.index t 1, h6⟩ ⟨(y 2).val, e2⟩ ⟨(y 3).val, e3⟩
  refine Eq.trans ?_ (e.trans ?_)
  · blk_simp [iblk, h4]
    refine congrArg _ ?_
    blk_ext [h4]
  · rw [runSum]
    by_cases hs : 256 * (y 2).val + (y 3).val < 2064
    · rw [dif_pos hs, dif_pos ⟨h5, h6, hs⟩]
    · rw [dif_neg hs, dif_neg (fun h => hs h.2.2)]

theorem final (hf : AllFinite (m ((c : Thread nD τ).loc main_arg0)) (m ((c : Thread nD τ).loc main_arg1))) :
    (dats m 0 c).arrAt 5 (cfgs 0).N = attention (m ((c : Thread nD τ).loc main_arg0)) (m ((c : Thread nD τ).loc main_arg1)) := by
  refine (dats m 0 c).arrAt_eq_of_covers 5 _ (by decide +kernel) fun t _ (y : S2064x128.Idx) => ?_
  blk_simp
  rw [after0_5]
  have b3 : iblk m c 3 t = _ := funext (block3 m c t)
  have b4 : iblk m c 4 t = _ := funext (block4 m c t)
  have b := out_attend c (grid0.coords t) (ms0_0 t) (hs0_0 t) (ms0_1 t) (hs0_1 t) (ms0_2 t) (hs0_2 t) (ms0_3 t) (hs0_3 t) (ms0_4 t) (hs0_4 t)
    (ms0_5 t) (hs0_5 t) (hf (win0_5.index t 0) (win0_5.index t 1) (idx t).2.2.2.2.2.2) y
  unfold outsAt0
  rw [block0, block1, block2, b3, b4]
  refine b.trans ?_
  obtain ⟨-, -, -, -, -, h3, h4⟩ := idx t
  have e0 : (y 0).val < 2064 := (y 0).isLt
  have e1 : (y 1).val < 128 := (y 1).isLt
  have p0 : ((win0_5.blk t).view.emb y 0).val = 2064 * win0_5.index t 0 + (y 0).val := by blk_simp; omega
  have p1 : ((win0_5.blk t).view.emb y 1).val = 128 * win0_5.index t 1 + (y 1).val := by blk_simp; omega
  unfold attention
  have d0 : (2064 * win0_5.index t 0 + (y 0).val) / 2064 = win0_5.index t 0 := by omega
  have d1 : (128 * win0_5.index t 1 + (y 1).val) / 128 = win0_5.index t 1 := by omega
  have r0 : (2064 * win0_5.index t 0 + (y 0).val) % 2064 = (y 0).val := by omega
  have r1 : (128 * win0_5.index t 1 + (y 1).val) % 128 = (y 1).val := by omega
  simp only [p0, p1, d0, d1, r0, r1]
  rfl

end Cert.Proof.Fox
-- ==== Proof.Fox.Reference.lean ====
/- The reference, element by element: it is the same attention where the scores are finite. -/
module

public import proofs.«01_k».proof.Proof.Gen.FoxReferenceIdeal.Run
public import proofs.«01_k».proof.Proof.Fox.Array

@[expose] public section

set_option maxRecDepth 16384

namespace Cert.Proof.Fox

open Cert.FoxReferenceIdeal Cert.FoxReferenceIdeal.Gen
open Idealize.ShloMosaic Idealize.ShloMosaic.TcCoe Idealize.ShloMosaic.Pointwise

/-- The reference's arrays over batch element, head, query row and key row. -/
abbrev Pairs : Type := FVec Ideal S4x16x2064x2064 .f32

/-- The pairs whose key does not come after the query. -/
abbrev notLater : IVec S4x16x2064x2064 1 :=
  broadcastInDim S4x16x2064x2064 ![2, 3] bcast_S2064x2064_S4x16x2064x2064_2_3 (cmpi .sle
    (broadcastInDim S2064x2064 ![0, 1] bcast_S1x2064_S2064x2064_0_1 (broadcastInDim S1x2064 ![1] bcast_S2064_S1x2064_1 (iotaInDim S2064 32 0)))
    (broadcastInDim S2064x2064 ![0, 1] bcast_S2064x1_S2064x2064_0_1 (broadcastInDim S2064x1 ![0] bcast_S2064_S2064x1_0 (iotaInDim S2064 32 0))))

/-- One number for every query row, at all its keys. -/
noncomputable def spread (x : FVec Ideal S4x16x2064 .f32) : Pairs :=
  broadcastInDim S4x16x2064x2064 ![0, 1, 2, 3] bcast_S4x16x2064x1_S4x16x2064x2064_0_1_2_3 (broadcastInDim S4x16x2064x1 ![0, 1, 2] bcast_S4x16x2064_S4x16x2064x1_0_1_2 x)

noncomputable def scores (qkv : FVec Ideal S8256x6144 .bf16) (cum : FVec Ideal S4x16x2064 .f32) : Pairs :=
  select notLater (subf (addf (Host.dotGeneral dot_S4x2064x16x128_S4x2064x16x128_S4x16x2064x2064_3_3_1_1_02_02 none
      (shapeCast _ (extf .f32 (extractStridedSlice S8256x2048 ![0, 0] qkv slices_S8256x6144_S8256x2048_0_0) bitsLt_bf16_f32) shapeCasts_S8256x2048_S4x2064x16x128)
      (shapeCast _ (extf .f32 (extractStridedSlice S8256x2048 ![0, 2048] qkv slices_S8256x6144_S8256x2048_0_2048) bitsLt_bf16_f32) shapeCasts_S8256x2048_S4x2064x16x128))
      (spread cum))
    (broadcastInDim S4x16x2064x2064 ![0, 1, 2, 3] bcast_S4x16x1x2064_S4x16x2064x2064_0_1_2_3 (broadcastInDim S4x16x1x2064 ![0, 1, 3] bcast_S4x16x2064_S4x16x1x2064_0_1_3 cum)))
    (broadcastInDim S4x16x2064x2064 ![] bcast_S_S4x16x2064x2064 (id (constant S_ .f32 0xFF800000#32)))

noncomputable def tops (z : Pairs) : FVec Ideal S4x16x2064 .f32 :=
  maximumf (broadcastInDim S4x16x2064 ![] bcast_S_S4x16x2064 (constant S_ .f32 0xFF800000#32))
    (Host.reduce FloatOps.maximumf z (constant S_ .f32 0xFF800000#32) reducesTo_S4x16x2064x2064_S4x16x2064_d3 h_S_)

noncomputable def exps (z : Pairs) : Pairs := Host.exp (subf z (spread (tops z)))

noncomputable def weights (z : Pairs) : Pairs :=
  Host.divf (exps z) (spread (Host.reduceAdd (exps z) (constant S_ .f32 0x00000000#32) reducesTo_S4x16x2064x2064_S4x16x2064_d3 h_S_))

noncomputable def gathered (w : Pairs) (qkv : FVec Ideal S8256x6144 .bf16) : FVec Ideal S8256x2048 .bf16 :=
  truncf .bf16 (shapeCast _ (transpose S4x2064x16x128 [0, 3, 1, 2] (Host.dotGeneral dot_S4x2064x16x128_S4x16x2064x2064_S4x16x128x2064_1_3_3_2_02_01 none
    (shapeCast _ (extf .f32 (extractStridedSlice S8256x2048 ![0, 4096] qkv slices_S8256x6144_S8256x2048_0_4096) bitsLt_bf16_f32) shapeCasts_S8256x2048_S4x2064x16x128) w)
    transposes_S4x16x128x2064_S4x2064x16x128_0_3_1_2) shapeCasts_S4x2064x16x128_S8256x2048) bitsLt_bf16_f32

theorem result_eq (m : (ℓ : Loc nD τ sig) → Buf (Elt Ideal) ℓ) (c : Dev nD) : Value.res_out0 m c
    = gathered (weights (scores (m ((c.tc : Thread nD τ).loc main_arg0)) (m ((c.tc : Thread nD τ).loc main_arg1)))) (m ((c.tc : Thread nD τ).loc main_arg0)) := rfl

theorem row_slab (x : Vec Ideal S8256x6144 .bf16) (b h t : ℕ) (d : Fin 128) (ht : t < 2064) (hb : 2064 * b + t < 8256)
    (hd : 128 * h + d.val < 6144) : row (slab x b h) t d = x (ix2 ⟨2064 * b + t, hb⟩ ⟨128 * h + d.val, hd⟩) := by
  rw [row, dif_pos ht, slab, dif_pos ⟨hb, hd⟩]
  rfl

theorem spread_apply (x : FVec Ideal S4x16x2064 .f32) (b : Fin 4) (h : Fin 16) (t s : Fin 2064) : spread x (ix4 b h t s) = x (ix3 b h t) := by
  pointwise [spread]

/-- The sums a head has at its query and its key rows are those of the array. -/
theorem up_head (qkv : Vec Ideal S8256x6144 .bf16) (cum : Vec Ideal S4x16x2064 .f32) (b : Fin 4) (h : Fin 16) (t : Fin 2064) :
    up (head qkv cum b h).c t = cum (ix3 b h t) := by
  rw [up, dif_pos t.isLt, head]
  exact dif_pos ⟨b.isLt, h.isLt, t.isLt⟩

theorem down_head (qkv : Vec Ideal S8256x6144 .bf16) (cum : Vec Ideal S4x16x2064 .f32) (b : Fin 4) (h : Fin 16) (s : Fin 2064) :
    down (head qkv cum b h).w s = cum (ix3 b h s) := by
  have e : 256 * (s.val / 256) + s.val % 256 = s.val := Nat.div_add_mod _ _
  rw [down, dif_pos (by omega)]
  show runSum cum b h (256 * (s.val / 256) + s.val % 256) = _
  rw [e]
  exact dif_pos ⟨b.isLt, h.isLt, s.isLt⟩

theorem add_sub_assoc' (a b c : EReal) : a + b - c = a + (b - c) := by rw [sub_eq_add_neg, sub_eq_add_neg, add_assoc]

theorem scores_apply (qkv : FVec Ideal S8256x6144 .bf16) (cum : FVec Ideal S4x16x2064 .f32) (b : Fin 4) (h : Fin 16) (t s : Fin 2064) :
    scores qkv cum (ix4 b h t s) = (head qkv cum b h).seen t s := by
  pointwise [scores, id, spread]
  refine (select_le s.val t.val (by omega) (by omega) _ _).trans ?_
  unfold Head.seen
  refine if_congr Iff.rfl ?_ (by simp [Ideal.ofBits, Ideal.ieee])
  rw [Head.score, up_head, down_head]
  refine (add_sub_assoc' _ _ _).trans (congrArg (· + _) ?_)
  refine Finset.sum_congr rfl fun d _ => ?_
  rw [head, row_slab qkv b h t d t.isLt (by omega) (by omega), row_slab qkv b (16 + h) s d s.isLt (by omega) (by omega)]
  exact congrArg₂ (· * ·)
    (congrArg qkv (congrArg₂ ix2 (Fin.ext (show b.val * 2064 + t.val = 2064 * b.val + t.val by omega)) (Fin.ext (show h.val * 128 + d.val = 128 * h.val + d.val by omega))))
    (congrArg qkv (congrArg₂ ix2 (Fin.ext (show b.val * 2064 + s.val = 2064 * b.val + s.val by omega)) (Fin.ext (show 2048 + (h.val * 128 + d.val) = 128 * (16 + h.val) + d.val by omega))))

/-- The largest entry along the last axis. -/
theorem reduce_max {n₀ n₁ n₂ n₃ : ℕ} {u : Shape} (z : (⟨4, ![n₀, n₁, n₂, n₃]⟩ : Shape).Idx → EReal) (e : u.Idx → EReal)
    (h : (⟨4, ![n₀, n₁, n₂, n₃]⟩ : Shape).ReducesTo [3] ⟨3, ![n₀, n₁, n₂]⟩) (hu : 0 < u.numel) (i : Fin n₀) (j : Fin n₁) (k : Fin n₂) :
    Host.reduce (FloatOps.maximumf (F := Ideal) (φ := .f32)) z e h hu (ix3 i j k) = Finset.univ.fold max (e (Shape.Idx.first hu)) fun s => z (ix4 i j k s) := by
  rw [Host.reduce_eq_fold]
  exact h.fold_fiber_r4_a3 _ _ _ _

/-- The sum along the last axis. -/
theorem reduce_add {n₀ n₁ n₂ n₃ : ℕ} {u : Shape} (z : FVec Ideal ⟨4, ![n₀, n₁, n₂, n₃]⟩ .f32) (e : FVec Ideal u .f32)
    (h : (⟨4, ![n₀, n₁, n₂, n₃]⟩ : Shape).ReducesTo [3] ⟨3, ![n₀, n₁, n₂]⟩) (hu : 0 < u.numel) (i : Fin n₀) (j : Fin n₁) (k : Fin n₂) :
    Host.reduceAdd z e h hu (ix3 i j k) = e (Shape.Idx.first hu) + ∑ s, z (ix4 i j k s) :=
  Ideal.hostReduceAdd_r4_a3 h _ _ _

/-- The largest of the scores before `n`, as a fold. -/
theorem fold_max (n : ℕ) (f : ℕ → EReal) (g : Fin n → EReal) (hg : ∀ s, g s = f s) : Finset.univ.fold max ⊥ g = top f n := by
  have e := top_step f n 0
  rw [Nat.zero_add, top_zero, max_eq_right bot_le] at e
  rw [← e, funext hg]
  simp only [Nat.zero_add]
  rfl

theorem tops_apply (z : Pairs) (f : ℕ → EReal) (b : Fin 4) (h : Fin 16) (t : Fin 2064) (hz : ∀ u : Fin 2064, z (ix4 b h t u) = f u) :
    tops z (ix3 b h t) = top f 2064 := by
  have bot : (constant (F := Ideal) S_ .f32 0xFF800000#32) (Shape.Idx.first h_S_) = (⊥ : EReal) := by
    show Ideal.ofBits .f32 0xFF800000#32 = ⊥
    simp [Ideal.ofBits, Ideal.ieee]
  unfold tops
  rw [maximumf_apply, reduce_max, bot, fold_max 2064 f _ hz]
  refine (congrArg (max · _) (?_ : _ = (⊥ : EReal))).trans (max_eq_right bot_le)
  exact bot

theorem exps_apply (z : Pairs) (f : ℕ → EReal) (b : Fin 4) (h : Fin 16) (t : Fin 2064) (hz : ∀ u : Fin 2064, z (ix4 b h t u) = f u) (s : Fin 2064) :
    exps z (ix4 b h t s) = Ideal.exp (f s - top f 2064) := by
  show Ideal.exp (z (ix4 b h t s) - spread (tops z) (ix4 b h t s)) = _
  rw [spread_apply, tops_apply z f b h t hz, hz]

/-- What the reference leaves at one pair. -/
theorem weights_apply (z : Pairs) (f : ℕ → EReal) (b : Fin 4) (h : Fin 16) (t : Fin 2064) (hz : ∀ u : Fin 2064, z (ix4 b h t u) = f u) (s : Fin 2064) :
    weights z (ix4 b h t s) = Ideal.div (Ideal.exp (f s - top f 2064)) (soft f (fun _ => 1) 2064) := by
  show Ideal.div (exps z (ix4 b h t s)) (spread _ (ix4 b h t s)) = _
  rw [exps_apply z f b h t hz, spread_apply]
  refine congrArg _ ((reduce_add _ _ _ _ _ _ _).trans ?_)
  rw [show (constant (F := Ideal) S_ .f32 0x00000000#32) (Shape.Idx.first h_S_) = (0 : EReal) from by pointwise [], zero_add]
  simp only [exps_apply z f b h t hz]
  rw [soft, ← Fin.sum_univ_eq_sum_range (fun s => Ideal.exp (f s - top f 2064) * 1)]
  simp only [mul_one]

theorem reference_eq (qkv : FVec Ideal S8256x6144 .bf16) (cum : FVec Ideal S4x16x2064 .f32) (hf : AllFinite qkv cum) :
    gathered (weights (scores qkv cum)) qkv = attention qkv cum := by
  funext y
  obtain ⟨y₀, y₁, rfl⟩ : ∃ i j, y = ix2 i j := ⟨y 0, y 1, (ix2_eta y).symm⟩
  pointwise [gathered]
  have h0 := y₀.isLt
  have h1 := y₁.isLt
  have hh := hf (y₀.val / 2064) (y₁.val / 128) (by omega)
  have w := weights_apply (scores qkv cum) ((head qkv cum (y₀.val / 2064) (y₁.val / 128)).seen (y₀.val % 2064))
    ⟨y₀.val / 2064, by omega⟩ ⟨y₁.val / 128, by omega⟩ ⟨y₀.val % 2064, by omega⟩ (fun u => scores_apply qkv cum _ _ _ u)
  simp only [w]
  show _ = softmax ((head qkv cum (y₀.val / 2064) (y₁.val / 128)).seen (y₀.val % 2064))
    (fun s => row (slab qkv (y₀.val / 2064) (32 + y₁.val / 128)) s ⟨y₁.val % 128, Nat.mod_lt _ (by decide)⟩) 2064
  rw [softmax_eq _ _ (hh.seen _) (t := y₀.val % 2064) (Nat.mod_lt _ (by decide)) (by rw [Head.seen, if_pos le_rfl]; exact hh _ _),
    ← Fin.sum_univ_eq_sum_range (fun s => Ideal.div (Ideal.exp ((head qkv cum (y₀.val / 2064) (y₁.val / 128)).seen (y₀.val % 2064) s - top ((head qkv cum (y₀.val / 2064) (y₁.val / 128)).seen (y₀.val % 2064)) 2064)) (soft ((head qkv cum (y₀.val / 2064) (y₁.val / 128)).seen (y₀.val % 2064)) (fun _ => 1) 2064) * row (slab qkv (y₀.val / 2064) (32 + y₁.val / 128)) s ⟨y₁.val % 128, Nat.mod_lt _ (by decide)⟩)]
  refine Finset.sum_congr rfl fun s _ => ?_
  rw [mul_comm, row_slab qkv _ _ s _ s.isLt (by omega) (by simp only []; omega)]
  congr 2
  congr 1
  · congr 1; omega
  · congr 1; simp only []; omega

end Cert.Proof.Fox
-- ==== Proof.Fox.Pre.lean ====
/- The precondition says that no score is infinite. -/
module

public import proofs.«01_k».proof.Pre_scores_are_finite
public import proofs.«01_k».proof.Proof.Fox.Array
public import Idealize.ShloMosaic.Lib.ReduceAll

@[expose] public section

set_option maxRecDepth 16384

namespace Cert.Proof.Fox

open Cert.Pre_scores_are_finite
open Cert.Proof.Sb (IsReal)
open Idealize.ShloMosaic Idealize.ShloMosaic.TcCoe Idealize.ShloMosaic.Pointwise

instance facts : Facts := ⟨by decide, by decide, by decide, by decide, by decide, by decide, by decide⟩

/-- What the precondition says of one number. -/
theorem isReal_of_below (x : EReal) (h : BitVec.ofBool (decide (max x (-x) < Ideal.ofBits .f32 0x7F800000#32)) = 1#1) : IsReal x := by
  have top : Ideal.ofBits .f32 0x7F800000#32 = ⊤ := by simp [Ideal.ofBits, Ideal.ieee]
  rw [top] at h
  induction x with
  | coe r => exact ⟨r, rfl⟩
  | bot => simp at h
  | top => simp at h

instance : Subsingleton S_.Idx := ⟨fun a b => funext fun i => i.elim0⟩

/-- Real rows and sums make real scores. -/
theorem score_real (H : Head) (t s : ℕ) (hq : ∀ d, IsReal (row H.q t d)) (hk : ∀ d, IsReal (row H.k s d)) (hc : IsReal (up H.c t))
    (hw : IsReal (down H.w s)) : IsReal (H.score t s) := by
  obtain ⟨p, hp⟩ := IsReal.sum Finset.univ _ fun d _ => (hq d).mul (hk d)
  obtain ⟨x, hx⟩ := hc
  obtain ⟨y, hy⟩ := hw
  exact ⟨p + (x - y), by rw [Head.score, hp, hx, hy, ← EReal.coe_sub, ← EReal.coe_add]⟩

theorem runSum_real (x : FVec Ideal S4x16x2064 .f32) (hx : ∀ i, IsReal (x i)) (b h t : ℕ) : IsReal (runSum x b h t) := by
  unfold runSum
  split
  · exact hx _
  · exact IsReal.zero

theorem row_real (x : FVec Ideal S8256x6144 .bf16) (hx : ∀ (r : Fin 8256) (k : Fin 6144), k.val < 4096 → IsReal (x (ix2 r k))) (b h t : ℕ)
    (hh : h < 32) (d : Fin 128) : IsReal (row (slab x b h) t d) := by
  unfold row
  split
  · unfold slab
    split
    · exact hx _ _ (show 128 * h + d.val < 4096 by omega)
    · exact IsReal.zero
  · exact IsReal.zero

theorem allFinite (qkv : FVec Ideal S8256x6144 .bf16) (cum : FVec Ideal S4x16x2064 .f32) (h : fn (F := Ideal) qkv cum = fun _ => 1#1) : AllFinite qkv cum := by
  have h := congrFun h (Shape.Idx.first Facts.h_S_)
  unfold fn at h
  obtain ⟨hx, hc⟩ := IntOp.andi_eq_one.1 h
  have hc : ∀ i, IsReal (cum i) := fun i => by
    have e := Host.reduce_andi_all _ _ _ _ _ hc i
    pointwise [] at e
    exact isReal_of_below _ e
  have hx : ∀ (r : Fin 8256) (k : Fin 6144), k.val < 4096 → IsReal (qkv (ix2 r k)) := fun r k hk => by
    have e := Host.reduce_andi_all _ _ _ _ _ hx (ix2 r ⟨k.val, hk⟩)
    pointwise [] at e
    exact isReal_of_below _ e
  intro b n hn t s
  refine score_real _ t s (row_real qkv hx b n t (by omega)) (row_real qkv hx b (16 + n) s (by omega)) ?_ ?_
  · unfold up
    split
    · exact runSum_real cum hc _ _ _
    · exact IsReal.zero
  · unfold down
    split
    · exact runSum_real cum hc _ _ _
    · exact IsReal.zero

end Cert.Proof.Fox
-- ==== Proof.Fox.Claims.lean ====
/- The claims about the attention with a forget gate. -/
module

public import proofs.«01_k».proof.Defs
public import proofs.«01_k».proof.Proof.Fox.Array
public import proofs.«01_k».proof.Proof.Fox.Reference
public import proofs.«01_k».proof.Proof.Fox.Pre
public import Idealize.ShloMosaic.Adequacy
public import Idealize.ShloMosaic.Init

@[expose] public section

noncomputable section

namespace Cert.Proof.Fox

open Idealize.ShloMosaic Idealize.ShloMosaic.TcCoe Idealize.SL.Sem

/-- The reference ends with its arguments as they were. -/
theorem frame_reference : Cert.quiescent_FoxReferenceIdeal := fun m g _ =>
  (θ_run (Cert.FoxReferenceIdeal.defs (F := Ideal)) _ _).mono
    (fun r h => ⟨fun c => (h c).2, sem_eq_zero_of_no_sems (by decide) r.2⟩) (Cert.FoxReferenceIdeal.Value.run (F := Ideal) m g)

/-- The mask's stand-in is the number below every other. -/
theorem preserves : Cert.preserves_Fox_FoxIdeal :=
  IdealRules.named_const.statement _ _ _ _ _ (by simp [Cert.FoxIdeal.κ])

/-- Where the queries, the keys and the running sums are finite, the kernel and the reference leave the same array. -/
theorem algebraic : Cert.algebraic_FoxIdeal_FoxReferenceIdeal_pre_scores_are_finite := by
  pair_intro
  · run_from Cert.FoxIdeal.Gen.run_main m g
    exact Cert.FoxIdeal.Gen.V_main_arg1 m c
  · run_from Cert.FoxReferenceIdeal.Value.run m' g'
    have hf := allFinite _ _ (hpre c)
    obtain ⟨hq, hkv⟩ := hagree c
    exact (result_eq m' c).trans <| by
      rw [hq, hkv, reference_eq _ _ hf]
      exact (final m c hf).symm

end Cert.Proof.Fox

end
-- ==== Proof.Gate.Block.lean ====
/- One grid point of the forget gates' projection: the loop that fills the scratch and the product. -/
module

public import proofs.«01_k».proof.Proof.Gen.GateIdeal.Value
public import proofs.«01_k».proof.Proof.Norm.Rows
public import Idealize.ShloMosaic.Lib.VecWindow

@[expose] public section

set_option maxRecDepth 16384

namespace Cert.Proof.Gate

open Cert.GateIdeal Cert.GateIdeal.Gen
open Idealize.ShloMosaic Idealize.ShloMosaic.TcCoe Idealize.ShloMosaic.Pointwise Idealize.SL.Sem

/-- What a trip stores: its rows divided by their root mean squares. -/
theorem store_apply (g : Vec Ideal S1x2048 .f32) (x : Vec Ideal S16x2048 .f32) (i : Fin 16) (k : Fin 2048) :
    k0_pay1 (F := Ideal) g x (ix2 i k) = Norm.normed (fun j => x (ix2 i j)) (g (ix2 0 k)) k := by
  pointwise [k0_pay1]; rfl

/-- What a point writes: the scratch's rows against the block's columns. -/
theorem product_apply (s : Vec Ideal S688x2048 .bf16) (w : Vec Ideal S2048x128 .bf16) (i : Fin 688) (j : Fin 128) :
    k0_pay2 (F := Ideal) s w (ix2 i j) = ∑ k : Fin 2048, s (ix2 i k) * w (ix2 k j) := by
  pointwise [k0_pay2]

section
variable (𝒱 : Variants) (c : Dev nD) (bd : Option 𝒱.V) (i : grid0.Coords) (arg2 : Memref sig .tc .vmem S688x2048 .f32)
  (harg2 : arg2.IsWhole) (arg3 : Memref sig .tc .vmem S1x2048 .f32) (harg3 : arg3.IsWhole) (arg4 : Memref sig .tc .vmem S2048x128 .bf16)
  (harg4 : arg4.IsWhole) (arg5 : Memref sig .tc .vmem S688x128 .f32) (harg5 : arg5.IsWhole) (arg6 : Memref sig .tc .vmem S688x2048 .bf16)
  (harg6 : arg6.IsWhole) (h1 : k0_cond1 i = 1#1) (g : Vec Ideal S1x2048 .f32) (x : Vec Ideal S688x2048 .f32)

/-- A trip writes one piece. -/
theorem trip (X : BufTy.Contents (Elt Ideal) arg2.view.ty) (k : Fin k0_t1_loop.trips) :
    tripL_k0_t1 (F := Ideal) 𝒱 c bd i arg2 harg2 arg3 harg3 arg4 harg4 arg5 harg5 arg6 harg6 h1 g X k
      = [⟨Rect.unit (s := S688x2048) (k0_off1 k) S16x2048.size (k0_off1_inb i k h1), k0_pay1 g (arg2.view.readAt (Elt Ideal)
          (Rect.unit (s := S688x2048) (k0_off1 k) S16x2048.size (k0_off1_inb i k h1)).toLoadRect X)⟩] := by
  unfold tripL_k0_t1 trip_k0_t1; rfl

/-- After the loop the scratch holds every row divided by its root mean square. -/
theorem scratch (y : S688x2048.Idx) :
    View.canon (pb_k0_t1 (F := Ideal) 𝒱 c bd i arg2 harg2 arg3 harg3 arg4 harg4 arg5 harg5 arg6 harg6 h1 g (harg2.unread x) 43) y
      = Norm.normed (fun j => x (ix2 (y 0) j)) (g (ix2 0 (y 1))) (y 1) :=
  Norm.canon_normed (T := k0_t1_loop.trips) x g (k0_pay1 (F := Ideal) g) (store_apply g) k0_off1 (fun k => k0_off1_inb i k h1) _ _ rfl
    (pb_k0_t1_succ (F := Ideal) 𝒱 c bd i arg2 harg2 arg3 harg3 arg4 harg4 arg5 harg5 arg6 harg6 h1 g (harg2.unread x))
    (fun k => by rw [trip, View.readAt_eq_ld, harg2.read_unread]) y
    (View.cover_of_tiledL (pb_k0_t1 (F := Ideal) 𝒱 c bd i arg2 harg2 arg3 harg3 arg4 harg4 arg5 harg5 arg6 harg6 h1 g (harg2.unread x) 43)
      S16x2048.size (by sl_kernel_rfl) y)
end

/-- What a point writes, element by element: its rows divided by their root mean squares, times its block of the matrix. -/
theorem out_apply (c : Dev nD) (i : grid0.Coords) (arg2 : Memref sig .tc .vmem S688x2048 .f32) (harg2 : arg2.IsWhole)
    (arg3 : Memref sig .tc .vmem S1x2048 .f32) (harg3 : arg3.IsWhole) (arg4 : Memref sig .tc .vmem S2048x128 .bf16) (harg4 : arg4.IsWhole)
    (arg5 : Memref sig .tc .vmem S688x128 .f32) (harg5 : arg5.IsWhole) (arg6 : Memref sig .tc .vmem S688x2048 .bf16) (harg6 : arg6.IsWhole)
    (h : cond0_0 i) (x : Vec Ideal S688x2048 .f32) (g : Vec Ideal S1x2048 .f32) (w : Vec Ideal S2048x128 .bf16) (a : Fin 688) (b : Fin 128) :
    out0_A_3 c i arg2 harg2 arg3 harg3 arg4 harg4 arg5 harg5 arg6 harg6 h x g w (ix2 a b)
      = ∑ k : Fin 2048, Norm.normed (fun j => x (ix2 a j)) (g (ix2 0 k)) k * w (ix2 k b) := by
  frame_out
  refine (product_apply _ _ a b).trans (Finset.sum_congr rfl fun k _ => congrArg (· * _) ?_)
  rw [View.readCov_eq_canon']
  have e : (Rect.unit (s := S688x2048) ![0, 0] ![688, 2048] inb_S688x2048_S688x2048_0_0).idx (ix2 a k) = ix2 a k :=
    Idealize.ShloMosaic.Rect.emb_unit_full (s := S688x2048) _ (ix2 a k)
  exact (congrArg _ e).trans (scratch ..)

end Cert.Proof.Gate
-- ==== Proof.Gate.Array.lean ====
/- The forget gates' projection, from all grid points together. -/
module

public import proofs.«01_k».proof.Proof.Gate.Block
public import Idealize.ShloMosaic.Lib.Pipeline.ValueKit
public import Idealize.ShloMosaic.Lib.KernelVsHost

@[expose] public section

set_option maxRecDepth 16384

namespace Cert.Proof.Gate

open Cert.GateIdeal Cert.GateIdeal.Gen
open Idealize.ShloMosaic Idealize.ShloMosaic.TcCoe Idealize.ShloMosaic.Pointwise Idealize.SL.Sem

variable (m : (ℓ : Loc nD τ sig) → Buf (Elt Ideal) ℓ)

/-- The blocks of the point `t`. -/
theorem block_idx : ∀ t : Fin cfg0.N, win0_0.index t = ![t.val, 0] ∧ win0_1.index t = ![0, 0] ∧ win0_2.index t = ![0, 0]
    ∧ win0_3.index t = ![t.val, 0] := (by decide +kernel : ∀ t : Fin grid0.N, _)

/-- A matrix of sixteen columns, with columns of zeros after them. -/
noncomputable def padded (w : Vec Ideal S2048x16 .f32) : Vec Ideal S2048x128 .f32 := fun y =>
  if h : (y 1).val < 16 then w (ix2 (y 0) ⟨(y 1).val, h⟩) else (0 : EReal)

theorem padded_of_lt (w : Vec Ideal S2048x16 .f32) (k : Fin 2048) (j : Fin 128) (h : j.val < 16) : padded w (ix2 k j) = w (ix2 k ⟨j.val, h⟩) := dif_pos h

theorem padded_of_not_lt (w : Vec Ideal S2048x16 .f32) (k : Fin 2048) (j : Fin 128) (h : ¬ j.val < 16) : padded w (ix2 k j) = 0 := dif_neg h

/-- The matrix as the launch finds it. -/
theorem w_eq (c : Dev nD) : V m c main_v1 = (truncf .bf16 (pad S2048x128 ![0, 0] ![0, 112] ![0, 0] (m ((c : Thread nD τ).loc main_arg2))
    (sitofp (F := Ideal) .f32 (constantI S_ 32 0#32)) pads_S2048x16_S2048x128_000_01120 h_S_) bitsLt_bf16_f32 : FVec Ideal S2048x128 .bf16) := by
  unfold V
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

/-- The weights of the norm as the launch finds them. -/
theorem g_eq (c : Dev nD) : V m c main_v2 = shapeCast S1x2048 (m ((c : Thread nD τ).loc main_arg1)) shapeCasts_S2048_S1x2048 := by
  unfold V
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

/-- Columns of zeros after an array's own columns. -/
theorem pad_apply' {r n k p : ℕ} (x : (⟨2, ![r, n]⟩ : Shape).Idx → EReal) (h : (⟨2, ![r, n]⟩ : Shape).Pads ![0, 0] ![0, k] ![0, 0] ⟨2, ![r, p]⟩)
    (hu : 0 < (⟨0, ![]⟩ : Shape).numel) (i : Fin r) (j : Fin p) :
    pad (⟨2, ![r, p]⟩ : Shape) ![0, 0] ![0, k] ![0, 0] x (sitofp (F := Ideal) .f32 (constantI ⟨0, ![]⟩ 32 0#32)) h hu (ix2 i j)
      = if e : j.val < n then x (ix2 i ⟨j.val, e⟩) else (0 : EReal) := by
  by_cases e : j.val < n
  · rw [dif_pos e]
    refine pad_apply_of_inside _ _ _ _ _ _ _ _ _ fun a => ?_
    match a with
    | ⟨0, _⟩ => show i.val = 0 + i.val * (0 + 1); omega
    | ⟨1, _⟩ => show j.val = 0 + j.val * (0 + 1); omega
  · rw [dif_neg e]
    refine (pad_apply_of_not_inside _ _ _ _ _ _ _ _ 1 fun hin => e ?_).trans ?_
    · have h2 : (j.val - 0) / (0 + 1) < n := hin.2.2
      omega
    · show (((0#32 : BitVec 32).toInt : ℝ) : EReal) = 0
      simp

/-- The rows of a point's block are rows of the array. -/
theorem x_block (c : Dev nD) (t : Fin cfg0.N) (i : Fin 688) :
    (fun j => iblk m c 0 t (ix2 i j)) = Norm.rowOf (m ((c : Thread nD τ).loc main_arg0)) (688 * t.val + i.val) := by
  have ht : t.val < 12 := lt_of_lt_of_eq t.isLt N_0
  funext j
  unfold Norm.rowOf
  rw [dif_pos (by omega)]
  blk_ext [iblk, V, block_idx t]

/-- Every point has the whole of the weights of the norm. -/
theorem g_block (c : Dev nD) (t : Fin cfg0.N) (k : Fin 2048) : iblk m c 1 t (ix2 0 k) = m ((c : Thread nD τ).loc main_arg1) (ix1 k) := by
  have e : V m c main_v2 (ix2 0 k) = m ((c : Thread nD τ).loc main_arg1) (ix1 k) := by
    rw [g_eq]; pointwise []
  refine Eq.trans ?_ e
  blk_simp [iblk, block_idx t]
  refine congrArg _ ?_
  blk_ext [block_idx t]

/-- Every point has the whole of the matrix. -/
theorem w_block (c : Dev nD) (t : Fin cfg0.N) (k : Fin 2048) (j : Fin 128) :
    iblk m c 2 t (ix2 k j) = padded (m ((c : Thread nD τ).loc main_arg2)) (ix2 k j) := by
  have e : V m c main_v1 (ix2 k j) = padded (m ((c : Thread nD τ).loc main_arg2)) (ix2 k j) := by
    rw [w_eq]; exact pad_apply' (r := 2048) (n := 16) (k := 112) _ pads_S2048x16_S2048x128_000_01120 _ k j
  refine Eq.trans ?_ e
  blk_simp [iblk, block_idx t]
  refine congrArg _ ?_
  blk_ext [block_idx t]

/-- The array the kernel leaves. -/
theorem final (c : Dev nD) : (dats m 0 c).arrAt 3 (cfgs 0).N
    = Norm.project (m ((c : Thread nD τ).loc main_arg0)) (m ((c : Thread nD τ).loc main_arg1)) (padded (m ((c : Thread nD τ).loc main_arg2))) := by
  refine (dats m 0 c).arrAt_eq_of_covers 3 _ (by decide +kernel) fun t _ (y : S688x128.Idx) => ?_
  blk_simp
  rw [after0_3]
  have ht : t.val < 12 := lt_of_lt_of_eq t.isLt N_0
  have p0 : ((win0_3.blk t).view.emb y 0).val = 688 * t.val + (y 0).val := by blk_simp [block_idx t]; omega
  have p1 : (win0_3.blk t).view.emb y 1 = y 1 := Fin.ext (by blk_simp [block_idx t])
  refine (congrArg (outsAt0 m c t) (ix2_eta y).symm).trans ((out_apply ..).trans ?_)
  refine Finset.sum_congr rfl fun k _ => congrArg₂ (· * ·) ?_ ((w_block m c t k (y 1)).trans (congrArg _ (congrArg (ix2 k) p1.symm)))
  refine congrArg₂ (Norm.normed · · k) ((x_block m c t (y 0)).trans ?_) (g_block m c t k)
  rw [show 688 * t.val + (y 0).val = _ from p0.symm]
  exact Norm.rowOf_val _ _

end Cert.Proof.Gate
-- ==== Proof.Gate.Claims.lean ====
/- The claims about the forget gates' projection. -/
module

public import proofs.«01_k».proof.Defs
public import proofs.«01_k».proof.Proof.Gate.Array
public import proofs.«01_k».proof.Proof.Gen.GateReferenceIdeal.Run
public import Idealize.ShloMosaic.Adequacy
public import Idealize.ShloMosaic.Init

@[expose] public section

set_option maxRecDepth 16384

namespace Cert.Proof.Gate

open Idealize.ShloMosaic Idealize.ShloMosaic.TcCoe Idealize.ShloMosaic.Pointwise Idealize.SL.Sem

/-- The reference ends with its arguments as they were. -/
theorem frame_reference : Cert.quiescent_GateReferenceIdeal := fun m g _ =>
  (θ_run (Cert.GateReferenceIdeal.defs (F := Ideal)) _ _).mono
    (fun r h => ⟨fun c => (h c).2, sem_eq_zero_of_no_sems (by decide) r.2⟩) (Cert.GateReferenceIdeal.Value.run (F := Ideal) m g)

/-- The kernel and the reference leave the same array. -/
theorem algebraic : Cert.algebraic_GateIdeal_GateReferenceIdeal := by
  pair_intro
  · run_from Cert.GateIdeal.Gen.run_main m g
    · exact Cert.GateIdeal.Gen.V_main_arg1 m c
    · exact Cert.GateIdeal.Gen.V_main_arg2 m c
  · run_from Cert.GateReferenceIdeal.Value.run m' g'
    refine Eq.trans ?_ (final m c).symm
    funext y
    obtain ⟨i, j, rfl⟩ : ∃ i j, y = ix2 i j := ⟨y 0, y 1, (ix2_eta y).symm⟩
    refine (pad_apply' (r := 8256) (n := 16) (k := 112) _ Cert.GateReferenceIdeal.Gen.pads_S8256x16_S8256x128_000_01120 _ i j).trans ?_
    unfold Norm.project
    by_cases h : j.val < 16
    · rw [dif_pos h]
      pointwise
      refine Finset.sum_congr rfl fun k _ => congrArg₂ (· * ·) rfl ?_
      exact (padded_of_lt _ k j h).symm
    · rw [dif_neg h]
      refine (Finset.sum_eq_zero fun k _ => ?_).symm
      exact (congrArg _ (padded_of_not_lt _ k j h)).trans (mul_zero _)

end Cert.Proof.Gate
-- ==== Proof.Cum.Math.lean ====
/- Running sums of logarithms of gates, over the extended reals. The kernel takes them block by block: within a block by
   a product with a triangle of ones, before it by a carried sum. A logarithm is split into three terms, which add up to
   it because it is never `⊤`. -/
module

public import proofs.«01_k».proof.Proof.Sb.Math

@[expose] public section

namespace Cert.Proof.Cum

open Idealize.ShloMosaic

/-- The softplus part of a gate's logarithm is a number, at the infinities too. -/
theorem log_real (z : EReal) : Sb.IsReal (Ideal.log (1 + Ideal.exp (0 - max z (-z)))) := by
  have infinite : max z (-z) = ⊤ → Sb.IsReal (Ideal.log (1 + Ideal.exp (0 - max z (-z)))) := fun h => by
    have h : (0 : EReal) - max z (-z) = ⊥ := by rw [h]; rfl
    have e : Ideal.exp ⊥ = 0 := rfl
    rw [h, e, add_zero]
    exact ⟨Real.log 1, if_neg (by norm_num : ¬ (1 : ℝ) ≤ 0)⟩
  induction z with
  | bot => exact infinite (max_eq_right le_top)
  | coe r => exact ⟨_, Sb.log_exp_real r⟩
  | top => exact infinite (max_eq_left le_top)

/-- The logarithm of a gate is a number or `⊥`. -/
theorem log_ne_top (z : EReal) : Sb.logTake z ≠ ⊤ := by
  obtain ⟨r, h⟩ := log_real z
  rw [Sb.logTake, h]
  intro e
  have : min z 0 - (r : EReal) ≤ 0 - r := EReal.sub_le_sub (min_le_right _ _) le_rfl
  rw [e, top_le_iff, ← EReal.coe_zero, ← EReal.coe_sub] at this
  exact EReal.coe_ne_top _ this

/-- The same logarithm as minus a softplus of minus the number. -/
theorem log_eq (z : EReal) : -(max (-z) 0 + Ideal.log (1 + Ideal.exp (0 - max z (-z)))) = Sb.logTake z := by
  obtain ⟨r, h⟩ := log_real z
  rw [Sb.logTake, h, EReal.neg_add (Or.inr (EReal.coe_ne_top r)) (Or.inr (EReal.coe_ne_bot r))]
  refine congrArg (· - (r : EReal)) ?_
  rcases le_total z 0 with e | e
  · rw [min_eq_left e, max_eq_left (by rw [← neg_zero]; exact EReal.neg_le_neg_iff.2 e), neg_neg]
  · rw [min_eq_right e, max_eq_right (by rw [← neg_zero]; exact EReal.neg_le_neg_iff.2 e), neg_zero]

/-- The three terms a number is split into add up to it. -/
theorem split_sum {f : EReal} (h : f ≠ ⊤) : f + (f - f) + (f - f - (f - f)) = f := by
  induction f with
  | bot => rw [add_assoc, EReal.bot_add]
  | coe r =>
    rw [← EReal.coe_sub, ← EReal.coe_sub, ← EReal.coe_add, ← EReal.coe_add]
    congr 1
    ring
  | top => exact absurd rfl h

/-- The sum of the first `n` terms. -/
noncomputable def upTo (f : ℕ → EReal) (n : ℕ) : EReal := ∑ u ∈ Finset.Ico 0 n, f u

theorem upTo_zero (f : ℕ → EReal) : upTo f 0 = 0 := rfl

/-- The triangle's products with the three terms of a block, and what is carried into the block. -/
theorem block_sum (n o : ℕ) (i : ℕ) (hi : i < n) (f : ℕ → EReal) (hf : ∀ u, f u ≠ ⊤) :
    (∑ x : Fin n, if x.val ≤ i then f (o + x) else 0) + (∑ x : Fin n, if x.val ≤ i then f (o + x) - f (o + x) else 0)
      + (∑ x : Fin n, if x.val ≤ i then f (o + x) - f (o + x) - (f (o + x) - f (o + x)) else 0) + upTo f o
      = upTo f (o + i + 1) := by
  have e := Sb.sum_block n o 0 (i + 1) (fun x => x ≤ i) (fun x _ => by omega) hi f
  rw [add_zero, ← add_assoc] at e
  rw [← Finset.sum_add_distrib, ← Finset.sum_add_distrib]
  refine Eq.trans ?_ (Finset.sum_Ico_consecutive f (Nat.zero_le o) (by omega : o ≤ o + i + 1))
  rw [← e, add_comm]
  refine congrArg₂ (· + ·) rfl (Finset.sum_congr rfl fun x _ => ?_)
  by_cases h : x.val ≤ i
  · simp only [if_pos h]; exact split_sum (hf _)
  · simp only [if_neg h, add_zero]

end Cert.Proof.Cum
-- ==== Proof.Cum.Block.lean ====
/- One block of rows: what it stores and what it carries on. -/
module

public import proofs.«01_k».proof.Proof.Gen.CumIdeal.Value
public import proofs.«01_k».proof.Proof.Fox.Block
public import proofs.«01_k».proof.Proof.Cum.Math
public import Idealize.ShloMosaic.Lib.VecWindow

@[expose] public section

set_option maxRecDepth 16384

namespace Cert.Proof.Cum

open Cert.CumIdeal Cert.CumIdeal.Gen
open Idealize.ShloMosaic Idealize.ShloMosaic.TcCoe Idealize.ShloMosaic.Pointwise Idealize.SL.Sem

variable (b s : FVec Ideal S1x128 .f32) (f : ℕ → EReal) (o : ℕ) (l : Fin 128)

/-- Row `i` of a block of 256 holds the sum up to its position. -/
theorem sums_apply (x : Vec Ideal S1x256x128 .f32) (hx : ∀ i : Fin 256, Sb.logTake (x (ix3 0 i l) + b (ix2 0 l)) = f (o + i))
    (hs : s (ix2 0 l) = upTo f o) (hf : ∀ u, f u ≠ ⊤) (i : Fin 256) : k0_pay6 (F := Ideal) b s x (ix2 i l) = upTo f (o + i + 1) := by
  pointwise [k0_pay6]
  refine Eq.trans ?_ (block_sum 256 o i i.isLt f hf)
  simp only [← hx]
  exact congrArg₂ (· + ·) (congrArg₂ (· + ·) (congrArg₂ (· + ·) (Finset.sum_congr rfl fun x _ => Fox.select_le x i (by omega) (by omega) _ _)
    (Finset.sum_congr rfl fun x _ => Fox.select_le x i (by omega) (by omega) _ _))
    (Finset.sum_congr rfl fun x _ => Fox.select_le x i (by omega) (by omega) _ _)) hs

/-- The last block has sixteen rows. -/
theorem last_apply (x : FVec Ideal S16x128 .f32) (hx : ∀ i : Fin 16, Sb.logTake (x (ix2 i l) + b (ix2 0 l)) = f (o + i))
    (hs : s (ix2 0 l) = upTo f o) (hf : ∀ u, f u ≠ ⊤) (i : Fin 16) : k0_pay1 (F := Ideal) b s x (ix3 0 i l) = upTo f (o + i + 1) := by
  pointwise [k0_pay1]
  refine Eq.trans ?_ (block_sum 16 o i i.isLt f hf)
  simp only [← hx]
  exact congrArg₂ (· + ·) (congrArg₂ (· + ·) (congrArg₂ (· + ·) (Finset.sum_congr rfl fun x _ => Fox.select_le x i (by omega) (by omega) _ _)
    (Finset.sum_congr rfl fun x _ => Fox.select_le x i (by omega) (by omega) _ _))
    (Finset.sum_congr rfl fun x _ => Fox.select_le x i (by omega) (by omega) _ _)) hs

/-- What a block carries on: its last row. -/
noncomputable def next (y : FVec Ideal S256x128 .f32) : FVec Ideal S1x128 .f32 := extractStridedSlice S1x128 ![255, 0] y slices_S256x128_o255_0_S1x128

theorem next_apply (y : FVec Ideal S256x128 .f32) (hy : ∀ i : Fin 256, y (ix2 i l) = upTo f (o + i + 1)) : next y (ix2 0 l) = upTo f (o + 256) := by
  refine Eq.trans ?_ (hy 255)
  pointwise [next]

/-- What a block stores. -/
noncomputable def kept (y : FVec Ideal S256x128 .f32) : FVec Ideal S1x256x128 .f32 := shapeCast S1x256x128 y shapeCasts_S256x128_S1x256x128

theorem kept_apply (y : FVec Ideal S256x128 .f32) (i : Fin 256) : kept y (ix3 0 i l) = y (ix2 i l) := by
  pointwise [kept]

end Cert.Proof.Cum
-- ==== Proof.Cum.Own.lean ====
/- The blocks of rows are cut into printed terms in a different way each; here every one of them is seen to be the same
   function of the bias, of what is carried into it and of its rows. -/
module

public import proofs.«01_k».proof.Proof.Cum.Block

@[expose] public section

set_option maxRecDepth 16384

namespace Cert.Proof.Cum

open Cert.CumIdeal Cert.CumIdeal.Gen
open Idealize.ShloMosaic Idealize.ShloMosaic.TcCoe

/-- What nothing has been added to. -/
noncomputable def start : FVec Ideal S1x128 .f32 := broadcast S1x128 (Scalar.ofBits .f32 0x00000000#32)

variable (b₀ : Vec Ideal S1x128 .f32) (b s : FVec Ideal S1x128 .f32) (x y : Vec Ideal S1x256x128 .f32)

theorem own0 : k0_pay3 (F := Ideal) b₀ x = k0_pay6 (k0_pay2 b₀) start x := by
  unfold k0_pay3 k0_pay6 start; rfl

theorem own2 : k0_pay12 (F := Ideal) s (k0_pay10 b x) (k0_pay11 b x) = k0_pay6 b s x := by
  unfold k0_pay12 k0_pay10 k0_pay11 k0_pay9 k0_pay6; rfl

theorem own3 : k0_pay17 (F := Ideal) s (k0_pay15 b x) k0_pay16 = k0_pay6 b s x := by
  unfold k0_pay17 k0_pay15 k0_pay16 k0_pay6; rfl

theorem own4 : k0_pay24 (F := Ideal) s k0_pay21 (k0_pay22 b x) (k0_pay23 b x) = k0_pay6 b s x := by
  unfold k0_pay24 k0_pay21 k0_pay23 k0_pay22 k0_pay20 k0_pay6; rfl

theorem own5 : k0_pay34 (F := Ideal) s k0_pay28 (k0_pay32 b x) (k0_pay33 b x) = k0_pay6 b s x := by
  unfold k0_pay34 k0_pay33 k0_pay32 k0_pay31 k0_pay30 k0_pay29 k0_pay28 k0_pay27 k0_pay6; rfl

theorem own6 : k0_pay36 (F := Ideal) b s k0_pay28 (k0_pay32 b y) (k0_pay33 b y) x = k0_pay6 b (next (k0_pay6 b s y)) x := by
  rw [← own5]; unfold k0_pay36 next k0_pay6; rfl

theorem own7 (z : FVec Ideal S256x128 .f32) : k0_pay38 (F := Ideal) b z x = k0_pay6 b (next z) x := by
  unfold k0_pay38 next k0_pay6; rfl

end Cert.Proof.Cum
-- ==== Proof.Cum.Slab.lean ====
/- One grid point: nine blocks of rows, each carrying its last row to the next. -/
module

public import proofs.«01_k».proof.Proof.Cum.Own

@[expose] public section

set_option maxRecDepth 16384

namespace Cert.Proof.Cum

open Cert.CumIdeal Cert.CumIdeal.Gen
open Idealize.ShloMosaic Idealize.ShloMosaic.TcCoe Idealize.ShloMosaic.Pointwise Idealize.SL.Sem

/-- The logarithm of the gate of row `t` in lane `l`. -/
noncomputable def gate (x : Vec Ideal S1x2064x128 .f32) (b : Vec Ideal S1x128 .f32) (l : Fin 128) (t : ℕ) : EReal :=
  if h : t < 2064 then Sb.logTake (x (ix3 0 ⟨t, h⟩ l) + b (ix2 0 l)) else 0

theorem gate_ne_top (x : Vec Ideal S1x2064x128 .f32) (b : Vec Ideal S1x128 .f32) (l : Fin 128) (t : ℕ) : gate x b l t ≠ ⊤ := by
  unfold gate
  by_cases h : t < 2064
  · rw [dif_pos h]; exact log_ne_top _
  · rw [dif_neg h]; exact EReal.zero_ne_top

/-- A load of `n` rows from row `o` on. -/
theorem rows_ld {n : ℕ} (x : Vec Ideal S1x2064x128 .f32) (b : Vec Ideal S1x128 .f32) (l : Fin 128) (o : ℕ)
    (inb : ∀ a, (![0, o, 0] : Fin 3 → ℕ) a + (![1, n, 128] : Fin 3 → ℕ) a ≤ S1x2064x128.size a) (i : Fin n) :
    Sb.logTake (View.ld (Val := Elt Ideal) (e' := .f32) x (Rect.unit (s := S1x2064x128) ![0, o, 0] ![1, n, 128] inb) (ix3 0 i l) + b (ix2 0 l))
      = gate x b l (o + i) := by
  have hn : o + n ≤ 2064 := inb 1
  rw [gate, dif_pos (by omega)]
  refine congrArg (fun z => Sb.logTake (z + b (ix2 0 l))) (View.ld_unit_apply_of _ _ _ _ _ _ fun a => ?_)
  match a with
  | ⟨0, _⟩ => rfl
  | ⟨1, _⟩ => rfl
  | ⟨2, _⟩ => exact (Nat.zero_add _).symm

theorem bias_apply (b : Vec Ideal S1x128 .f32) (l : Fin 128) : k0_pay2 (F := Ideal) b (ix2 0 l) = b (ix2 0 l) := by
  pointwise [k0_pay2]

section

variable (c : Dev nD) (i : grid0.Coords) (arg1 : Memref sig .tc .vmem S1x2064x128 .f32) (harg1 : arg1.IsWhole)
  (arg2 : Memref sig .tc .vmem S1x128 .f32) (harg2 : arg2.IsWhole) (arg3 : Memref sig .tc .vmem S1x2064x128 .f32) (harg3 : arg3.IsWhole)
  (x : Vec Ideal S1x2064x128 .f32) (b : Vec Ideal S1x128 .f32)

/-- The block at `o` of the slab, once its rows hold their sums. -/
theorem sum_at {n : ℕ} (o : ℕ) (inb : ∀ a, (![0, o, 0] : Fin 3 → ℕ) a + (![1, n, 128] : Fin 3 → ℕ) a ≤ S1x2064x128.size a)
    (w : (⟨3, ![1, n, 128]⟩ : Shape).Idx → EReal) (hw : ∀ (l : Fin 128) (i : Fin n), w (ix3 0 i l) = upTo (gate x b l) (o + i + 1))
    (y : (Rect.unit (s := S1x2064x128) ![0, o, 0] ![1, n, 128] inb).shape.Idx) :
    w y = upTo (gate x b ((Rect.unit (s := S1x2064x128) ![0, o, 0] ![1, n, 128] inb).emb y 2))
      (((Rect.unit (s := S1x2064x128) ![0, o, 0] ![1, n, 128] inb).emb y 1).val + 1) := by
  have e₁ : ((Rect.unit (s := S1x2064x128) ![0, o, 0] ![1, n, 128] inb).emb y 1).val = o + (y 1).val := Rect.idx_unit_val _ _ _ _ _
  have e₂ : (Rect.unit (s := S1x2064x128) ![0, o, 0] ![1, n, 128] inb).emb y 2 = y 2 := Fin.ext ((Rect.idx_unit_val _ _ _ _ _).trans (Nat.zero_add _))
  rw [e₁, e₂]
  refine Eq.trans (congrArg w ?_) (hw (y 2) (y 1))
  funext a
  match a with
  | ⟨0, _⟩ => exact Subsingleton.elim (α := Fin 1) _ _
  | ⟨1, _⟩ => rfl
  | ⟨2, _⟩ => rfl

/-- The rows of a block hold the sums up to their positions, counted from `o`. -/
def Sums (o : ℕ) (y : FVec Ideal S256x128 .f32) : Prop := ∀ (l : Fin 128) (i : Fin 256), y (ix2 i l) = upTo (gate x b l) (o + i + 1)

/-- What is carried is the sum of the first `o` rows. -/
def Carried (o : ℕ) (s : FVec Ideal S1x128 .f32) : Prop := ∀ l : Fin 128, s (ix2 0 l) = upTo (gate x b l) o

variable {x b}

theorem carried_start : Carried x b 0 start := fun l => by
  rw [upTo_zero]; pointwise [start]

/-- One block more. -/
theorem sums_of {o : ℕ} {s : FVec Ideal S1x128 .f32} {y : FVec Ideal S256x128 .f32}
    (inb : ∀ a, (![0, o, 0] : Fin 3 → ℕ) a + (![1, 256, 128] : Fin 3 → ℕ) a ≤ S1x2064x128.size a)
    (h : y = k0_pay6 (k0_pay2 b) s (View.ld (Val := Elt Ideal) (e' := .f32) x (Rect.unit (s := S1x2064x128) ![0, o, 0] ![1, 256, 128] inb)))
    (hs : Carried x b o s) : Sums x b o y := fun l i => by
  rw [h]
  exact sums_apply (k0_pay2 b) s (gate x b l) o l _ (fun i => (congrArg (fun z => Sb.logTake (_ + z)) (bias_apply b l)).trans (rows_ld x b l o inb i))
    (hs l) (gate_ne_top x b l) i

theorem Sums.next {o : ℕ} {y : FVec Ideal S256x128 .f32} (h : Sums x b o y) : Carried x b (o + 256) (next y) :=
  fun l => next_apply (gate x b l) o l y (h l)

theorem Sums.kept {o : ℕ} {y : FVec Ideal S256x128 .f32} (h : Sums x b o y) (l : Fin 128) (i : Fin 256) :
    kept y (ix3 0 i l) = upTo (gate x b l) (o + i + 1) := (kept_apply l y i).trans (h l i)

variable (x b)

/-- What a point writes: the running sums of its rows. -/
theorem out_sums (y : S1x2064x128.Idx) :
    out0_A_2 (F := Ideal) c i arg1 harg1 arg2 harg2 arg3 harg3 x b y = upTo (gate x b (y 2)) ((y 1).val + 1) := by
  frame_out
  refine View.canon_apply_of_pieces (Val := Elt Ideal) (e := .f32) (G := fun y : S1x2064x128.Idx => upTo (gate x b (y 2)) ((y 1).val + 1)) _ (fun p hp => ?_) y (View.cover_of_tiledBy _ ![1, 16, 128] (by sl_kernel_rfl) y)
  simp only [List.mem_cons, List.not_mem_nil, or_false] at hp
  have y0 := sums_of inb_S1x2064x128_S1x256x128_0_0_0 (own0 b _) (carried_start (x := x) (b := b))
  have y1 := sums_of inb_S1x2064x128_S1x256x128_0_256_0 rfl y0.next
  have y2 := sums_of inb_S1x2064x128_S1x256x128_0_512_0 (own2 (k0_pay2 b) _ _) y1.next
  have y3 := sums_of inb_S1x2064x128_S1x256x128_0_768_0 (own3 (k0_pay2 b) _ _) y2.next
  have y4 := sums_of inb_S1x2064x128_S1x256x128_0_1024_0 (own4 (k0_pay2 b) _ _) y3.next
  have y5 := sums_of inb_S1x2064x128_S1x256x128_0_1280_0 (own5 (k0_pay2 b) _ _) y4.next
  have y6 := sums_of inb_S1x2064x128_S1x256x128_0_1536_0 ((own6 (k0_pay2 b) _ _ _).trans (congrArg (fun z => k0_pay6 _ (next z) _) (own5 (k0_pay2 b) _ _).symm)) y5.next
  have y7 := sums_of inb_S1x2064x128_S1x256x128_0_1792_0 (own7 (k0_pay2 b) _ _) y6.next
  rcases hp with rfl | rfl | rfl | rfl | rfl | rfl | rfl | rfl | rfl
  · refine sum_at x b 2048 inb_S1x2064x128_S1x16x128_0_2048_0 _ fun l i => ?_
    refine last_apply (k0_pay2 b) _ (gate x b l) 2048 l _ (fun i => Eq.trans ?_ (rows_ld x b l 2048 inb_S1x2064x128_S1x16x128_0_2048_0 i))
      (y7.next l) (gate_ne_top x b l) i
    refine congrArg Sb.logTake (congrArg₂ (· + ·) ?_ (bias_apply b l))
    pointwise [k0_pay41]
  · exact sum_at x b 1792 inb_S1x2064x128_S1x256x128_0_1792_0 _ y7.kept
  · exact sum_at x b 1536 inb_S1x2064x128_S1x256x128_0_1536_0 _ y6.kept
  · exact sum_at x b 1280 inb_S1x2064x128_S1x256x128_0_1280_0 _ y5.kept
  · exact sum_at x b 1024 inb_S1x2064x128_S1x256x128_0_1024_0 _ y4.kept
  · exact sum_at x b 768 inb_S1x2064x128_S1x256x128_0_768_0 _ y3.kept
  · exact sum_at x b 512 inb_S1x2064x128_S1x256x128_0_512_0 _ y2.kept
  · exact sum_at x b 256 inb_S1x2064x128_S1x256x128_0_256_0 _ y1.kept
  · exact sum_at x b 0 inb_S1x2064x128_S1x256x128_0_0_0 _ y0.kept

end

end Cert.Proof.Cum
-- ==== Proof.Cum.Array.lean ====
/- The running sums, from all grid points together: a point has the rows of one batch element. -/
module

public import proofs.«01_k».proof.Proof.Cum.Slab
public import Idealize.ShloMosaic.Lib.Pipeline.ValueKit
public import Idealize.ShloMosaic.Lib.KernelVsHost

@[expose] public section

set_option maxRecDepth 16384

namespace Cert.Proof.Cum

open Cert.CumIdeal Cert.CumIdeal.Gen
open Idealize.ShloMosaic Idealize.ShloMosaic.TcCoe Idealize.ShloMosaic.Pointwise Idealize.SL.Sem

/-- The bias of a lane: the lanes after the heads have none. -/
noncomputable def bias (b : Vec Ideal S16 .f32) (l : Fin 128) : EReal := if h : l.val < 16 then b (ix1 ⟨l.val, h⟩) else 0

/-- The logarithm of the gate of row `t` of batch element `a` in lane `l`. -/
noncomputable def gateOf (x : Vec Ideal S8256x128 .f32) (b : Vec Ideal S16 .f32) (a : Fin 4) (l : Fin 128) (t : ℕ) : EReal :=
  if h : t < 2064 then Sb.logTake (x (ix2 ⟨2064 * a.val + t, by omega⟩ l) + bias b l) else 0

/-- The whole result. -/
noncomputable def sums (x : Vec Ideal S8256x128 .f32) (b : Vec Ideal S16 .f32) : Vec Ideal S4x2064x128 .f32 := fun y =>
  upTo (gateOf x b (y 0) (y 2)) ((y 1).val + 1)

/-- Lanes of zeros after the heads' own. -/
theorem pad_bias {n k p : ℕ} (x : (⟨1, ![n]⟩ : Shape).Idx → EReal) (h : (⟨1, ![n]⟩ : Shape).Pads ![0] ![k] ![0] ⟨1, ![p]⟩)
    (hu : 0 < (⟨0, ![]⟩ : Shape).numel) (j : Fin p) :
    pad (⟨1, ![p]⟩ : Shape) ![0] ![k] ![0] x (sitofp (F := Ideal) .f32 (constantI ⟨0, ![]⟩ 32 0#32)) h hu (ix1 j)
      = if e : j.val < n then x (ix1 ⟨j.val, e⟩) else (0 : EReal) := by
  by_cases e : j.val < n
  · rw [dif_pos e]
    refine pad_apply_of_inside _ _ _ _ _ _ _ _ _ fun a => ?_
    match a with
    | ⟨0, _⟩ => show j.val = 0 + j.val * (0 + 1); omega
  · rw [dif_neg e]
    refine (pad_apply_of_not_inside _ _ _ _ _ _ _ _ 0 fun hin => e ?_).trans ?_
    · have h2 : (j.val - 0) / (0 + 1) < n := hin.2.2
      omega
    · show (((0#32 : BitVec 32).toInt : ℝ) : EReal) = 0
      simp

/-- The rows by batch elements. -/
theorem rows_apply (x : FVec Ideal S8256x128 .f32) (a : Fin 4) (t : Fin 2064) (l : Fin 128) :
    shapeCast S4x2064x128 x shapeCasts_S8256x128_S4x2064x128 (ix3 a t l) = x (ix2 ⟨2064 * a.val + t.val, by omega⟩ l) := by
  pointwise []
  exact congrArg x (congrArg (ix2 · l) (Fin.ext (by simp only []; omega)))

/-- The bias as a line. -/
theorem line_apply (b : FVec Ideal S128 .f32) (l : Fin 128) : shapeCast S1x128 b shapeCasts_S128_S1x128 (ix2 0 l) = b (ix1 l) := by
  pointwise []

variable (m : (ℓ : Loc nD τ sig) → Buf (Elt Ideal) ℓ)

/-- The blocks of the point `t`. -/
theorem block_idx : ∀ t : Fin cfg0.N, win0_0.index t = ![t.val, 0, 0] ∧ win0_1.index t = ![0, 0] ∧ win0_2.index t = ![t.val, 0, 0] :=
  (by decide +kernel : ∀ t : Fin grid0.N, _)

/-- The bias as the launch finds it. -/
theorem b_eq (c : Dev nD) : V m c main_v1 = shapeCast S1x128 (pad S128 ![0] ![112] ![0] (m ((c : Thread nD τ).loc main_arg1))
    (sitofp (F := Ideal) .f32 (constantI S_ 32 0#32)) pads_S16_S128_01120 h_S_) shapeCasts_S128_S1x128 := by
  unfold V
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

/-- The rows as the launch finds them. -/
theorem x_eq (c : Dev nD) : V m c main_v2 = shapeCast S4x2064x128 (m ((c : Thread nD τ).loc main_arg0)) shapeCasts_S8256x128_S4x2064x128 := by
  unfold V
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

/-- The rows of a point's block are the rows of its batch element. -/
theorem x_block (c : Dev nD) (t : Fin cfg0.N) (a : Fin 4) (ha : a.val = t.val) (i : Fin 2064) (l : Fin 128) :
    iblk m c 0 t (ix3 0 i l) = m ((c : Thread nD τ).loc main_arg0) (ix2 ⟨2064 * a.val + i.val, by omega⟩ l) := by
  have e : V m c main_v2 (ix3 a i l) = m ((c : Thread nD τ).loc main_arg0) (ix2 ⟨2064 * a.val + i.val, by omega⟩ l) := by
    rw [x_eq]; exact rows_apply _ a i l
  refine Eq.trans ?_ e
  blk_simp [iblk, block_idx t]
  refine congrArg _ ?_
  blk_ext [block_idx t]

/-- Every point has the whole of the bias. -/
theorem b_block (c : Dev nD) (t : Fin cfg0.N) (l : Fin 128) : iblk m c 1 t (ix2 0 l) = bias (m ((c : Thread nD τ).loc main_arg1)) l := by
  have e : V m c main_v1 (ix2 0 l) = bias (m ((c : Thread nD τ).loc main_arg1)) l := by
    rw [b_eq]
    exact (line_apply _ l).trans (pad_bias (n := 16) (k := 112) _ pads_S16_S128_01120 h_S_ l)
  refine Eq.trans ?_ e
  blk_simp [iblk, block_idx t]
  refine congrArg _ ?_
  blk_ext [block_idx t]

/-- The gates of a point. -/
theorem gate_block (c : Dev nD) (t : Fin cfg0.N) (a : Fin 4) (ha : a.val = t.val) (l : Fin 128) :
    gate (iblk m c 0 t) (iblk m c 1 t) l = gateOf (m ((c : Thread nD τ).loc main_arg0)) (m ((c : Thread nD τ).loc main_arg1)) a l := by
  funext i
  unfold gate gateOf
  by_cases h : i < 2064
  · rw [dif_pos h, dif_pos h]
    exact congrArg Sb.logTake (congrArg₂ (· + ·) (x_block m c t a ha ⟨i, h⟩ l) (b_block m c t l))
  · rw [dif_neg h, dif_neg h]

/-- The array the kernel leaves. -/
theorem final (c : Dev nD) : (dats m 0 c).arrAt 2 (cfgs 0).N
    = sums (m ((c : Thread nD τ).loc main_arg0)) (m ((c : Thread nD τ).loc main_arg1)) := by
  refine (dats m 0 c).arrAt_eq_of_covers 2 _ (by decide +kernel) fun t _ (y : S1x2064x128.Idx) => ?_
  blk_simp
  rw [after0_2]
  have p0 : ((win0_2.blk t).view.emb y 0).val = t.val := by
    have e0 : (y 0).val < 1 := (y 0).isLt
    blk_simp [block_idx t]
  have p1 : ((win0_2.blk t).view.emb y 1).val = (y 1).val := by blk_simp [block_idx t]
  have p2 : (win0_2.blk t).view.emb y 2 = y 2 := Fin.ext (by blk_simp [block_idx t])
  refine (out_sums ..).trans ?_
  exact congrArg₂ upTo ((gate_block m c t _ p0 (y 2)).trans (congrArg _ p2.symm)) (congrArg (· + 1) p1.symm)

end Cert.Proof.Cum
-- ==== Proof.Cum.Reference.lean ====
/- The reference, element by element: a window over all rows up to one gives the running sum. -/
module

public import proofs.«01_k».proof.Proof.Gen.CumReferenceIdeal.Run
public import proofs.«01_k».proof.Proof.Cum.Array
public import proofs.«01_k».proof.Proof.Sb.Reference

@[expose] public section

set_option maxRecDepth 16384

namespace Cert.Proof.Cum

open Cert.CumReferenceIdeal Cert.CumReferenceIdeal.Gen
open Idealize.ShloMosaic Idealize.ShloMosaic.TcCoe Idealize.ShloMosaic.Pointwise

abbrev Rows : Type := FVec Ideal S4x2064x128 .f32

noncomputable abbrev zeros : Rows := broadcastInDim S4x2064x128 ![] bcast_S_S4x2064x128 (constant S_ .f32 0x00000000#32)

noncomputable def logSigmoid (x : Rows) : Rows :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

noncomputable def upToHere (x : Rows) : Rows :=
  Host.reduceWindowAdd ![1, 2064, 1] ![1, 1, 1] ![0, 2063, 0] ![0, 0, 0] x (broadcastInDim S_ ![] bcast_S_S_ (constant S_ .f32 0x00000000#32))
    reduceWindows_S4x2064x128_S4x2064x128_w1s1p0_0_w2064s1p2063_0_w1s1p0_0 h_S_

noncomputable def biased (x : Vec Ideal S8256x128 .f32) (b : Vec Ideal S16 .f32) : Rows :=
  addf (shapeCast _ x shapeCasts_S8256x128_S4x2064x128) (broadcastInDim S4x2064x128 ![0, 1, 2] bcast_S1x1x128_S4x2064x128_0_1_2
    (broadcastInDim S1x1x128 ![2] bcast_S128_S1x1x128_2 (pad S128 ![0] ![112] ![0] b (sitofp .f32 (constantI S_ 32 0#32)) pads_S16_S128_01120 h_S_)))

/-- A line repeated over all rows. -/
theorem spread_apply (b : FVec Ideal S128 .f32) (a : Fin 4) (t : Fin 2064) (l : Fin 128) :
    broadcastInDim S4x2064x128 ![0, 1, 2] bcast_S1x1x128_S4x2064x128_0_1_2 (broadcastInDim S1x1x128 ![2] bcast_S128_S1x1x128_2 b) (ix3 a t l) = b (ix1 l) := by
  pointwise []

theorem biased_apply (x : Vec Ideal S8256x128 .f32) (b : Vec Ideal S16 .f32) (a : Fin 4) (t : Fin 2064) (l : Fin 128) :
    biased x b (ix3 a t l) = x (ix2 ⟨2064 * a.val + t.val, by omega⟩ l) + bias b l := by
  refine congrArg₂ (· + ·) (rows_apply x a t l) (Eq.trans ?_ (pad_bias (n := 16) (k := 112) b pads_S16_S128_01120 h_S_ l))
  exact spread_apply _ a t l

theorem logSigmoid_apply (x : Rows) (i : S4x2064x128.Idx) : logSigmoid x i = Sb.logTake (x i) := by
  pointwise [logSigmoid]
  rw [if_neg (fun h => h rfl), ← log_eq, max_comm (x i), zero_sub]
  refine congrArg (fun z => -(max (-x i) 0 + Ideal.log (1 + Ideal.exp (-z)))) ?_
  show max (-x i) (- -x i) = _
  rw [neg_neg]

theorem upToHere_apply (x : Rows) (a : Fin 4) (t : Fin 2064) (l : Fin 128) (f : ℕ → EReal) (hf : ∀ u : Fin 2064, x (ix3 a u l) = f u) :
    upToHere x (ix3 a t l) = upTo f (t.val + 1) := by
  have z : (broadcastInDim S_ ![] bcast_S_S_ (constant (F := Ideal) S_ .f32 0x00000000#32)) (Shape.Idx.first h_S_) = (0 : EReal) := by
    pointwise []
  have ht := t.isLt
  have s := Sb.sum_block 2064 0 (2063 - t.val) 2064 (fun w => 2063 ≤ t.val + w) (fun w _ => by omega) le_rfl fun u => f (t.val + u - 2063)
  simp only [zero_add] at s
  rw [Finset.sum_Ico_eq_sum_range, show 2064 - (2063 - t.val) = t.val + 1 by omega] at s
  have s' : ∑ w : Fin 2064, (if 2063 ≤ t.val + w.val then f (t.val + w.val - 2063) else 0) = upTo f (t.val + 1) := by
    rw [s, upTo, ← Finset.range_eq_Ico]
    exact Finset.sum_congr rfl fun u _ => congrArg f (by omega)
  refine Eq.trans ?_ s'
  unfold upToHere Host.reduceWindowAdd
  rw [Ideal.hostReduceWindowAdd_def, z]
  unfold Ideal.hostReduceWindowAdd Host.reduceWindow
  simp only []
  rw [Sb.foldl_add (ι := Fin _) _ _ (0 : EReal), zero_add, ← List.ofFn_eq_map, List.sum_ofFn]
  let e : Fin 2064 ≃ Fin (⟨3, ![1, 2064, 1]⟩ : Shape).numel :=
    (⟨fun w => ix3 0 w 0, fun k => k 1, fun _ => rfl, fun k => by
      funext a
      match a with
      | ⟨0, _⟩ => exact Subsingleton.elim (α := Fin 1) _ _
      | ⟨1, _⟩ => rfl
      | ⟨2, _⟩ => exact Subsingleton.elim (α := Fin 1) _ _⟩ : Fin 2064 ≃ (⟨3, ![1, 2064, 1]⟩ : Shape).Idx).trans (⟨3, ![1, 2064, 1]⟩ : Shape).rowMajor
  refine (e.sum_comp _).symm.trans (Finset.sum_congr rfl fun w _ => ?_)
  have hw : (⟨3, ![1, 2064, 1]⟩ : Shape).rowMajor.symm (e w) = ix3 0 w 0 := Equiv.symm_apply_apply _ _
  simp only [hw]
  have hw2 := w.isLt
  by_cases h : 2063 ≤ t.val + w.val
  · rw [if_pos h, dif_pos]
    swap
    · intro k
      match k with
      | ⟨0, _⟩ => exact ⟨Nat.zero_le _, show a.val * 1 + 0 - 0 < 4 by omega⟩
      | ⟨1, _⟩ => exact ⟨show 2063 ≤ t.val * 1 + w.val by omega, show t.val * 1 + w.val - 2063 < 2064 by omega⟩
      | ⟨2, _⟩ => exact ⟨Nat.zero_le _, show l.val * 1 + 0 - 0 < 128 by omega⟩
    refine Eq.trans (congrArg x ?_) (hf ⟨t.val + w.val - 2063, by omega⟩)
    funext k
    match k with
    | ⟨0, _⟩ => exact Fin.ext (show a.val * 1 + 0 - 0 = a.val by omega)
    | ⟨1, _⟩ => exact Fin.ext (show t.val * 1 + w.val - 2063 = t.val + w.val - 2063 by omega)
    | ⟨2, _⟩ => exact Fin.ext (show l.val * 1 + 0 - 0 = l.val by omega)
  · rw [if_neg h, dif_neg]
    intro h1
    exact h (by have e : 2063 ≤ t.val * 1 + w.val := (h1 1).1; omega)

theorem reference_eq (x : Vec Ideal S8256x128 .f32) (b : Vec Ideal S16 .f32) : upToHere (logSigmoid (biased x b)) = sums x b := by
  funext y
  obtain ⟨a, t, l, rfl⟩ : ∃ a t l, y = ix3 a t l := ⟨y 0, y 1, y 2, (ix3_eta y).symm⟩
  refine upToHere_apply _ a t l (gateOf x b a l) fun u => ?_
  rw [logSigmoid_apply, biased_apply, gateOf, dif_pos u.isLt]

end Cert.Proof.Cum
-- ==== Proof.Cum.Claims.lean ====
/- The claims about the running sums of the gates' logarithms. -/
module

public import proofs.«01_k».proof.Defs
public import proofs.«01_k».proof.Proof.Cum.Array
public import proofs.«01_k».proof.Proof.Cum.Reference
public import Idealize.ShloMosaic.Adequacy
public import Idealize.ShloMosaic.Init

@[expose] public section

set_option maxRecDepth 16384

namespace Cert.Proof.Cum

open Idealize.ShloMosaic Idealize.ShloMosaic.TcCoe Idealize.SL.Sem

/-- The reference ends with its arguments as they were. -/
theorem frame_reference : Cert.quiescent_CumReferenceIdeal := fun m g _ =>
  (θ_run (Cert.CumReferenceIdeal.defs (F := Ideal)) _ _).mono
    (fun r h => ⟨fun c => (h c).2, sem_eq_zero_of_no_sems (by decide) r.2⟩) (Cert.CumReferenceIdeal.Value.run (F := Ideal) m g)

/-- The kernel and the reference leave the same array. -/
theorem algebraic : Cert.algebraic_CumIdeal_CumReferenceIdeal := by
  pair_intro
  · run_from Cert.CumIdeal.Gen.run_main m g
    · exact Cert.CumIdeal.Gen.V_main_arg0 m c
    · exact Cert.CumIdeal.Gen.V_main_arg1 m c
  · refine (θ_run (Cert.CumReferenceIdeal.defs (F := Ideal)) _ _).mono (fun r h c => ?_) (Cert.CumReferenceIdeal.Value.run (F := Ideal) m' g')
    obtain ⟨hr, h0, h1⟩ := h c
    obtain ⟨e0, e1⟩ := hagree c
    refine ⟨hr.trans ((reference_eq (m' ((c.tc : Thread Cert.CumReferenceIdeal.nD Cert.CumReferenceIdeal.τ).loc Cert.CumReferenceIdeal.main_arg0))
      (m' ((c.tc : Thread Cert.CumReferenceIdeal.nD Cert.CumReferenceIdeal.τ).loc Cert.CumReferenceIdeal.main_arg1))).trans ?_), h0, h1⟩
    rw [e0, e1]
    exact (final m c).symm

end Cert.Proof.Cum
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Mlp.Frame
public import proofs.«01_k».proof.Proof.Gen.MlpIdeal.Value
public import proofs.«01_k».proof.Proof.Gen.MlpReferenceIdeal.Run
public import proofs.«01_k».proof.Proof.Gen.Last.Frame
public import proofs.«01_k».proof.Proof.Gen.LastIdeal.Value
public import proofs.«01_k».proof.Proof.Gen.LastReferenceIdeal.Run
public import proofs.«01_k».proof.Proof.Gen.Qkv.Frame
public import proofs.«01_k».proof.Proof.Gen.QkvIdeal.Value
public import proofs.«01_k».proof.Proof.Gen.QkvReferenceIdeal.Run
public import proofs.«01_k».proof.Proof.Gen.Kv.Frame
public import proofs.«01_k».proof.Proof.Gen.KvIdeal.Value
public import proofs.«01_k».proof.Proof.Gen.KvReferenceIdeal.Run
public import proofs.«01_k».proof.Proof.Gen.Q.Frame
public import proofs.«01_k».proof.Proof.Gen.QIdeal.Value
public import proofs.«01_k».proof.Proof.Gen.QReferenceIdeal.Run
public import proofs.«01_k».proof.Proof.Gen.Out.Frame
public import proofs.«01_k».proof.Proof.Gen.OutIdeal.Value
public import proofs.«01_k».proof.Proof.Gen.OutReferenceIdeal.Run
public import proofs.«01_k».proof.Proof.Gen.Fox.Frame
public import proofs.«01_k».proof.Proof.Gen.FoxIdeal.Value
public import proofs.«01_k».proof.Proof.Gen.FoxReferenceIdeal.Run
public import proofs.«01_k».proof.Proof.Gen.Gate.Frame
public import proofs.«01_k».proof.Proof.Gen.GateIdeal.Value
public import proofs.«01_k».proof.Proof.Gen.GateReferenceIdeal.Run
public import proofs.«01_k».proof.Proof.Gen.Cum.Frame
public import proofs.«01_k».proof.Proof.Gen.CumIdeal.Value
public import proofs.«01_k».proof.Proof.Gen.CumReferenceIdeal.Run
public import proofs.«01_k».proof.Proof.Sb.Claims
public import proofs.«01_k».proof.Proof.Mlp.Claims
public import proofs.«01_k».proof.Proof.Last.Claims
public import proofs.«01_k».proof.Proof.Qkv.Claims
public import proofs.«01_k».proof.Proof.Kv.Claims
public import proofs.«01_k».proof.Proof.Q.Claims
public import proofs.«01_k».proof.Proof.Out.Claims
public import proofs.«01_k».proof.Proof.Fox.Claims
public import proofs.«01_k».proof.Proof.Gate.Claims
public import proofs.«01_k».proof.Proof.Cum.Claims
public import Idealize.ShloMosaic.Adequacy
public import Idealize.ShloMosaic.Init

@[expose] public section

noncomputable section

namespace Cert.Proof

open Idealize.ShloMosaic Idealize.SL.Sem Cert.Kernel

/-- Every claim about every call. -/
theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Last.Gen.facts, Cert.LastIdeal.Gen.facts, Cert.LastReferenceIdeal.Gen.facts,
    Cert.Qkv.Gen.facts, Cert.QkvIdeal.Gen.facts, Cert.QkvReferenceIdeal.Gen.facts,
    Cert.Kv.Gen.facts, Cert.KvIdeal.Gen.facts, Cert.KvReferenceIdeal.Gen.facts,
    Cert.Q.Gen.facts, Cert.QIdeal.Gen.facts, Cert.QReferenceIdeal.Gen.facts,
    Cert.Out.Gen.facts, Cert.OutIdeal.Gen.facts, Cert.OutReferenceIdeal.Gen.facts,
    Cert.Fox.Gen.facts, Cert.FoxIdeal.Gen.facts, Cert.FoxReferenceIdeal.Gen.facts,
    Cert.Gate.Gen.facts, Cert.GateIdeal.Gen.facts, Cert.GateReferenceIdeal.Gen.facts,
    Cert.Cum.Gen.facts, Cert.CumIdeal.Gen.facts, Cert.CumReferenceIdeal.Gen.facts,
    Sb.facts, Fox.facts,
    fun m ρ _ => Cert.Kernel.Gen.frame m ρ,
    fun m ρ _ => Cert.KernelIdeal.Gen.frame m ρ,
    fun m ρ _ => Cert.KernelIdeal.Gen.frame m ρ,
    Sb.frame_reference,
    fun m ρ _ => Sb.frame_reference m ρ trivial,
    fun m ρ _ => Cert.Mlp.Gen.frame m ρ,
    fun m ρ _ => Cert.MlpIdeal.Gen.frame m ρ,
    Mlp.frame_reference,
    fun m ρ _ => Cert.Last.Gen.frame m ρ,
    fun m ρ _ => Cert.LastIdeal.Gen.frame m ρ,
    Last.frame_reference,
    fun m ρ _ => Cert.Qkv.Gen.frame m ρ,
    fun m ρ _ => Cert.QkvIdeal.Gen.frame m ρ,
    Qkv.frame_reference,
    fun m ρ _ => Cert.Kv.Gen.frame m ρ,
    fun m ρ _ => Cert.KvIdeal.Gen.frame m ρ,
    Kv.frame_reference,
    fun m ρ _ => Cert.Q.Gen.frame m ρ,
    fun m ρ _ => Cert.QIdeal.Gen.frame m ρ,
    Q.frame_reference,
    fun m ρ _ => Cert.Out.Gen.frame m ρ,
    fun m ρ _ => Cert.OutIdeal.Gen.frame m ρ,
    Out.frame_reference,
    fun m ρ _ => Cert.Fox.Gen.frame m ρ,
    fun m ρ _ => Cert.FoxIdeal.Gen.frame m ρ,
    fun m ρ _ => Cert.FoxIdeal.Gen.frame m ρ,
    Fox.frame_reference,
    fun m ρ _ => Fox.frame_reference m ρ trivial,
    fun m ρ _ => Cert.Gate.Gen.frame m ρ,
    fun m ρ _ => Cert.GateIdeal.Gen.frame m ρ,
    Gate.frame_reference,
    fun m ρ _ => Cert.Cum.Gen.frame m ρ,
    fun m ρ _ => Cert.CumIdeal.Gen.frame m ρ,
    Cum.frame_reference,
    trivial, Sb.algebraic,
    trivial, Mlp.algebraic,
    trivial, Last.algebraic,
    trivial, Qkv.algebraic,
    trivial, Kv.algebraic,
    trivial, Q.algebraic,
    trivial, Out.algebraic,
    Fox.preserves, Fox.algebraic,
    trivial, Gate.algebraic,
    trivial, Cum.algebraic⟩

end Cert.Proof

end
